-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S32 : Shape := ⟨1, ![32]⟩
abbrev S_ : Shape := ⟨0, ![]⟩
abbrev S32x1 : Shape := ⟨2, ![32, 1]⟩
abbrev S1 : Shape := ⟨1, ![1]⟩
abbrev S2 : Shape := ⟨1, ![2]⟩
abbrev S4x4x128x512 : Shape := ⟨4, ![4, 4, 128, 512]⟩
abbrev S32x128x2048 : Shape := ⟨3, ![32, 128, 2048]⟩
abbrev S4x4 : Shape := ⟨2, ![4, 4]⟩
abbrev S128x128 : Shape := ⟨2, ![128, 128]⟩
abbrev S1x128x2048 : Shape := ⟨3, ![1, 128, 2048]⟩
abbrev S1x128x512 : Shape := ⟨3, ![1, 128, 512]⟩
abbrev S128x512 : Shape := ⟨2, ![128, 512]⟩
abbrev S1x1x128x512 : Shape := ⟨4, ![1, 1, 128, 512]⟩
abbrev S1x1 : Shape := ⟨2, ![1, 1]⟩

abbrev nBuf : Space → Nat
  | .hbm => 155
  | .vmem => 5
  | .smem => 3
  | _ => 0

abbrev hbmTy0_0 (i : Nat) : BufTy := match i % 128 with
  | 0 => ⟨S4096x128, .f32⟩
  | 1 => ⟨S128x2048, .f32⟩
  | 2 => ⟨S32, .i32⟩
  | 3 => ⟨S_, .i32⟩
  | 4 => ⟨S32, .i32⟩
  | 5 => ⟨S32, .i32⟩
  | 6 => ⟨S_, .i32⟩
  | 7 => ⟨S32, .i32⟩
  | 8 => ⟨S32, .i1⟩
  | 9 => ⟨S_, .i32⟩
  | 10 => ⟨S32, .i32⟩
  | 11 => ⟨S32, .i32⟩
  | 12 => ⟨S32, .i32⟩
  | 13 => ⟨S32x1, .i32⟩
  | 14 => ⟨S32, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1, .i32⟩
  | 27 => ⟨S_, .i32⟩
  | 28 => ⟨S32, .i32⟩
  | 29 => ⟨S_, .i32⟩
  | 30 => ⟨S_, .i32⟩
  | 31 => ⟨S32, .i32⟩
  | 32 => ⟨S32, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32, .i32⟩
  | 40 => ⟨S32, .i32⟩
  | 41 => ⟨S_, .i32⟩
  | 42 => ⟨S32, .i32⟩
  | 43 => ⟨S32, .i1⟩
  | 44 => ⟨S_, .i32⟩
  | 45 => ⟨S32, .i32⟩
  | 46 => ⟨S32, .i1⟩
  | 47 => ⟨S_, .i32⟩
  | 48 => ⟨S_, .i1⟩
  | 49 => ⟨S32, .i1⟩
  | 50 => ⟨S32, .i1⟩
  | 51 => ⟨S32, .i1⟩
  | 52 => ⟨S32, .i32⟩
  | 53 => ⟨S32, .i32⟩
  | 54 => ⟨S32, .i32⟩
  | 55 => ⟨S_, .i32⟩
  | 56 => ⟨S32, .i32⟩
  | 57 => ⟨S32, .i1⟩
  | 58 => ⟨S_, .i32⟩
  | 59 => ⟨S32, .i32⟩
  | 60 => ⟨S32, .i32⟩
  | 61 => ⟨S32, .i32⟩
  | 62 => ⟨S32x1, .i32⟩
  | 63 => ⟨S32, .i32⟩
  | 64 => ⟨S_, .i32⟩
  | 65 => ⟨S_, .i32⟩
  | 66 => ⟨S32, .i32⟩
  | 67 => ⟨S32, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S32, .i32⟩
  | 75 => ⟨S32, .i32⟩
  | 76 => ⟨S_, .i32⟩
  | 77 => ⟨S32, .i32⟩
  | 78 => ⟨S32, .i1⟩
  | 79 => ⟨S_, .i32⟩
  | 80 => ⟨S32, .i32⟩
  | 81 => ⟨S32, .i1⟩
  | 82 => ⟨S_, .i32⟩
  | 83 => ⟨S_, .i1⟩
  | 84 => ⟨S32, .i1⟩
  | 85 => ⟨S32, .i1⟩
  | 86 => ⟨S32, .i1⟩
  | 87 => ⟨S32, .i32⟩
  | 88 => ⟨S32, .i32⟩
  | 89 => ⟨S32, .i32⟩
  | 90 => ⟨S_, .i32⟩
  | 91 => ⟨S32, .i32⟩
  | 92 => ⟨S32, .i1⟩
  | 93 => ⟨S_, .i32⟩
  | 94 => ⟨S32, .i32⟩
  | 95 => ⟨S32, .i32⟩
  | 96 => ⟨S32, .i32⟩
  | 97 => ⟨S32x1, .i32⟩
  | 98 => ⟨S32, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i1⟩
  | 112 => ⟨S_, .i32⟩
  | 113 => ⟨S_, .i1⟩
  | 114 => ⟨S_, .i1⟩
  | 115 => ⟨S_, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S1, .i32⟩
  | 124 => ⟨S_, .i32⟩
  | 125 => ⟨S_, .i32⟩
  | 126 => ⟨S_, .i32⟩
  | 127 => ⟨S_, .i32⟩
  | _ => ⟨S4096x128, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i1⟩
  | 10 => ⟨S_, .i32⟩
  | 11 => ⟨S_, .i1⟩
  | 12 => ⟨S_, .i1⟩
  | 13 => ⟨S_, .i1⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S1, .i32⟩
  | 22 => ⟨S_, .i32⟩
  | 23 => ⟨S1, .i32⟩
  | 24 => ⟨S1, .i32⟩
  | 25 => ⟨S2, .i32⟩
  | 26 => ⟨S128x2048, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S128x2048, .f32⟩
  | .local _ .vmem, ⟨2, _⟩ => ⟨S128x2048, .f32⟩
  | .local _ .vmem, ⟨3, _⟩ => ⟨S4x4x128x512, .f32⟩
  | .local _ .vmem, ⟨4, _⟩ => ⟨S32x128x2048, .f32⟩
  | .local _ .smem, ⟨0, _⟩ => ⟨S32, .i32⟩
  | .local _ .smem, ⟨1, _⟩ => ⟨S32, .i32⟩
  | .local _ .smem, ⟨2, _⟩ => ⟨S2, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 3 → Bool
  | ⟨0, _⟩ => true
  | ⟨1, _⟩ => true
  | ⟨2, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 3 38 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_5 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_7 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_8 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v23 : Ref sig .tc := ⟨.hbm, 54, rfl⟩
abbrev main_c_9 : Ref sig .tc := ⟨.hbm, 55, rfl⟩
abbrev main_v24 : Ref sig .tc := ⟨.hbm, 56, rfl⟩
abbrev main_v25 : Ref sig .tc := ⟨.hbm, 57, rfl⟩
abbrev main_c_10 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_11 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_12 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v34 : Ref sig .tc := ⟨.hbm, 89, rfl⟩
abbrev main_c_13 : Ref sig .tc := ⟨.hbm, 90, rfl⟩
abbrev main_v35 : Ref sig .tc := ⟨.hbm, 91, rfl⟩
abbrev main_v36 : Ref sig .tc := ⟨.hbm, 92, rfl⟩
abbrev main_c_14 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_15 : Ref sig .tc := ⟨.hbm, 99, rfl⟩
abbrev main_v42 : Ref sig .tc := ⟨.hbm, 100, rfl⟩
abbrev main_c_16 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_c_1 : Ref sig .tc := ⟨.hbm, 108, rfl⟩
abbrev main_call2_v4 : Ref sig .tc := ⟨.hbm, 109, rfl⟩
abbrev main_call2_c_2 : Ref sig .tc := ⟨.hbm, 110, rfl⟩
abbrev main_call2_v5 : Ref sig .tc := ⟨.hbm, 111, rfl⟩
abbrev main_call2_c_3 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_v43 : Ref sig .tc := ⟨.hbm, 117, rfl⟩
abbrev main_c_17 : Ref sig .tc := ⟨.hbm, 118, rfl⟩
abbrev main_v44 : Ref sig .tc := ⟨.hbm, 119, rfl⟩
abbrev main_c_18 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_c_19 : Ref sig .tc := ⟨.hbm, 125, rfl⟩
abbrev main_v49 : Ref sig .tc := ⟨.hbm, 126, rfl⟩
abbrev main_c_20 : Ref sig .tc := ⟨.hbm, 127, rfl⟩
abbrev main_call3_v0 : Ref sig .tc := ⟨.hbm, 128, rfl⟩
abbrev main_call3_c : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_c_1 : Ref sig .tc := ⟨.hbm, 134, rfl⟩
abbrev main_call3_v4 : Ref sig .tc := ⟨.hbm, 135, rfl⟩
abbrev main_call3_c_2 : Ref sig .tc := ⟨.hbm, 136, rfl⟩
abbrev main_call3_v5 : Ref sig .tc := ⟨.hbm, 137, rfl⟩
abbrev main_call3_c_3 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_v50 : Ref sig .tc := ⟨.hbm, 143, rfl⟩
abbrev main_c_21 : Ref sig .tc := ⟨.hbm, 144, rfl⟩
abbrev main_v51 : Ref sig .tc := ⟨.hbm, 145, rfl⟩
abbrev main_c_22 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v7 : BitVec 32) : Fin 2 → Nat :=
  let c128_i32 : BitVec 32 := 128#32
  let v8 : BitVec 32 := Scalar.muli v7 c128_i32
  let v9 : Index := Scalar.indexCast v8
  let c0_5 : Index := 0#32
  ![v9.toNat, 0]

def k0_chk3 (v7 : BitVec 32) : Prop :=
  (∀ a, (k0_off1 v7) a + S128x128.size a ≤ S4096x128.size a)
theorem k0_off1_inb : ∀ (v7 : BitVec 32) (k0_hw3 : k0_chk3 v7), ∀ a, (k0_off1 v7) a + S128x128.size a ≤ S4096x128.size a := fun v7 k0_hw3 => k0_hw3

def k0_off2 (v18 : BitVec 32) : Fin 2 → Nat :=
  let c128_i32_11 : BitVec 32 := 128#32
  let v19 : BitVec 32 := Scalar.muli v18 c128_i32_11
  let v20 : Index := Scalar.indexCast v19
  let c0_12 : Index := 0#32
  ![v20.toNat, 0]

def k0_chk4 (v18 : BitVec 32) : Prop :=
  (∀ a, (k0_off2 v18) a + S128x128.size a ≤ S4096x128.size a)
theorem k0_off2_inb : ∀ (v18 : BitVec 32) (k0_hw4 : k0_chk4 v18), ∀ a, (k0_off2 v18) a + S128x128.size a ≤ S4096x128.size a := fun v18 k0_hw4 => k0_hw4

def k0_off3 (v49 : BitVec 32) : Fin 2 → Nat :=
  let c128_i32_43 : BitVec 32 := 128#32
  let v50 : BitVec 32 := Scalar.muli v49 c128_i32_43
  let v51 : Index := Scalar.indexCast v50
  let c0_44 : Index := 0#32
  ![v51.toNat, 0]

def k0_chk5 (v49 : BitVec 32) : Prop :=
  (∀ a, (k0_off3 v49) a + S128x128.size a ≤ S4096x128.size a)
theorem k0_off3_inb : ∀ (v49 : BitVec 32) (k0_hw5 : k0_chk5 v49), ∀ a, (k0_off3 v49) a + S128x128.size a ≤ S4096x128.size a := fun v49 k0_hw5 => k0_hw5

def k0_off4 (v60 : BitVec 32) : Fin 2 → Nat :=
  let c128_i32_51 : BitVec 32 := 128#32
  let v61 : BitVec 32 := Scalar.muli v60 c128_i32_51
  let v62 : Index := Scalar.indexCast v61
  let c0_52 : Index := 0#32
  ![v62.toNat, 0]

def k0_chk6 (v60 : BitVec 32) : Prop :=
  (∀ a, (k0_off4 v60) a + S128x128.size a ≤ S4096x128.size a)
theorem k0_off4_inb : ∀ (v60 : BitVec 32) (k0_hw6 : k0_chk6 v60), ∀ a, (k0_off4 v60) a + S128x128.size a ≤ S4096x128.size a := fun v60 k0_hw6 => k0_hw6

def k0_off5 (v71 : BitVec 32) : Fin 2 → Nat :=
  let c128_i32_59 : BitVec 32 := 128#32
  let v72 : BitVec 32 := Scalar.muli v71 c128_i32_59
  let v73 : Index := Scalar.indexCast v72
  let c0_60 : Index := 0#32
  ![v73.toNat, 0]

def k0_chk7 (v71 : BitVec 32) : Prop :=
  (∀ a, (k0_off5 v71) a + S128x128.size a ≤ S4096x128.size a)
theorem k0_off5_inb : ∀ (v71 : BitVec 32) (k0_hw7 : k0_chk7 v71), ∀ a, (k0_off5 v71) a + S128x128.size a ≤ S4096x128.size a := fun v71 k0_hw7 => k0_hw7

def k0_dev3 (v0 : BitVec 32) : Nat :=
  let c0_i32_76 : BitVec 32 := 0#32
  let c1_i32_75 : BitVec 32 := 1#32
  let v82 : BitVec 32 := Scalar.muli v0 c1_i32_75
  let v83 : BitVec 32 := Scalar.addi c0_i32_76 v82
  v83.toNat
def k0_dev4 (v0 : BitVec 32) : Nat :=
  let c0_i32_90 : BitVec 32 := 0#32
  let c1_i32_89 : BitVec 32 := 1#32
  let v92 : BitVec 32 := Scalar.muli v0 c1_i32_89
  let v93 : BitVec 32 := Scalar.addi c0_i32_90 v92
  v93.toNat
def k0_dev5 (v1 : BitVec 32) : Nat :=
  let c0_i32_104 : BitVec 32 := 0#32
  let c1_i32_103 : BitVec 32 := 1#32
  let v102 : BitVec 32 := Scalar.muli v1 c1_i32_103
  let v103 : BitVec 32 := Scalar.addi c0_i32_104 v102
  v103.toNat
def k0_dev6 (v1 : BitVec 32) : Nat :=
  let c0_i32_117 : BitVec 32 := 0#32
  let c1_i32_116 : BitVec 32 := 1#32
  let v112 : BitVec 32 := Scalar.muli v1 c1_i32_116
  let v113 : BitVec 32 := Scalar.addi c0_i32_117 v112
  v113.toNat
def k0_off6 (v122 : BitVec 32) : Fin 2 → Nat :=
  let c128_i32_123 : BitVec 32 := 128#32
  let v123 : BitVec 32 := Scalar.muli v122 c128_i32_123
  let v124 : Index := Scalar.indexCast v123
  let c0_124 : Index := 0#32
  ![v124.toNat, 0]

def k0_chk8 (v122 : BitVec 32) : Prop :=
  (∀ a, (k0_off6 v122) a + S128x128.size a ≤ S4096x128.size a)
theorem k0_off6_inb : ∀ (v122 : BitVec 32) (k0_hw8 : k0_chk8 v122), ∀ a, (k0_off6 v122) a + S128x128.size a ≤ S4096x128.size a := fun v122 k0_hw8 => k0_hw8

def k0_off7 (v133 : BitVec 32) : Fin 2 → Nat :=
  let c128_i32_131 : BitVec 32 := 128#32
  let v134 : BitVec 32 := Scalar.muli v133 c128_i32_131
  let v135 : Index := Scalar.indexCast v134
  let c0_132 : Index := 0#32
  ![v135.toNat, 0]

def k0_chk9 (v133 : BitVec 32) : Prop :=
  (∀ a, (k0_off7 v133) a + S128x128.size a ≤ S4096x128.size a)
theorem k0_off7_inb : ∀ (v133 : BitVec 32) (k0_hw9 : k0_chk9 v133), ∀ a, (k0_off7 v133) a + S128x128.size a ≤ S4096x128.size a := fun v133 k0_hw9 => k0_hw9

def k0_dev7 (v1 : BitVec 32) : Nat :=
  let c0_i32_168 : BitVec 32 := 0#32
  let c1_i32_167 : BitVec 32 := 1#32
  let v158 : BitVec 32 := Scalar.muli v1 c1_i32_167
  let v159 : BitVec 32 := Scalar.addi c0_i32_168 v158
  v159.toNat
def k0_dev8 (v0 : BitVec 32) : Nat :=
  let c0_i32_189 : BitVec 32 := 0#32
  let c1_i32_188 : BitVec 32 := 1#32
  let v168 : BitVec 32 := Scalar.muli v0 c1_i32_188
  let v169 : BitVec 32 := Scalar.addi c0_i32_189 v168
  v169.toNat
def k0_dev9 (v1 : BitVec 32) : Nat :=
  let c0_i32_223 : BitVec 32 := 0#32
  let c1_i32_222 : BitVec 32 := 1#32
  let v192 : BitVec 32 := Scalar.muli v1 c1_i32_222
  let v193 : BitVec 32 := Scalar.addi c0_i32_223 v192
  v193.toNat
def k0_dev10 (v0 : BitVec 32) : Nat :=
  let c0_i32_244 : BitVec 32 := 0#32
  let c1_i32_243 : BitVec 32 := 1#32
  let v202 : BitVec 32 := Scalar.muli v0 c1_i32_243
  let v203 : BitVec 32 := Scalar.addi c0_i32_244 v202
  v203.toNat
def k0_dev11 (v0 : BitVec 32) : Nat :=
  let c0_i32_278 : BitVec 32 := 0#32
  let c1_i32_277 : BitVec 32 := 1#32
  let v226 : BitVec 32 := Scalar.muli v0 c1_i32_277
  let v227 : BitVec 32 := Scalar.addi c0_i32_278 v226
  v227.toNat
def k0_dev12 (v1 : BitVec 32) : Nat :=
  let c0_i32_299 : BitVec 32 := 0#32
  let c1_i32_298 : BitVec 32 := 1#32
  let v236 : BitVec 32 := Scalar.muli v1 c1_i32_298
  let v237 : BitVec 32 := Scalar.addi c0_i32_299 v236
  v237.toNat
def k0_dev13 (v0 : BitVec 32) : Nat :=
  let c0_i32_333 : BitVec 32 := 0#32
  let c1_i32_332 : BitVec 32 := 1#32
  let v260 : BitVec 32 := Scalar.muli v0 c1_i32_332
  let v261 : BitVec 32 := Scalar.addi c0_i32_333 v260
  v261.toNat
def k0_dev14 (v1 : BitVec 32) : Nat :=
  let c0_i32_354 : BitVec 32 := 0#32
  let c1_i32_353 : BitVec 32 := 1#32
  let v270 : BitVec 32 := Scalar.muli v1 c1_i32_353
  let v271 : BitVec 32 := Scalar.addi c0_i32_354 v270
  v271.toNat
def k0_off8 (v280 : BitVec 32) : Fin 2 → Nat :=
  let c128_i32_360 : BitVec 32 := 128#32
  let v281 : BitVec 32 := Scalar.muli v280 c128_i32_360
  let v282 : Index := Scalar.indexCast v281
  let c0_361 : Index := 0#32
  ![v282.toNat, 0]

def k0_chk10 (v280 : BitVec 32) : Prop :=
  (∀ a, (k0_off8 v280) a + S128x128.size a ≤ S4096x128.size a)
theorem k0_off8_inb : ∀ (v280 : BitVec 32) (k0_hw10 : k0_chk10 v280), ∀ a, (k0_off8 v280) a + S128x128.size a ≤ S4096x128.size a := fun v280 k0_hw10 => k0_hw10

def k0_off9 (v291 : BitVec 32) : Fin 2 → Nat :=
  let c128_i32_368 : BitVec 32 := 128#32
  let v292 : BitVec 32 := Scalar.muli v291 c128_i32_368
  let v293 : Index := Scalar.indexCast v292
  let c0_369 : Index := 0#32
  ![v293.toNat, 0]

def k0_chk11 (v291 : BitVec 32) : Prop :=
  (∀ a, (k0_off9 v291) a + S128x128.size a ≤ S4096x128.size a)
theorem k0_off9_inb : ∀ (v291 : BitVec 32) (k0_hw11 : k0_chk11 v291), ∀ a, (k0_off9 v291) a + S128x128.size a ≤ S4096x128.size a := fun v291 k0_hw11 => k0_hw11

def k0_dev15 (v1 : BitVec 32) : Nat :=
  let c0_i32_405 : BitVec 32 := 0#32
  let c1_i32_404 : BitVec 32 := 1#32
  let v316 : BitVec 32 := Scalar.muli v1 c1_i32_404
  let v317 : BitVec 32 := Scalar.addi c0_i32_405 v316
  v317.toNat
def k0_dev16 (v0 : BitVec 32) : Nat :=
  let c0_i32_426 : BitVec 32 := 0#32
  let c1_i32_425 : BitVec 32 := 1#32
  let v326 : BitVec 32 := Scalar.muli v0 c1_i32_425
  let v327 : BitVec 32 := Scalar.addi c0_i32_426 v326
  v327.toNat
def k0_dev17 (v1 : BitVec 32) : Nat :=
  let c0_i32_460 : BitVec 32 := 0#32
  let c1_i32_459 : BitVec 32 := 1#32
  let v350 : BitVec 32 := Scalar.muli v1 c1_i32_459
  let v351 : BitVec 32 := Scalar.addi c0_i32_460 v350
  v351.toNat
def k0_dev18 (v0 : BitVec 32) : Nat :=
  let c0_i32_481 : BitVec 32 := 0#32
  let c1_i32_480 : BitVec 32 := 1#32
  let v360 : BitVec 32 := Scalar.muli v0 c1_i32_480
  let v361 : BitVec 32 := Scalar.addi c0_i32_481 v360
  v361.toNat
def k0_dev19 (v0 : BitVec 32) : Nat :=
  let c0_i32_515 : BitVec 32 := 0#32
  let c1_i32_514 : BitVec 32 := 1#32
  let v384 : BitVec 32 := Scalar.muli v0 c1_i32_514
  let v385 : BitVec 32 := Scalar.addi c0_i32_515 v384
  v385.toNat
def k0_dev20 (v1 : BitVec 32) : Nat :=
  let c0_i32_536 : BitVec 32 := 0#32
  let c1_i32_535 : BitVec 32 := 1#32
  let v394 : BitVec 32 := Scalar.muli v1 c1_i32_535
  let v395 : BitVec 32 := Scalar.addi c0_i32_536 v394
  v395.toNat
def k0_dev21 (v0 : BitVec 32) : Nat :=
  let c0_i32_570 : BitVec 32 := 0#32
  let c1_i32_569 : BitVec 32 := 1#32
  let v418 : BitVec 32 := Scalar.muli v0 c1_i32_569
  let v419 : BitVec 32 := Scalar.addi c0_i32_570 v418
  v419.toNat
def k0_dev22 (v1 : BitVec 32) : Nat :=
  let c0_i32_591 : BitVec 32 := 0#32
  let c1_i32_590 : BitVec 32 := 1#32
  let v428 : BitVec 32 := Scalar.muli v1 c1_i32_590
  let v429 : BitVec 32 := Scalar.addi c0_i32_591 v428
  v429.toNat
def k0_off10 (v438 : BitVec 32) : Fin 2 → Nat :=
  let c128_i32_596 : BitVec 32 := 128#32
  let v439 : BitVec 32 := Scalar.muli v438 c128_i32_596
  let v440 : Index := Scalar.indexCast v439
  let c0_597 : Index := 0#32
  ![v440.toNat, 0]

def k0_chk12 (v438 : BitVec 32) : Prop :=
  (∀ a, (k0_off10 v438) a + S128x128.size a ≤ S4096x128.size a)
theorem k0_off10_inb : ∀ (v438 : BitVec 32) (k0_hw12 : k0_chk12 v438), ∀ a, (k0_off10 v438) a + S128x128.size a ≤ S4096x128.size a := fun v438 k0_hw12 => k0_hw12

def k0_off11 (v449 : BitVec 32) : Fin 2 → Nat :=
  let c128_i32_604 : BitVec 32 := 128#32
  let v450 : BitVec 32 := Scalar.muli v449 c128_i32_604
  let v451 : Index := Scalar.indexCast v450
  let c0_605 : Index := 0#32
  ![v451.toNat, 0]

def k0_chk13 (v449 : BitVec 32) : Prop :=
  (∀ a, (k0_off11 v449) a + S128x128.size a ≤ S4096x128.size a)
theorem k0_off11_inb : ∀ (v449 : BitVec 32) (k0_hw13 : k0_chk13 v449), ∀ a, (k0_off11 v449) a + S128x128.size a ≤ S4096x128.size a := fun v449 k0_hw13 => k0_hw13

def k0_dev23 (v1 : BitVec 32) : Nat :=
  let c0_i32_641 : BitVec 32 := 0#32
  let c1_i32_640 : BitVec 32 := 1#32
  let v474 : BitVec 32 := Scalar.muli v1 c1_i32_640
  let v475 : BitVec 32 := Scalar.addi c0_i32_641 v474
  v475.toNat
def k0_dev24 (v0 : BitVec 32) : Nat :=
  let c0_i32_664 : BitVec 32 := 0#32
  let c1_i32_663 : BitVec 32 := 1#32
  let v484 : BitVec 32 := Scalar.muli v0 c1_i32_663
  let v485 : BitVec 32 := Scalar.addi c0_i32_664 v484
  v485.toNat
def k0_dev25 (v1 : BitVec 32) : Nat :=
  let c0_i32_698 : BitVec 32 := 0#32
  let c1_i32_697 : BitVec 32 := 1#32
  let v508 : BitVec 32 := Scalar.muli v1 c1_i32_697
  let v509 : BitVec 32 := Scalar.addi c0_i32_698 v508
  v509.toNat
def k0_dev26 (v0 : BitVec 32) : Nat :=
  let c0_i32_721 : BitVec 32 := 0#32
  let c1_i32_720 : BitVec 32 := 1#32
  let v518 : BitVec 32 := Scalar.muli v0 c1_i32_720
  let v519 : BitVec 32 := Scalar.addi c0_i32_721 v518
  v519.toNat
def k0_dev27 (v0 : BitVec 32) : Nat :=
  let c0_i32_755 : BitVec 32 := 0#32
  let c1_i32_754 : BitVec 32 := 1#32
  let v542 : BitVec 32 := Scalar.muli v0 c1_i32_754
  let v543 : BitVec 32 := Scalar.addi c0_i32_755 v542
  v543.toNat
def k0_dev28 (v1 : BitVec 32) : Nat :=
  let c0_i32_778 : BitVec 32 := 0#32
  let c1_i32_777 : BitVec 32 := 1#32
  let v552 : BitVec 32 := Scalar.muli v1 c1_i32_777
  let v553 : BitVec 32 := Scalar.addi c0_i32_778 v552
  v553.toNat
def k0_dev29 (v0 : BitVec 32) : Nat :=
  let c0_i32_812 : BitVec 32 := 0#32
  let c1_i32_811 : BitVec 32 := 1#32
  let v576 : BitVec 32 := Scalar.muli v0 c1_i32_811
  let v577 : BitVec 32 := Scalar.addi c0_i32_812 v576
  v577.toNat
def k0_dev30 (v1 : BitVec 32) : Nat :=
  let c0_i32_835 : BitVec 32 := 0#32
  let c1_i32_834 : BitVec 32 := 1#32
  let v586 : BitVec 32 := Scalar.muli v1 c1_i32_834
  let v587 : BitVec 32 := Scalar.addi c0_i32_835 v586
  v587.toNat
def k0_off12 (v596 : BitVec 32) : Fin 2 → Nat :=
  let c128_i32_840 : BitVec 32 := 128#32
  let v597 : BitVec 32 := Scalar.muli v596 c128_i32_840
  let v598 : Index := Scalar.indexCast v597
  let c0_841 : Index := 0#32
  ![v598.toNat, 0]

def k0_chk14 (v596 : BitVec 32) : Prop :=
  (∀ a, (k0_off12 v596) a + S128x128.size a ≤ S4096x128.size a)
theorem k0_off12_inb : ∀ (v596 : BitVec 32) (k0_hw14 : k0_chk14 v596), ∀ a, (k0_off12 v596) a + S128x128.size a ≤ S4096x128.size a := fun v596 k0_hw14 => k0_hw14

def k0_off13 (v607 : BitVec 32) : Fin 2 → Nat :=
  let c128_i32_848 : BitVec 32 := 128#32
  let v608 : BitVec 32 := Scalar.muli v607 c128_i32_848
  let v609 : Index := Scalar.indexCast v608
  let c0_849 : Index := 0#32
  ![v609.toNat, 0]

def k0_chk15 (v607 : BitVec 32) : Prop :=
  (∀ a, (k0_off13 v607) a + S128x128.size a ≤ S4096x128.size a)
theorem k0_off13_inb : ∀ (v607 : BitVec 32) (k0_hw15 : k0_chk15 v607), ∀ a, (k0_off13 v607) a + S128x128.size a ≤ S4096x128.size a := fun v607 k0_hw15 => k0_hw15

def k0_dev31 (v1 : BitVec 32) : Nat :=
  let c0_i32_885 : BitVec 32 := 0#32
  let c1_i32_884 : BitVec 32 := 1#32
  let v632 : BitVec 32 := Scalar.muli v1 c1_i32_884
  let v633 : BitVec 32 := Scalar.addi c0_i32_885 v632
  v633.toNat
def k0_dev32 (v0 : BitVec 32) : Nat :=
  let c0_i32_908 : BitVec 32 := 0#32
  let c1_i32_907 : BitVec 32 := 1#32
  let v642 : BitVec 32 := Scalar.muli v0 c1_i32_907
  let v643 : BitVec 32 := Scalar.addi c0_i32_908 v642
  v643.toNat
def k0_dev33 (v1 : BitVec 32) : Nat :=
  let c0_i32_942 : BitVec 32 := 0#32
  let c1_i32_941 : BitVec 32 := 1#32
  let v666 : BitVec 32 := Scalar.muli v1 c1_i32_941
  let v667 : BitVec 32 := Scalar.addi c0_i32_942 v666
  v667.toNat
def k0_dev34 (v0 : BitVec 32) : Nat :=
  let c0_i32_965 : BitVec 32 := 0#32
  let c1_i32_964 : BitVec 32 := 1#32
  let v676 : BitVec 32 := Scalar.muli v0 c1_i32_964
  let v677 : BitVec 32 := Scalar.addi c0_i32_965 v676
  v677.toNat
def k0_dev35 (v0 : BitVec 32) : Nat :=
  let c0_i32_999 : BitVec 32 := 0#32
  let c1_i32_998 : BitVec 32 := 1#32
  let v700 : BitVec 32 := Scalar.muli v0 c1_i32_998
  let v701 : BitVec 32 := Scalar.addi c0_i32_999 v700
  v701.toNat
def k0_dev36 (v1 : BitVec 32) : Nat :=
  let c0_i32_1022 : BitVec 32 := 0#32
  let c1_i32_1021 : BitVec 32 := 1#32
  let v710 : BitVec 32 := Scalar.muli v1 c1_i32_1021
  let v711 : BitVec 32 := Scalar.addi c0_i32_1022 v710
  v711.toNat
def k0_dev37 (v0 : BitVec 32) : Nat :=
  let c0_i32_1056 : BitVec 32 := 0#32
  let c1_i32_1055 : BitVec 32 := 1#32
  let v734 : BitVec 32 := Scalar.muli v0 c1_i32_1055
  let v735 : BitVec 32 := Scalar.addi c0_i32_1056 v734
  v735.toNat
def k0_dev38 (v1 : BitVec 32) : Nat :=
  let c0_i32_1079 : BitVec 32 := 0#32
  let c1_i32_1078 : BitVec 32 := 1#32
  let v744 : BitVec 32 := Scalar.muli v1 c1_i32_1078
  let v745 : BitVec 32 := Scalar.addi c0_i32_1079 v744
  v745.toNat
def k0_off14 (v754 : BitVec 32) : Fin 2 → Nat :=
  let c128_i32_1084 : BitVec 32 := 128#32
  let v755 : BitVec 32 := Scalar.muli v754 c128_i32_1084
  let v756 : Index := Scalar.indexCast v755
  let c0_1085 : Index := 0#32
  ![v756.toNat, 0]

def k0_chk16 (v754 : BitVec 32) : Prop :=
  (∀ a, (k0_off14 v754) a + S128x128.size a ≤ S4096x128.size a)
theorem k0_off14_inb : ∀ (v754 : BitVec 32) (k0_hw16 : k0_chk16 v754), ∀ a, (k0_off14 v754) a + S128x128.size a ≤ S4096x128.size a := fun v754 k0_hw16 => k0_hw16

def k0_off15 (v765 : BitVec 32) : Fin 2 → Nat :=
  let c128_i32_1092 : BitVec 32 := 128#32
  let v766 : BitVec 32 := Scalar.muli v765 c128_i32_1092
  let v767 : Index := Scalar.indexCast v766
  let c0_1093 : Index := 0#32
  ![v767.toNat, 0]

def k0_chk17 (v765 : BitVec 32) : Prop :=
  (∀ a, (k0_off15 v765) a + S128x128.size a ≤ S4096x128.size a)
theorem k0_off15_inb : ∀ (v765 : BitVec 32) (k0_hw17 : k0_chk17 v765), ∀ a, (k0_off15 v765) a + S128x128.size a ≤ S4096x128.size a := fun v765 k0_hw17 => k0_hw17

def k0_dev39 (v1 : BitVec 32) : Nat :=
  let c0_i32_1129 : BitVec 32 := 0#32
  let c1_i32_1128 : BitVec 32 := 1#32
  let v790 : BitVec 32 := Scalar.muli v1 c1_i32_1128
  let v791 : BitVec 32 := Scalar.addi c0_i32_1129 v790
  v791.toNat
def k0_dev40 (v0 : BitVec 32) : Nat :=
  let c0_i32_1152 : BitVec 32 := 0#32
  let c1_i32_1151 : BitVec 32 := 1#32
  let v800 : BitVec 32 := Scalar.muli v0 c1_i32_1151
  let v801 : BitVec 32 := Scalar.addi c0_i32_1152 v800
  v801.toNat
def k0_dev41 (v1 : BitVec 32) : Nat :=
  let c0_i32_1186 : BitVec 32 := 0#32
  let c1_i32_1185 : BitVec 32 := 1#32
  let v824 : BitVec 32 := Scalar.muli v1 c1_i32_1185
  let v825 : BitVec 32 := Scalar.addi c0_i32_1186 v824
  v825.toNat
def k0_dev42 (v0 : BitVec 32) : Nat :=
  let c0_i32_1209 : BitVec 32 := 0#32
  let c1_i32_1208 : BitVec 32 := 1#32
  let v834 : BitVec 32 := Scalar.muli v0 c1_i32_1208
  let v835 : BitVec 32 := Scalar.addi c0_i32_1209 v834
  v835.toNat
def k0_dev43 (v0 : BitVec 32) : Nat :=
  let c0_i32_1243 : BitVec 32 := 0#32
  let c1_i32_1242 : BitVec 32 := 1#32
  let v858 : BitVec 32 := Scalar.muli v0 c1_i32_1242
  let v859 : BitVec 32 := Scalar.addi c0_i32_1243 v858
  v859.toNat
def k0_dev44 (v1 : BitVec 32) : Nat :=
  let c0_i32_1266 : BitVec 32 := 0#32
  let c1_i32_1265 : BitVec 32 := 1#32
  let v868 : BitVec 32 := Scalar.muli v1 c1_i32_1265
  let v869 : BitVec 32 := Scalar.addi c0_i32_1266 v868
  v869.toNat
def k0_dev45 (v0 : BitVec 32) : Nat :=
  let c0_i32_1300 : BitVec 32 := 0#32
  let c1_i32_1299 : BitVec 32 := 1#32
  let v892 : BitVec 32 := Scalar.muli v0 c1_i32_1299
  let v893 : BitVec 32 := Scalar.addi c0_i32_1300 v892
  v893.toNat
def k0_dev46 (v1 : BitVec 32) : Nat :=
  let c0_i32_1323 : BitVec 32 := 0#32
  let c1_i32_1322 : BitVec 32 := 1#32
  let v902 : BitVec 32 := Scalar.muli v1 c1_i32_1322
  let v903 : BitVec 32 := Scalar.addi c0_i32_1323 v902
  v903.toNat
def k0_off16 (v912 : BitVec 32) : Fin 2 → Nat :=
  let c128_i32_1328 : BitVec 32 := 128#32
  let v913 : BitVec 32 := Scalar.muli v912 c128_i32_1328
  let v914 : Index := Scalar.indexCast v913
  let c0_1329 : Index := 0#32
  ![v914.toNat, 0]

def k0_chk18 (v912 : BitVec 32) : Prop :=
  (∀ a, (k0_off16 v912) a + S128x128.size a ≤ S4096x128.size a)
theorem k0_off16_inb : ∀ (v912 : BitVec 32) (k0_hw18 : k0_chk18 v912), ∀ a, (k0_off16 v912) a + S128x128.size a ≤ S4096x128.size a := fun v912 k0_hw18 => k0_hw18

def k0_off17 (v923 : BitVec 32) : Fin 2 → Nat :=
  let c128_i32_1336 : BitVec 32 := 128#32
  let v924 : BitVec 32 := Scalar.muli v923 c128_i32_1336
  let v925 : Index := Scalar.indexCast v924
  let c0_1337 : Index := 0#32
  ![v925.toNat, 0]

def k0_chk19 (v923 : BitVec 32) : Prop :=
  (∀ a, (k0_off17 v923) a + S128x128.size a ≤ S4096x128.size a)
theorem k0_off17_inb : ∀ (v923 : BitVec 32) (k0_hw19 : k0_chk19 v923), ∀ a, (k0_off17 v923) a + S128x128.size a ≤ S4096x128.size a := fun v923 k0_hw19 => k0_hw19

def k0_dev47 (v1 : BitVec 32) : Nat :=
  let c0_i32_1373 : BitVec 32 := 0#32
  let c1_i32_1372 : BitVec 32 := 1#32
  let v948 : BitVec 32 := Scalar.muli v1 c1_i32_1372
  let v949 : BitVec 32 := Scalar.addi c0_i32_1373 v948
  v949.toNat
def k0_dev48 (v0 : BitVec 32) : Nat :=
  let c0_i32_1396 : BitVec 32 := 0#32
  let c1_i32_1395 : BitVec 32 := 1#32
  let v958 : BitVec 32 := Scalar.muli v0 c1_i32_1395
  let v959 : BitVec 32 := Scalar.addi c0_i32_1396 v958
  v959.toNat
def k0_dev49 (v1 : BitVec 32) : Nat :=
  let c0_i32_1430 : BitVec 32 := 0#32
  let c1_i32_1429 : BitVec 32 := 1#32
  let v982 : BitVec 32 := Scalar.muli v1 c1_i32_1429
  let v983 : BitVec 32 := Scalar.addi c0_i32_1430 v982
  v983.toNat
def k0_dev50 (v0 : BitVec 32) : Nat :=
  let c0_i32_1453 : BitVec 32 := 0#32
  let c1_i32_1452 : BitVec 32 := 1#32
  let v992 : BitVec 32 := Scalar.muli v0 c1_i32_1452
  let v993 : BitVec 32 := Scalar.addi c0_i32_1453 v992
  v993.toNat
def k0_dev51 (v0 : BitVec 32) : Nat :=
  let c0_i32_1487 : BitVec 32 := 0#32
  let c1_i32_1486 : BitVec 32 := 1#32
  let v1016 : BitVec 32 := Scalar.muli v0 c1_i32_1486
  let v1017 : BitVec 32 := Scalar.addi c0_i32_1487 v1016
  v1017.toNat
def k0_dev52 (v1 : BitVec 32) : Nat :=
  let c0_i32_1510 : BitVec 32 := 0#32
  let c1_i32_1509 : BitVec 32 := 1#32
  let v1026 : BitVec 32 := Scalar.muli v1 c1_i32_1509
  let v1027 : BitVec 32 := Scalar.addi c0_i32_1510 v1026
  v1027.toNat
def k0_dev53 (v0 : BitVec 32) : Nat :=
  let c0_i32_1544 : BitVec 32 := 0#32
  let c1_i32_1543 : BitVec 32 := 1#32
  let v1050 : BitVec 32 := Scalar.muli v0 c1_i32_1543
  let v1051 : BitVec 32 := Scalar.addi c0_i32_1544 v1050
  v1051.toNat
def k0_dev54 (v1 : BitVec 32) : Nat :=
  let c0_i32_1567 : BitVec 32 := 0#32
  let c1_i32_1566 : BitVec 32 := 1#32
  let v1060 : BitVec 32 := Scalar.muli v1 c1_i32_1566
  let v1061 : BitVec 32 := Scalar.addi c0_i32_1567 v1060
  v1061.toNat
def k0_off18 (v1070 : BitVec 32) : Fin 2 → Nat :=
  let c128_i32_1572 : BitVec 32 := 128#32
  let v1071 : BitVec 32 := Scalar.muli v1070 c128_i32_1572
  let v1072 : Index := Scalar.indexCast v1071
  let c0_1573 : Index := 0#32
  ![v1072.toNat, 0]

def k0_chk20 (v1070 : BitVec 32) : Prop :=
  (∀ a, (k0_off18 v1070) a + S128x128.size a ≤ S4096x128.size a)
theorem k0_off18_inb : ∀ (v1070 : BitVec 32) (k0_hw20 : k0_chk20 v1070), ∀ a, (k0_off18 v1070) a + S128x128.size a ≤ S4096x128.size a := fun v1070 k0_hw20 => k0_hw20

def k0_off19 (v1081 : BitVec 32) : Fin 2 → Nat :=
  let c128_i32_1580 : BitVec 32 := 128#32
  let v1082 : BitVec 32 := Scalar.muli v1081 c128_i32_1580
  let v1083 : Index := Scalar.indexCast v1082
  let c0_1581 : Index := 0#32
  ![v1083.toNat, 0]

def k0_chk21 (v1081 : BitVec 32) : Prop :=
  (∀ a, (k0_off19 v1081) a + S128x128.size a ≤ S4096x128.size a)
theorem k0_off19_inb : ∀ (v1081 : BitVec 32) (k0_hw21 : k0_chk21 v1081), ∀ a, (k0_off19 v1081) a + S128x128.size a ≤ S4096x128.size a := fun v1081 k0_hw21 => k0_hw21

def k0_dev55 (v1 : BitVec 32) : Nat :=
  let c0_i32_1617 : BitVec 32 := 0#32
  let c1_i32_1616 : BitVec 32 := 1#32
  let v1106 : BitVec 32 := Scalar.muli v1 c1_i32_1616
  let v1107 : BitVec 32 := Scalar.addi c0_i32_1617 v1106
  v1107.toNat
def k0_dev56 (v0 : BitVec 32) : Nat :=
  let c0_i32_1640 : BitVec 32 := 0#32
  let c1_i32_1639 : BitVec 32 := 1#32
  let v1116 : BitVec 32 := Scalar.muli v0 c1_i32_1639
  let v1117 : BitVec 32 := Scalar.addi c0_i32_1640 v1116
  v1117.toNat
def k0_dev57 (v1 : BitVec 32) : Nat :=
  let c0_i32_1674 : BitVec 32 := 0#32
  let c1_i32_1673 : BitVec 32 := 1#32
  let v1140 : BitVec 32 := Scalar.muli v1 c1_i32_1673
  let v1141 : BitVec 32 := Scalar.addi c0_i32_1674 v1140
  v1141.toNat
def k0_dev58 (v0 : BitVec 32) : Nat :=
  let c0_i32_1697 : BitVec 32 := 0#32
  let c1_i32_1696 : BitVec 32 := 1#32
  let v1150 : BitVec 32 := Scalar.muli v0 c1_i32_1696
  let v1151 : BitVec 32 := Scalar.addi c0_i32_1697 v1150
  v1151.toNat
def k0_dev59 (v0 : BitVec 32) : Nat :=
  let c0_i32_1731 : BitVec 32 := 0#32
  let c1_i32_1730 : BitVec 32 := 1#32
  let v1174 : BitVec 32 := Scalar.muli v0 c1_i32_1730
  let v1175 : BitVec 32 := Scalar.addi c0_i32_1731 v1174
  v1175.toNat
def k0_dev60 (v1 : BitVec 32) : Nat :=
  let c0_i32_1754 : BitVec 32 := 0#32
  let c1_i32_1753 : BitVec 32 := 1#32
  let v1184 : BitVec 32 := Scalar.muli v1 c1_i32_1753
  let v1185 : BitVec 32 := Scalar.addi c0_i32_1754 v1184
  v1185.toNat
def k0_dev61 (v0 : BitVec 32) : Nat :=
  let c0_i32_1788 : BitVec 32 := 0#32
  let c1_i32_1787 : BitVec 32 := 1#32
  let v1208 : BitVec 32 := Scalar.muli v0 c1_i32_1787
  let v1209 : BitVec 32 := Scalar.addi c0_i32_1788 v1208
  v1209.toNat
def k0_dev62 (v1 : BitVec 32) : Nat :=
  let c0_i32_1811 : BitVec 32 := 0#32
  let c1_i32_1810 : BitVec 32 := 1#32
  let v1218 : BitVec 32 := Scalar.muli v1 c1_i32_1810
  let v1219 : BitVec 32 := Scalar.addi c0_i32_1811 v1218
  v1219.toNat
def k0_off20 (v1228 : BitVec 32) : Fin 2 → Nat :=
  let c128_i32_1816 : BitVec 32 := 128#32
  let v1229 : BitVec 32 := Scalar.muli v1228 c128_i32_1816
  let v1230 : Index := Scalar.indexCast v1229
  let c0_1817 : Index := 0#32
  ![v1230.toNat, 0]

def k0_chk22 (v1228 : BitVec 32) : Prop :=
  (∀ a, (k0_off20 v1228) a + S128x128.size a ≤ S4096x128.size a)
theorem k0_off20_inb : ∀ (v1228 : BitVec 32) (k0_hw22 : k0_chk22 v1228), ∀ a, (k0_off20 v1228) a + S128x128.size a ≤ S4096x128.size a := fun v1228 k0_hw22 => k0_hw22

def k0_off21 (v1239 : BitVec 32) : Fin 2 → Nat :=
  let c128_i32_1824 : BitVec 32 := 128#32
  let v1240 : BitVec 32 := Scalar.muli v1239 c128_i32_1824
  let v1241 : Index := Scalar.indexCast v1240
  let c0_1825 : Index := 0#32
  ![v1241.toNat, 0]

def k0_chk23 (v1239 : BitVec 32) : Prop :=
  (∀ a, (k0_off21 v1239) a + S128x128.size a ≤ S4096x128.size a)
theorem k0_off21_inb : ∀ (v1239 : BitVec 32) (k0_hw23 : k0_chk23 v1239), ∀ a, (k0_off21 v1239) a + S128x128.size a ≤ S4096x128.size a := fun v1239 k0_hw23 => k0_hw23

def k0_dev63 (v1 : BitVec 32) : Nat :=
  let c0_i32_1861 : BitVec 32 := 0#32
  let c1_i32_1860 : BitVec 32 := 1#32
  let v1264 : BitVec 32 := Scalar.muli v1 c1_i32_1860
  let v1265 : BitVec 32 := Scalar.addi c0_i32_1861 v1264
  v1265.toNat
def k0_dev64 (v0 : BitVec 32) : Nat :=
  let c0_i32_1884 : BitVec 32 := 0#32
  let c1_i32_1883 : BitVec 32 := 1#32
  let v1274 : BitVec 32 := Scalar.muli v0 c1_i32_1883
  let v1275 : BitVec 32 := Scalar.addi c0_i32_1884 v1274
  v1275.toNat
def k0_dev65 (v1 : BitVec 32) : Nat :=
  let c0_i32_1918 : BitVec 32 := 0#32
  let c1_i32_1917 : BitVec 32 := 1#32
  let v1298 : BitVec 32 := Scalar.muli v1 c1_i32_1917
  let v1299 : BitVec 32 := Scalar.addi c0_i32_1918 v1298
  v1299.toNat
def k0_dev66 (v0 : BitVec 32) : Nat :=
  let c0_i32_1941 : BitVec 32 := 0#32
  let c1_i32_1940 : BitVec 32 := 1#32
  let v1308 : BitVec 32 := Scalar.muli v0 c1_i32_1940
  let v1309 : BitVec 32 := Scalar.addi c0_i32_1941 v1308
  v1309.toNat
def k0_dev67 (v0 : BitVec 32) : Nat :=
  let c0_i32_1975 : BitVec 32 := 0#32
  let c1_i32_1974 : BitVec 32 := 1#32
  let v1332 : BitVec 32 := Scalar.muli v0 c1_i32_1974
  let v1333 : BitVec 32 := Scalar.addi c0_i32_1975 v1332
  v1333.toNat
def k0_dev68 (v1 : BitVec 32) : Nat :=
  let c0_i32_1998 : BitVec 32 := 0#32
  let c1_i32_1997 : BitVec 32 := 1#32
  let v1342 : BitVec 32 := Scalar.muli v1 c1_i32_1997
  let v1343 : BitVec 32 := Scalar.addi c0_i32_1998 v1342
  v1343.toNat
def k0_dev69 (v0 : BitVec 32) : Nat :=
  let c0_i32_2032 : BitVec 32 := 0#32
  let c1_i32_2031 : BitVec 32 := 1#32
  let v1366 : BitVec 32 := Scalar.muli v0 c1_i32_2031
  let v1367 : BitVec 32 := Scalar.addi c0_i32_2032 v1366
  v1367.toNat
def k0_dev70 (v1 : BitVec 32) : Nat :=
  let c0_i32_2055 : BitVec 32 := 0#32
  let c1_i32_2054 : BitVec 32 := 1#32
  let v1376 : BitVec 32 := Scalar.muli v1 c1_i32_2054
  let v1377 : BitVec 32 := Scalar.addi c0_i32_2055 v1376
  v1377.toNat
def k0_off22 (v1386 : BitVec 32) : Fin 2 → Nat :=
  let c128_i32_2060 : BitVec 32 := 128#32
  let v1387 : BitVec 32 := Scalar.muli v1386 c128_i32_2060
  let v1388 : Index := Scalar.indexCast v1387
  let c0_2061 : Index := 0#32
  ![v1388.toNat, 0]

def k0_chk24 (v1386 : BitVec 32) : Prop :=
  (∀ a, (k0_off22 v1386) a + S128x128.size a ≤ S4096x128.size a)
theorem k0_off22_inb : ∀ (v1386 : BitVec 32) (k0_hw24 : k0_chk24 v1386), ∀ a, (k0_off22 v1386) a + S128x128.size a ≤ S4096x128.size a := fun v1386 k0_hw24 => k0_hw24

def k0_off23 (v1397 : BitVec 32) : Fin 2 → Nat :=
  let c128_i32_2068 : BitVec 32 := 128#32
  let v1398 : BitVec 32 := Scalar.muli v1397 c128_i32_2068
  let v1399 : Index := Scalar.indexCast v1398
  let c0_2069 : Index := 0#32
  ![v1399.toNat, 0]

def k0_chk25 (v1397 : BitVec 32) : Prop :=
  (∀ a, (k0_off23 v1397) a + S128x128.size a ≤ S4096x128.size a)
theorem k0_off23_inb : ∀ (v1397 : BitVec 32) (k0_hw25 : k0_chk25 v1397), ∀ a, (k0_off23 v1397) a + S128x128.size a ≤ S4096x128.size a := fun v1397 k0_hw25 => k0_hw25

def k0_dev71 (v1 : BitVec 32) : Nat :=
  let c0_i32_2105 : BitVec 32 := 0#32
  let c1_i32_2104 : BitVec 32 := 1#32
  let v1422 : BitVec 32 := Scalar.muli v1 c1_i32_2104
  let v1423 : BitVec 32 := Scalar.addi c0_i32_2105 v1422
  v1423.toNat
def k0_dev72 (v0 : BitVec 32) : Nat :=
  let c0_i32_2128 : BitVec 32 := 0#32
  let c1_i32_2127 : BitVec 32 := 1#32
  let v1432 : BitVec 32 := Scalar.muli v0 c1_i32_2127
  let v1433 : BitVec 32 := Scalar.addi c0_i32_2128 v1432
  v1433.toNat
def k0_dev73 (v1 : BitVec 32) : Nat :=
  let c0_i32_2162 : BitVec 32 := 0#32
  let c1_i32_2161 : BitVec 32 := 1#32
  let v1456 : BitVec 32 := Scalar.muli v1 c1_i32_2161
  let v1457 : BitVec 32 := Scalar.addi c0_i32_2162 v1456
  v1457.toNat
def k0_dev74 (v0 : BitVec 32) : Nat :=
  let c0_i32_2185 : BitVec 32 := 0#32
  let c1_i32_2184 : BitVec 32 := 1#32
  let v1466 : BitVec 32 := Scalar.muli v0 c1_i32_2184
  let v1467 : BitVec 32 := Scalar.addi c0_i32_2185 v1466
  v1467.toNat
def k0_dev75 (v0 : BitVec 32) : Nat :=
  let c0_i32_2219 : BitVec 32 := 0#32
  let c1_i32_2218 : BitVec 32 := 1#32
  let v1490 : BitVec 32 := Scalar.muli v0 c1_i32_2218
  let v1491 : BitVec 32 := Scalar.addi c0_i32_2219 v1490
  v1491.toNat
def k0_dev76 (v1 : BitVec 32) : Nat :=
  let c0_i32_2242 : BitVec 32 := 0#32
  let c1_i32_2241 : BitVec 32 := 1#32
  let v1500 : BitVec 32 := Scalar.muli v1 c1_i32_2241
  let v1501 : BitVec 32 := Scalar.addi c0_i32_2242 v1500
  v1501.toNat
def k0_dev77 (v0 : BitVec 32) : Nat :=
  let c0_i32_2276 : BitVec 32 := 0#32
  let c1_i32_2275 : BitVec 32 := 1#32
  let v1524 : BitVec 32 := Scalar.muli v0 c1_i32_2275
  let v1525 : BitVec 32 := Scalar.addi c0_i32_2276 v1524
  v1525.toNat
def k0_dev78 (v1 : BitVec 32) : Nat :=
  let c0_i32_2299 : BitVec 32 := 0#32
  let c1_i32_2298 : BitVec 32 := 1#32
  let v1534 : BitVec 32 := Scalar.muli v1 c1_i32_2298
  let v1535 : BitVec 32 := Scalar.addi c0_i32_2299 v1534
  v1535.toNat
def k0_off24 (v1544 : BitVec 32) : Fin 2 → Nat :=
  let c128_i32_2304 : BitVec 32 := 128#32
  let v1545 : BitVec 32 := Scalar.muli v1544 c128_i32_2304
  let v1546 : Index := Scalar.indexCast v1545
  let c0_2305 : Index := 0#32
  ![v1546.toNat, 0]

def k0_chk26 (v1544 : BitVec 32) : Prop :=
  (∀ a, (k0_off24 v1544) a + S128x128.size a ≤ S4096x128.size a)
theorem k0_off24_inb : ∀ (v1544 : BitVec 32) (k0_hw26 : k0_chk26 v1544), ∀ a, (k0_off24 v1544) a + S128x128.size a ≤ S4096x128.size a := fun v1544 k0_hw26 => k0_hw26

def k0_off25 (v1555 : BitVec 32) : Fin 2 → Nat :=
  let c128_i32_2312 : BitVec 32 := 128#32
  let v1556 : BitVec 32 := Scalar.muli v1555 c128_i32_2312
  let v1557 : Index := Scalar.indexCast v1556
  let c0_2313 : Index := 0#32
  ![v1557.toNat, 0]

def k0_chk27 (v1555 : BitVec 32) : Prop :=
  (∀ a, (k0_off25 v1555) a + S128x128.size a ≤ S4096x128.size a)
theorem k0_off25_inb : ∀ (v1555 : BitVec 32) (k0_hw27 : k0_chk27 v1555), ∀ a, (k0_off25 v1555) a + S128x128.size a ≤ S4096x128.size a := fun v1555 k0_hw27 => k0_hw27

def k0_dev79 (v1 : BitVec 32) : Nat :=
  let c0_i32_2349 : BitVec 32 := 0#32
  let c1_i32_2348 : BitVec 32 := 1#32
  let v1580 : BitVec 32 := Scalar.muli v1 c1_i32_2348
  let v1581 : BitVec 32 := Scalar.addi c0_i32_2349 v1580
  v1581.toNat
def k0_dev80 (v0 : BitVec 32) : Nat :=
  let c0_i32_2372 : BitVec 32 := 0#32
  let c1_i32_2371 : BitVec 32 := 1#32
  let v1590 : BitVec 32 := Scalar.muli v0 c1_i32_2371
  let v1591 : BitVec 32 := Scalar.addi c0_i32_2372 v1590
  v1591.toNat
def k0_dev81 (v1 : BitVec 32) : Nat :=
  let c0_i32_2406 : BitVec 32 := 0#32
  let c1_i32_2405 : BitVec 32 := 1#32
  let v1614 : BitVec 32 := Scalar.muli v1 c1_i32_2405
  let v1615 : BitVec 32 := Scalar.addi c0_i32_2406 v1614
  v1615.toNat
def k0_dev82 (v0 : BitVec 32) : Nat :=
  let c0_i32_2429 : BitVec 32 := 0#32
  let c1_i32_2428 : BitVec 32 := 1#32
  let v1624 : BitVec 32 := Scalar.muli v0 c1_i32_2428
  let v1625 : BitVec 32 := Scalar.addi c0_i32_2429 v1624
  v1625.toNat
def k0_dev83 (v0 : BitVec 32) : Nat :=
  let c0_i32_2463 : BitVec 32 := 0#32
  let c1_i32_2462 : BitVec 32 := 1#32
  let v1648 : BitVec 32 := Scalar.muli v0 c1_i32_2462
  let v1649 : BitVec 32 := Scalar.addi c0_i32_2463 v1648
  v1649.toNat
def k0_dev84 (v1 : BitVec 32) : Nat :=
  let c0_i32_2486 : BitVec 32 := 0#32
  let c1_i32_2485 : BitVec 32 := 1#32
  let v1658 : BitVec 32 := Scalar.muli v1 c1_i32_2485
  let v1659 : BitVec 32 := Scalar.addi c0_i32_2486 v1658
  v1659.toNat
def k0_dev85 (v0 : BitVec 32) : Nat :=
  let c0_i32_2520 : BitVec 32 := 0#32
  let c1_i32_2519 : BitVec 32 := 1#32
  let v1682 : BitVec 32 := Scalar.muli v0 c1_i32_2519
  let v1683 : BitVec 32 := Scalar.addi c0_i32_2520 v1682
  v1683.toNat
def k0_dev86 (v1 : BitVec 32) : Nat :=
  let c0_i32_2543 : BitVec 32 := 0#32
  let c1_i32_2542 : BitVec 32 := 1#32
  let v1692 : BitVec 32 := Scalar.muli v1 c1_i32_2542
  let v1693 : BitVec 32 := Scalar.addi c0_i32_2543 v1692
  v1693.toNat
def k0_off26 (v1702 : BitVec 32) : Fin 2 → Nat :=
  let c128_i32_2548 : BitVec 32 := 128#32
  let v1703 : BitVec 32 := Scalar.muli v1702 c128_i32_2548
  let v1704 : Index := Scalar.indexCast v1703
  let c0_2549 : Index := 0#32
  ![v1704.toNat, 0]

def k0_chk28 (v1702 : BitVec 32) : Prop :=
  (∀ a, (k0_off26 v1702) a + S128x128.size a ≤ S4096x128.size a)
theorem k0_off26_inb : ∀ (v1702 : BitVec 32) (k0_hw28 : k0_chk28 v1702), ∀ a, (k0_off26 v1702) a + S128x128.size a ≤ S4096x128.size a := fun v1702 k0_hw28 => k0_hw28

def k0_off27 (v1713 : BitVec 32) : Fin 2 → Nat :=
  let c128_i32_2556 : BitVec 32 := 128#32
  let v1714 : BitVec 32 := Scalar.muli v1713 c128_i32_2556
  let v1715 : Index := Scalar.indexCast v1714
  let c0_2557 : Index := 0#32
  ![v1715.toNat, 0]

def k0_chk29 (v1713 : BitVec 32) : Prop :=
  (∀ a, (k0_off27 v1713) a + S128x128.size a ≤ S4096x128.size a)
theorem k0_off27_inb : ∀ (v1713 : BitVec 32) (k0_hw29 : k0_chk29 v1713), ∀ a, (k0_off27 v1713) a + S128x128.size a ≤ S4096x128.size a := fun v1713 k0_hw29 => k0_hw29

def k0_dev87 (v1 : BitVec 32) : Nat :=
  let c0_i32_2593 : BitVec 32 := 0#32
  let c1_i32_2592 : BitVec 32 := 1#32
  let v1738 : BitVec 32 := Scalar.muli v1 c1_i32_2592
  let v1739 : BitVec 32 := Scalar.addi c0_i32_2593 v1738
  v1739.toNat
def k0_dev88 (v0 : BitVec 32) : Nat :=
  let c0_i32_2616 : BitVec 32 := 0#32
  let c1_i32_2615 : BitVec 32 := 1#32
  let v1748 : BitVec 32 := Scalar.muli v0 c1_i32_2615
  let v1749 : BitVec 32 := Scalar.addi c0_i32_2616 v1748
  v1749.toNat
def k0_dev89 (v1 : BitVec 32) : Nat :=
  let c0_i32_2650 : BitVec 32 := 0#32
  let c1_i32_2649 : BitVec 32 := 1#32
  let v1772 : BitVec 32 := Scalar.muli v1 c1_i32_2649
  let v1773 : BitVec 32 := Scalar.addi c0_i32_2650 v1772
  v1773.toNat
def k0_dev90 (v0 : BitVec 32) : Nat :=
  let c0_i32_2673 : BitVec 32 := 0#32
  let c1_i32_2672 : BitVec 32 := 1#32
  let v1782 : BitVec 32 := Scalar.muli v0 c1_i32_2672
  let v1783 : BitVec 32 := Scalar.addi c0_i32_2673 v1782
  v1783.toNat
def k0_dev91 (v0 : BitVec 32) : Nat :=
  let c0_i32_2707 : BitVec 32 := 0#32
  let c1_i32_2706 : BitVec 32 := 1#32
  let v1806 : BitVec 32 := Scalar.muli v0 c1_i32_2706
  let v1807 : BitVec 32 := Scalar.addi c0_i32_2707 v1806
  v1807.toNat
def k0_dev92 (v1 : BitVec 32) : Nat :=
  let c0_i32_2730 : BitVec 32 := 0#32
  let c1_i32_2729 : BitVec 32 := 1#32
  let v1816 : BitVec 32 := Scalar.muli v1 c1_i32_2729
  let v1817 : BitVec 32 := Scalar.addi c0_i32_2730 v1816
  v1817.toNat
def k0_dev93 (v0 : BitVec 32) : Nat :=
  let c0_i32_2764 : BitVec 32 := 0#32
  let c1_i32_2763 : BitVec 32 := 1#32
  let v1840 : BitVec 32 := Scalar.muli v0 c1_i32_2763
  let v1841 : BitVec 32 := Scalar.addi c0_i32_2764 v1840
  v1841.toNat
def k0_dev94 (v1 : BitVec 32) : Nat :=
  let c0_i32_2787 : BitVec 32 := 0#32
  let c1_i32_2786 : BitVec 32 := 1#32
  let v1850 : BitVec 32 := Scalar.muli v1 c1_i32_2786
  let v1851 : BitVec 32 := Scalar.addi c0_i32_2787 v1850
  v1851.toNat
def k0_off28 (v1860 : BitVec 32) : Fin 2 → Nat :=
  let c128_i32_2792 : BitVec 32 := 128#32
  let v1861 : BitVec 32 := Scalar.muli v1860 c128_i32_2792
  let v1862 : Index := Scalar.indexCast v1861
  let c0_2793 : Index := 0#32
  ![v1862.toNat, 0]

def k0_chk30 (v1860 : BitVec 32) : Prop :=
  (∀ a, (k0_off28 v1860) a + S128x128.size a ≤ S4096x128.size a)
theorem k0_off28_inb : ∀ (v1860 : BitVec 32) (k0_hw30 : k0_chk30 v1860), ∀ a, (k0_off28 v1860) a + S128x128.size a ≤ S4096x128.size a := fun v1860 k0_hw30 => k0_hw30

def k0_off29 (v1871 : BitVec 32) : Fin 2 → Nat :=
  let c128_i32_2800 : BitVec 32 := 128#32
  let v1872 : BitVec 32 := Scalar.muli v1871 c128_i32_2800
  let v1873 : Index := Scalar.indexCast v1872
  let c0_2801 : Index := 0#32
  ![v1873.toNat, 0]

def k0_chk31 (v1871 : BitVec 32) : Prop :=
  (∀ a, (k0_off29 v1871) a + S128x128.size a ≤ S4096x128.size a)
theorem k0_off29_inb : ∀ (v1871 : BitVec 32) (k0_hw31 : k0_chk31 v1871), ∀ a, (k0_off29 v1871) a + S128x128.size a ≤ S4096x128.size a := fun v1871 k0_hw31 => k0_hw31

def k0_dev95 (v1 : BitVec 32) : Nat :=
  let c0_i32_2837 : BitVec 32 := 0#32
  let c1_i32_2836 : BitVec 32 := 1#32
  let v1896 : BitVec 32 := Scalar.muli v1 c1_i32_2836
  let v1897 : BitVec 32 := Scalar.addi c0_i32_2837 v1896
  v1897.toNat
def k0_dev96 (v0 : BitVec 32) : Nat :=
  let c0_i32_2860 : BitVec 32 := 0#32
  let c1_i32_2859 : BitVec 32 := 1#32
  let v1906 : BitVec 32 := Scalar.muli v0 c1_i32_2859
  let v1907 : BitVec 32 := Scalar.addi c0_i32_2860 v1906
  v1907.toNat
def k0_dev97 (v1 : BitVec 32) : Nat :=
  let c0_i32_2894 : BitVec 32 := 0#32
  let c1_i32_2893 : BitVec 32 := 1#32
  let v1930 : BitVec 32 := Scalar.muli v1 c1_i32_2893
  let v1931 : BitVec 32 := Scalar.addi c0_i32_2894 v1930
  v1931.toNat
def k0_dev98 (v0 : BitVec 32) : Nat :=
  let c0_i32_2917 : BitVec 32 := 0#32
  let c1_i32_2916 : BitVec 32 := 1#32
  let v1940 : BitVec 32 := Scalar.muli v0 c1_i32_2916
  let v1941 : BitVec 32 := Scalar.addi c0_i32_2917 v1940
  v1941.toNat
def k0_dev99 (v0 : BitVec 32) : Nat :=
  let c0_i32_2951 : BitVec 32 := 0#32
  let c1_i32_2950 : BitVec 32 := 1#32
  let v1964 : BitVec 32 := Scalar.muli v0 c1_i32_2950
  let v1965 : BitVec 32 := Scalar.addi c0_i32_2951 v1964
  v1965.toNat
def k0_dev100 (v1 : BitVec 32) : Nat :=
  let c0_i32_2974 : BitVec 32 := 0#32
  let c1_i32_2973 : BitVec 32 := 1#32
  let v1974 : BitVec 32 := Scalar.muli v1 c1_i32_2973
  let v1975 : BitVec 32 := Scalar.addi c0_i32_2974 v1974
  v1975.toNat
def k0_dev101 (v0 : BitVec 32) : Nat :=
  let c0_i32_3008 : BitVec 32 := 0#32
  let c1_i32_3007 : BitVec 32 := 1#32
  let v1998 : BitVec 32 := Scalar.muli v0 c1_i32_3007
  let v1999 : BitVec 32 := Scalar.addi c0_i32_3008 v1998
  v1999.toNat
def k0_dev102 (v1 : BitVec 32) : Nat :=
  let c0_i32_3031 : BitVec 32 := 0#32
  let c1_i32_3030 : BitVec 32 := 1#32
  let v2008 : BitVec 32 := Scalar.muli v1 c1_i32_3030
  let v2009 : BitVec 32 := Scalar.addi c0_i32_3031 v2008
  v2009.toNat
def k0_off30 (v2018 : BitVec 32) : Fin 2 → Nat :=
  let c128_i32_3036 : BitVec 32 := 128#32
  let v2019 : BitVec 32 := Scalar.muli v2018 c128_i32_3036
  let v2020 : Index := Scalar.indexCast v2019
  let c0_3037 : Index := 0#32
  ![v2020.toNat, 0]

def k0_chk32 (v2018 : BitVec 32) : Prop :=
  (∀ a, (k0_off30 v2018) a + S128x128.size a ≤ S4096x128.size a)
theorem k0_off30_inb : ∀ (v2018 : BitVec 32) (k0_hw32 : k0_chk32 v2018), ∀ a, (k0_off30 v2018) a + S128x128.size a ≤ S4096x128.size a := fun v2018 k0_hw32 => k0_hw32

def k0_off31 (v2029 : BitVec 32) : Fin 2 → Nat :=
  let c128_i32_3044 : BitVec 32 := 128#32
  let v2030 : BitVec 32 := Scalar.muli v2029 c128_i32_3044
  let v2031 : Index := Scalar.indexCast v2030
  let c0_3045 : Index := 0#32
  ![v2031.toNat, 0]

def k0_chk33 (v2029 : BitVec 32) : Prop :=
  (∀ a, (k0_off31 v2029) a + S128x128.size a ≤ S4096x128.size a)
theorem k0_off31_inb : ∀ (v2029 : BitVec 32) (k0_hw33 : k0_chk33 v2029), ∀ a, (k0_off31 v2029) a + S128x128.size a ≤ S4096x128.size a := fun v2029 k0_hw33 => k0_hw33

def k0_dev103 (v1 : BitVec 32) : Nat :=
  let c0_i32_3081 : BitVec 32 := 0#32
  let c1_i32_3080 : BitVec 32 := 1#32
  let v2054 : BitVec 32 := Scalar.muli v1 c1_i32_3080
  let v2055 : BitVec 32 := Scalar.addi c0_i32_3081 v2054
  v2055.toNat
def k0_dev104 (v0 : BitVec 32) : Nat :=
  let c0_i32_3104 : BitVec 32 := 0#32
  let c1_i32_3103 : BitVec 32 := 1#32
  let v2064 : BitVec 32 := Scalar.muli v0 c1_i32_3103
  let v2065 : BitVec 32 := Scalar.addi c0_i32_3104 v2064
  v2065.toNat
def k0_dev105 (v1 : BitVec 32) : Nat :=
  let c0_i32_3138 : BitVec 32 := 0#32
  let c1_i32_3137 : BitVec 32 := 1#32
  let v2088 : BitVec 32 := Scalar.muli v1 c1_i32_3137
  let v2089 : BitVec 32 := Scalar.addi c0_i32_3138 v2088
  v2089.toNat
def k0_dev106 (v0 : BitVec 32) : Nat :=
  let c0_i32_3161 : BitVec 32 := 0#32
  let c1_i32_3160 : BitVec 32 := 1#32
  let v2098 : BitVec 32 := Scalar.muli v0 c1_i32_3160
  let v2099 : BitVec 32 := Scalar.addi c0_i32_3161 v2098
  v2099.toNat
def k0_dev107 (v0 : BitVec 32) : Nat :=
  let c0_i32_3195 : BitVec 32 := 0#32
  let c1_i32_3194 : BitVec 32 := 1#32
  let v2122 : BitVec 32 := Scalar.muli v0 c1_i32_3194
  let v2123 : BitVec 32 := Scalar.addi c0_i32_3195 v2122
  v2123.toNat
def k0_dev108 (v1 : BitVec 32) : Nat :=
  let c0_i32_3218 : BitVec 32 := 0#32
  let c1_i32_3217 : BitVec 32 := 1#32
  let v2132 : BitVec 32 := Scalar.muli v1 c1_i32_3217
  let v2133 : BitVec 32 := Scalar.addi c0_i32_3218 v2132
  v2133.toNat
def k0_dev109 (v0 : BitVec 32) : Nat :=
  let c0_i32_3252 : BitVec 32 := 0#32
  let c1_i32_3251 : BitVec 32 := 1#32
  let v2156 : BitVec 32 := Scalar.muli v0 c1_i32_3251
  let v2157 : BitVec 32 := Scalar.addi c0_i32_3252 v2156
  v2157.toNat
def k0_dev110 (v1 : BitVec 32) : Nat :=
  let c0_i32_3275 : BitVec 32 := 0#32
  let c1_i32_3274 : BitVec 32 := 1#32
  let v2166 : BitVec 32 := Scalar.muli v1 c1_i32_3274
  let v2167 : BitVec 32 := Scalar.addi c0_i32_3275 v2166
  v2167.toNat
def k0_off32 (v2176 : BitVec 32) : Fin 2 → Nat :=
  let c128_i32_3280 : BitVec 32 := 128#32
  let v2177 : BitVec 32 := Scalar.muli v2176 c128_i32_3280
  let v2178 : Index := Scalar.indexCast v2177
  let c0_3281 : Index := 0#32
  ![v2178.toNat, 0]

def k0_chk34 (v2176 : BitVec 32) : Prop :=
  (∀ a, (k0_off32 v2176) a + S128x128.size a ≤ S4096x128.size a)
theorem k0_off32_inb : ∀ (v2176 : BitVec 32) (k0_hw34 : k0_chk34 v2176), ∀ a, (k0_off32 v2176) a + S128x128.size a ≤ S4096x128.size a := fun v2176 k0_hw34 => k0_hw34

def k0_dev111 (v1 : BitVec 32) : Nat :=
  let c0_i32_3317 : BitVec 32 := 0#32
  let c1_i32_3316 : BitVec 32 := 1#32
  let v2201 : BitVec 32 := Scalar.muli v1 c1_i32_3316
  let v2202 : BitVec 32 := Scalar.addi c0_i32_3317 v2201
  v2202.toNat
def k0_dev112 (v0 : BitVec 32) : Nat :=
  let c0_i32_3340 : BitVec 32 := 0#32
  let c1_i32_3339 : BitVec 32 := 1#32
  let v2211 : BitVec 32 := Scalar.muli v0 c1_i32_3339
  let v2212 : BitVec 32 := Scalar.addi c0_i32_3340 v2211
  v2212.toNat
def k0_dev113 (v1 : BitVec 32) : Nat :=
  let c0_i32_3374 : BitVec 32 := 0#32
  let c1_i32_3373 : BitVec 32 := 1#32
  let v2235 : BitVec 32 := Scalar.muli v1 c1_i32_3373
  let v2236 : BitVec 32 := Scalar.addi c0_i32_3374 v2235
  v2236.toNat
def k0_dev114 (v0 : BitVec 32) : Nat :=
  let c0_i32_3397 : BitVec 32 := 0#32
  let c1_i32_3396 : BitVec 32 := 1#32
  let v2245 : BitVec 32 := Scalar.muli v0 c1_i32_3396
  let v2246 : BitVec 32 := Scalar.addi c0_i32_3397 v2245
  v2246.toNat
def k0_dev115 (v0 : BitVec 32) : Nat :=
  let c0_i32_3431 : BitVec 32 := 0#32
  let c1_i32_3430 : BitVec 32 := 1#32
  let v2269 : BitVec 32 := Scalar.muli v0 c1_i32_3430
  let v2270 : BitVec 32 := Scalar.addi c0_i32_3431 v2269
  v2270.toNat
def k0_dev116 (v1 : BitVec 32) : Nat :=
  let c0_i32_3454 : BitVec 32 := 0#32
  let c1_i32_3453 : BitVec 32 := 1#32
  let v2279 : BitVec 32 := Scalar.muli v1 c1_i32_3453
  let v2280 : BitVec 32 := Scalar.addi c0_i32_3454 v2279
  v2280.toNat
def k0_dev117 (v0 : BitVec 32) : Nat :=
  let c0_i32_3488 : BitVec 32 := 0#32
  let c1_i32_3487 : BitVec 32 := 1#32
  let v2303 : BitVec 32 := Scalar.muli v0 c1_i32_3487
  let v2304 : BitVec 32 := Scalar.addi c0_i32_3488 v2303
  v2304.toNat
def k0_dev118 (v1 : BitVec 32) : Nat :=
  let c0_i32_3511 : BitVec 32 := 0#32
  let c1_i32_3510 : BitVec 32 := 1#32
  let v2313 : BitVec 32 := Scalar.muli v1 c1_i32_3510
  let v2314 : BitVec 32 := Scalar.addi c0_i32_3511 v2313
  v2314.toNat
def k0_dev119 (v1 : BitVec 32) : Nat :=
  let c0_i32_3545 : BitVec 32 := 0#32
  let c1_i32_3544 : BitVec 32 := 1#32
  let v2337 : BitVec 32 := Scalar.muli v1 c1_i32_3544
  let v2338 : BitVec 32 := Scalar.addi c0_i32_3545 v2337
  v2338.toNat
def k0_dev120 (v0 : BitVec 32) : Nat :=
  let c0_i32_3568 : BitVec 32 := 0#32
  let c1_i32_3567 : BitVec 32 := 1#32
  let v2347 : BitVec 32 := Scalar.muli v0 c1_i32_3567
  let v2348 : BitVec 32 := Scalar.addi c0_i32_3568 v2347
  v2348.toNat
def k0_dev121 (v1 : BitVec 32) : Nat :=
  let c0_i32_3602 : BitVec 32 := 0#32
  let c1_i32_3601 : BitVec 32 := 1#32
  let v2371 : BitVec 32 := Scalar.muli v1 c1_i32_3601
  let v2372 : BitVec 32 := Scalar.addi c0_i32_3602 v2371
  v2372.toNat
def k0_dev122 (v0 : BitVec 32) : Nat :=
  let c0_i32_3625 : BitVec 32 := 0#32
  let c1_i32_3624 : BitVec 32 := 1#32
  let v2381 : BitVec 32 := Scalar.muli v0 c1_i32_3624
  let v2382 : BitVec 32 := Scalar.addi c0_i32_3625 v2381
  v2382.toNat
def k0_dev123 (v0 : BitVec 32) : Nat :=
  let c0_i32_3659 : BitVec 32 := 0#32
  let c1_i32_3658 : BitVec 32 := 1#32
  let v2405 : BitVec 32 := Scalar.muli v0 c1_i32_3658
  let v2406 : BitVec 32 := Scalar.addi c0_i32_3659 v2405
  v2406.toNat
def k0_dev124 (v1 : BitVec 32) : Nat :=
  let c0_i32_3682 : BitVec 32 := 0#32
  let c1_i32_3681 : BitVec 32 := 1#32
  let v2415 : BitVec 32 := Scalar.muli v1 c1_i32_3681
  let v2416 : BitVec 32 := Scalar.addi c0_i32_3682 v2415
  v2416.toNat
def k0_dev125 (v0 : BitVec 32) : Nat :=
  let c0_i32_3716 : BitVec 32 := 0#32
  let c1_i32_3715 : BitVec 32 := 1#32
  let v2439 : BitVec 32 := Scalar.muli v0 c1_i32_3715
  let v2440 : BitVec 32 := Scalar.addi c0_i32_3716 v2439
  v2440.toNat
def k0_dev126 (v1 : BitVec 32) : Nat :=
  let c0_i32_3739 : BitVec 32 := 0#32
  let c1_i32_3738 : BitVec 32 := 1#32
  let v2449 : BitVec 32 := Scalar.muli v1 c1_i32_3738
  let v2450 : BitVec 32 := Scalar.addi c0_i32_3739 v2449
  v2450.toNat
def k0_dev127 (v1 : BitVec 32) : Nat :=
  let c0_i32_3773 : BitVec 32 := 0#32
  let c1_i32_3772 : BitVec 32 := 1#32
  let v2473 : BitVec 32 := Scalar.muli v1 c1_i32_3772
  let v2474 : BitVec 32 := Scalar.addi c0_i32_3773 v2473
  v2474.toNat
def k0_dev128 (v0 : BitVec 32) : Nat :=
  let c0_i32_3796 : BitVec 32 := 0#32
  let c1_i32_3795 : BitVec 32 := 1#32
  let v2483 : BitVec 32 := Scalar.muli v0 c1_i32_3795
  let v2484 : BitVec 32 := Scalar.addi c0_i32_3796 v2483
  v2484.toNat
def k0_dev129 (v1 : BitVec 32) : Nat :=
  let c0_i32_3830 : BitVec 32 := 0#32
  let c1_i32_3829 : BitVec 32 := 1#32
  let v2507 : BitVec 32 := Scalar.muli v1 c1_i32_3829
  let v2508 : BitVec 32 := Scalar.addi c0_i32_3830 v2507
  v2508.toNat
def k0_dev130 (v0 : BitVec 32) : Nat :=
  let c0_i32_3853 : BitVec 32 := 0#32
  let c1_i32_3852 : BitVec 32 := 1#32
  let v2517 : BitVec 32 := Scalar.muli v0 c1_i32_3852
  let v2518 : BitVec 32 := Scalar.addi c0_i32_3853 v2517
  v2518.toNat
def k0_dev131 (v0 : BitVec 32) : Nat :=
  let c0_i32_3887 : BitVec 32 := 0#32
  let c1_i32_3886 : BitVec 32 := 1#32
  let v2541 : BitVec 32 := Scalar.muli v0 c1_i32_3886
  let v2542 : BitVec 32 := Scalar.addi c0_i32_3887 v2541
  v2542.toNat
def k0_dev132 (v1 : BitVec 32) : Nat :=
  let c0_i32_3910 : BitVec 32 := 0#32
  let c1_i32_3909 : BitVec 32 := 1#32
  let v2551 : BitVec 32 := Scalar.muli v1 c1_i32_3909
  let v2552 : BitVec 32 := Scalar.addi c0_i32_3910 v2551
  v2552.toNat
def k0_dev133 (v0 : BitVec 32) : Nat :=
  let c0_i32_3944 : BitVec 32 := 0#32
  let c1_i32_3943 : BitVec 32 := 1#32
  let v2575 : BitVec 32 := Scalar.muli v0 c1_i32_3943
  let v2576 : BitVec 32 := Scalar.addi c0_i32_3944 v2575
  v2576.toNat
def k0_dev134 (v1 : BitVec 32) : Nat :=
  let c0_i32_3967 : BitVec 32 := 0#32
  let c1_i32_3966 : BitVec 32 := 1#32
  let v2585 : BitVec 32 := Scalar.muli v1 c1_i32_3966
  let v2586 : BitVec 32 := Scalar.addi c0_i32_3967 v2585
  v2586.toNat
def k0_dev135 (v1 : BitVec 32) : Nat :=
  let c0_i32_4001 : BitVec 32 := 0#32
  let c1_i32_4000 : BitVec 32 := 1#32
  let v2609 : BitVec 32 := Scalar.muli v1 c1_i32_4000
  let v2610 : BitVec 32 := Scalar.addi c0_i32_4001 v2609
  v2610.toNat
def k0_dev136 (v0 : BitVec 32) : Nat :=
  let c0_i32_4024 : BitVec 32 := 0#32
  let c1_i32_4023 : BitVec 32 := 1#32
  let v2619 : BitVec 32 := Scalar.muli v0 c1_i32_4023
  let v2620 : BitVec 32 := Scalar.addi c0_i32_4024 v2619
  v2620.toNat
def k0_dev137 (v1 : BitVec 32) : Nat :=
  let c0_i32_4058 : BitVec 32 := 0#32
  let c1_i32_4057 : BitVec 32 := 1#32
  let v2643 : BitVec 32 := Scalar.muli v1 c1_i32_4057
  let v2644 : BitVec 32 := Scalar.addi c0_i32_4058 v2643
  v2644.toNat
def k0_dev138 (v0 : BitVec 32) : Nat :=
  let c0_i32_4081 : BitVec 32 := 0#32
  let c1_i32_4080 : BitVec 32 := 1#32
  let v2653 : BitVec 32 := Scalar.muli v0 c1_i32_4080
  let v2654 : BitVec 32 := Scalar.addi c0_i32_4081 v2653
  v2654.toNat
def k0_dev139 (v0 : BitVec 32) : Nat :=
  let c0_i32_4115 : BitVec 32 := 0#32
  let c1_i32_4114 : BitVec 32 := 1#32
  let v2677 : BitVec 32 := Scalar.muli v0 c1_i32_4114
  let v2678 : BitVec 32 := Scalar.addi c0_i32_4115 v2677
  v2678.toNat
def k0_dev140 (v1 : BitVec 32) : Nat :=
  let c0_i32_4138 : BitVec 32 := 0#32
  let c1_i32_4137 : BitVec 32 := 1#32
  let v2687 : BitVec 32 := Scalar.muli v1 c1_i32_4137
  let v2688 : BitVec 32 := Scalar.addi c0_i32_4138 v2687
  v2688.toNat
def k0_dev141 (v0 : BitVec 32) : Nat :=
  let c0_i32_4172 : BitVec 32 := 0#32
  let c1_i32_4171 : BitVec 32 := 1#32
  let v2711 : BitVec 32 := Scalar.muli v0 c1_i32_4171
  let v2712 : BitVec 32 := Scalar.addi c0_i32_4172 v2711
  v2712.toNat
def k0_dev142 (v1 : BitVec 32) : Nat :=
  let c0_i32_4195 : BitVec 32 := 0#32
  let c1_i32_4194 : BitVec 32 := 1#32
  let v2721 : BitVec 32 := Scalar.muli v1 c1_i32_4194
  let v2722 : BitVec 32 := Scalar.addi c0_i32_4195 v2721
  v2722.toNat
def k0_dev143 (v1 : BitVec 32) : Nat :=
  let c0_i32_4229 : BitVec 32 := 0#32
  let c1_i32_4228 : BitVec 32 := 1#32
  let v2745 : BitVec 32 := Scalar.muli v1 c1_i32_4228
  let v2746 : BitVec 32 := Scalar.addi c0_i32_4229 v2745
  v2746.toNat
def k0_dev144 (v0 : BitVec 32) : Nat :=
  let c0_i32_4252 : BitVec 32 := 0#32
  let c1_i32_4251 : BitVec 32 := 1#32
  let v2755 : BitVec 32 := Scalar.muli v0 c1_i32_4251
  let v2756 : BitVec 32 := Scalar.addi c0_i32_4252 v2755
  v2756.toNat
def k0_dev145 (v1 : BitVec 32) : Nat :=
  let c0_i32_4286 : BitVec 32 := 0#32
  let c1_i32_4285 : BitVec 32 := 1#32
  let v2779 : BitVec 32 := Scalar.muli v1 c1_i32_4285
  let v2780 : BitVec 32 := Scalar.addi c0_i32_4286 v2779
  v2780.toNat
def k0_dev146 (v0 : BitVec 32) : Nat :=
  let c0_i32_4309 : BitVec 32 := 0#32
  let c1_i32_4308 : BitVec 32 := 1#32
  let v2789 : BitVec 32 := Scalar.muli v0 c1_i32_4308
  let v2790 : BitVec 32 := Scalar.addi c0_i32_4309 v2789
  v2790.toNat
def k0_dev147 (v0 : BitVec 32) : Nat :=
  let c0_i32_4343 : BitVec 32 := 0#32
  let c1_i32_4342 : BitVec 32 := 1#32
  let v2813 : BitVec 32 := Scalar.muli v0 c1_i32_4342
  let v2814 : BitVec 32 := Scalar.addi c0_i32_4343 v2813
  v2814.toNat
def k0_dev148 (v1 : BitVec 32) : Nat :=
  let c0_i32_4366 : BitVec 32 := 0#32
  let c1_i32_4365 : BitVec 32 := 1#32
  let v2823 : BitVec 32 := Scalar.muli v1 c1_i32_4365
  let v2824 : BitVec 32 := Scalar.addi c0_i32_4366 v2823
  v2824.toNat
def k0_dev149 (v0 : BitVec 32) : Nat :=
  let c0_i32_4400 : BitVec 32 := 0#32
  let c1_i32_4399 : BitVec 32 := 1#32
  let v2847 : BitVec 32 := Scalar.muli v0 c1_i32_4399
  let v2848 : BitVec 32 := Scalar.addi c0_i32_4400 v2847
  v2848.toNat
def k0_dev150 (v1 : BitVec 32) : Nat :=
  let c0_i32_4423 : BitVec 32 := 0#32
  let c1_i32_4422 : BitVec 32 := 1#32
  let v2857 : BitVec 32 := Scalar.muli v1 c1_i32_4422
  let v2858 : BitVec 32 := Scalar.addi c0_i32_4423 v2857
  v2858.toNat
def k0_dev151 (v1 : BitVec 32) : Nat :=
  let c0_i32_4457 : BitVec 32 := 0#32
  let c1_i32_4456 : BitVec 32 := 1#32
  let v2881 : BitVec 32 := Scalar.muli v1 c1_i32_4456
  let v2882 : BitVec 32 := Scalar.addi c0_i32_4457 v2881
  v2882.toNat
def k0_dev152 (v0 : BitVec 32) : Nat :=
  let c0_i32_4480 : BitVec 32 := 0#32
  let c1_i32_4479 : BitVec 32 := 1#32
  let v2891 : BitVec 32 := Scalar.muli v0 c1_i32_4479
  let v2892 : BitVec 32 := Scalar.addi c0_i32_4480 v2891
  v2892.toNat
def k0_dev153 (v1 : BitVec 32) : Nat :=
  let c0_i32_4514 : BitVec 32 := 0#32
  let c1_i32_4513 : BitVec 32 := 1#32
  let v2915 : BitVec 32 := Scalar.muli v1 c1_i32_4513
  let v2916 : BitVec 32 := Scalar.addi c0_i32_4514 v2915
  v2916.toNat
def k0_dev154 (v0 : BitVec 32) : Nat :=
  let c0_i32_4537 : BitVec 32 := 0#32
  let c1_i32_4536 : BitVec 32 := 1#32
  let v2925 : BitVec 32 := Scalar.muli v0 c1_i32_4536
  let v2926 : BitVec 32 := Scalar.addi c0_i32_4537 v2925
  v2926.toNat
def k0_dev155 (v0 : BitVec 32) : Nat :=
  let c0_i32_4571 : BitVec 32 := 0#32
  let c1_i32_4570 : BitVec 32 := 1#32
  let v2949 : BitVec 32 := Scalar.muli v0 c1_i32_4570
  let v2950 : BitVec 32 := Scalar.addi c0_i32_4571 v2949
  v2950.toNat
def k0_dev156 (v1 : BitVec 32) : Nat :=
  let c0_i32_4594 : BitVec 32 := 0#32
  let c1_i32_4593 : BitVec 32 := 1#32
  let v2959 : BitVec 32 := Scalar.muli v1 c1_i32_4593
  let v2960 : BitVec 32 := Scalar.addi c0_i32_4594 v2959
  v2960.toNat
def k0_dev157 (v0 : BitVec 32) : Nat :=
  let c0_i32_4628 : BitVec 32 := 0#32
  let c1_i32_4627 : BitVec 32 := 1#32
  let v2983 : BitVec 32 := Scalar.muli v0 c1_i32_4627
  let v2984 : BitVec 32 := Scalar.addi c0_i32_4628 v2983
  v2984.toNat
def k0_dev158 (v1 : BitVec 32) : Nat :=
  let c0_i32_4651 : BitVec 32 := 0#32
  let c1_i32_4650 : BitVec 32 := 1#32
  let v2993 : BitVec 32 := Scalar.muli v1 c1_i32_4650
  let v2994 : BitVec 32 := Scalar.addi c0_i32_4651 v2993
  v2994.toNat
def k0_dev159 (v1 : BitVec 32) : Nat :=
  let c0_i32_4685 : BitVec 32 := 0#32
  let c1_i32_4684 : BitVec 32 := 1#32
  let v3017 : BitVec 32 := Scalar.muli v1 c1_i32_4684
  let v3018 : BitVec 32 := Scalar.addi c0_i32_4685 v3017
  v3018.toNat
def k0_dev160 (v0 : BitVec 32) : Nat :=
  let c0_i32_4708 : BitVec 32 := 0#32
  let c1_i32_4707 : BitVec 32 := 1#32
  let v3027 : BitVec 32 := Scalar.muli v0 c1_i32_4707
  let v3028 : BitVec 32 := Scalar.addi c0_i32_4708 v3027
  v3028.toNat
def k0_dev161 (v1 : BitVec 32) : Nat :=
  let c0_i32_4742 : BitVec 32 := 0#32
  let c1_i32_4741 : BitVec 32 := 1#32
  let v3051 : BitVec 32 := Scalar.muli v1 c1_i32_4741
  let v3052 : BitVec 32 := Scalar.addi c0_i32_4742 v3051
  v3052.toNat
def k0_dev162 (v0 : BitVec 32) : Nat :=
  let c0_i32_4765 : BitVec 32 := 0#32
  let c1_i32_4764 : BitVec 32 := 1#32
  let v3061 : BitVec 32 := Scalar.muli v0 c1_i32_4764
  let v3062 : BitVec 32 := Scalar.addi c0_i32_4765 v3061
  v3062.toNat
def k0_dev163 (v0 : BitVec 32) : Nat :=
  let c0_i32_4799 : BitVec 32 := 0#32
  let c1_i32_4798 : BitVec 32 := 1#32
  let v3085 : BitVec 32 := Scalar.muli v0 c1_i32_4798
  let v3086 : BitVec 32 := Scalar.addi c0_i32_4799 v3085
  v3086.toNat
def k0_dev164 (v1 : BitVec 32) : Nat :=
  let c0_i32_4822 : BitVec 32 := 0#32
  let c1_i32_4821 : BitVec 32 := 1#32
  let v3095 : BitVec 32 := Scalar.muli v1 c1_i32_4821
  let v3096 : BitVec 32 := Scalar.addi c0_i32_4822 v3095
  v3096.toNat
def k0_dev165 (v0 : BitVec 32) : Nat :=
  let c0_i32_4856 : BitVec 32 := 0#32
  let c1_i32_4855 : BitVec 32 := 1#32
  let v3119 : BitVec 32 := Scalar.muli v0 c1_i32_4855
  let v3120 : BitVec 32 := Scalar.addi c0_i32_4856 v3119
  v3120.toNat
def k0_dev166 (v1 : BitVec 32) : Nat :=
  let c0_i32_4879 : BitVec 32 := 0#32
  let c1_i32_4878 : BitVec 32 := 1#32
  let v3129 : BitVec 32 := Scalar.muli v1 c1_i32_4878
  let v3130 : BitVec 32 := Scalar.addi c0_i32_4879 v3129
  v3130.toNat
def k0_dev167 (v1 : BitVec 32) : Nat :=
  let c0_i32_4913 : BitVec 32 := 0#32
  let c1_i32_4912 : BitVec 32 := 1#32
  let v3153 : BitVec 32 := Scalar.muli v1 c1_i32_4912
  let v3154 : BitVec 32 := Scalar.addi c0_i32_4913 v3153
  v3154.toNat
def k0_dev168 (v0 : BitVec 32) : Nat :=
  let c0_i32_4936 : BitVec 32 := 0#32
  let c1_i32_4935 : BitVec 32 := 1#32
  let v3163 : BitVec 32 := Scalar.muli v0 c1_i32_4935
  let v3164 : BitVec 32 := Scalar.addi c0_i32_4936 v3163
  v3164.toNat
def k0_dev169 (v1 : BitVec 32) : Nat :=
  let c0_i32_4970 : BitVec 32 := 0#32
  let c1_i32_4969 : BitVec 32 := 1#32
  let v3187 : BitVec 32 := Scalar.muli v1 c1_i32_4969
  let v3188 : BitVec 32 := Scalar.addi c0_i32_4970 v3187
  v3188.toNat
def k0_dev170 (v0 : BitVec 32) : Nat :=
  let c0_i32_4993 : BitVec 32 := 0#32
  let c1_i32_4992 : BitVec 32 := 1#32
  let v3197 : BitVec 32 := Scalar.muli v0 c1_i32_4992
  let v3198 : BitVec 32 := Scalar.addi c0_i32_4993 v3197
  v3198.toNat
def k0_dev171 (v0 : BitVec 32) : Nat :=
  let c0_i32_5027 : BitVec 32 := 0#32
  let c1_i32_5026 : BitVec 32 := 1#32
  let v3221 : BitVec 32 := Scalar.muli v0 c1_i32_5026
  let v3222 : BitVec 32 := Scalar.addi c0_i32_5027 v3221
  v3222.toNat
def k0_dev172 (v1 : BitVec 32) : Nat :=
  let c0_i32_5050 : BitVec 32 := 0#32
  let c1_i32_5049 : BitVec 32 := 1#32
  let v3231 : BitVec 32 := Scalar.muli v1 c1_i32_5049
  let v3232 : BitVec 32 := Scalar.addi c0_i32_5050 v3231
  v3232.toNat
def k0_dev173 (v0 : BitVec 32) : Nat :=
  let c0_i32_5084 : BitVec 32 := 0#32
  let c1_i32_5083 : BitVec 32 := 1#32
  let v3255 : BitVec 32 := Scalar.muli v0 c1_i32_5083
  let v3256 : BitVec 32 := Scalar.addi c0_i32_5084 v3255
  v3256.toNat
def k0_dev174 (v1 : BitVec 32) : Nat :=
  let c0_i32_5107 : BitVec 32 := 0#32
  let c1_i32_5106 : BitVec 32 := 1#32
  let v3265 : BitVec 32 := Scalar.muli v1 c1_i32_5106
  let v3266 : BitVec 32 := Scalar.addi c0_i32_5107 v3265
  v3266.toNat
def k0_dev175 (v1 : BitVec 32) : Nat :=
  let c0_i32_5141 : BitVec 32 := 0#32
  let c1_i32_5140 : BitVec 32 := 1#32
  let v3289 : BitVec 32 := Scalar.muli v1 c1_i32_5140
  let v3290 : BitVec 32 := Scalar.addi c0_i32_5141 v3289
  v3290.toNat
def k0_dev176 (v0 : BitVec 32) : Nat :=
  let c0_i32_5164 : BitVec 32 := 0#32
  let c1_i32_5163 : BitVec 32 := 1#32
  let v3299 : BitVec 32 := Scalar.muli v0 c1_i32_5163
  let v3300 : BitVec 32 := Scalar.addi c0_i32_5164 v3299
  v3300.toNat
def k0_dev177 (v1 : BitVec 32) : Nat :=
  let c0_i32_5198 : BitVec 32 := 0#32
  let c1_i32_5197 : BitVec 32 := 1#32
  let v3323 : BitVec 32 := Scalar.muli v1 c1_i32_5197
  let v3324 : BitVec 32 := Scalar.addi c0_i32_5198 v3323
  v3324.toNat
def k0_dev178 (v0 : BitVec 32) : Nat :=
  let c0_i32_5221 : BitVec 32 := 0#32
  let c1_i32_5220 : BitVec 32 := 1#32
  let v3333 : BitVec 32 := Scalar.muli v0 c1_i32_5220
  let v3334 : BitVec 32 := Scalar.addi c0_i32_5221 v3333
  v3334.toNat
def k0_dev179 (v0 : BitVec 32) : Nat :=
  let c0_i32_5255 : BitVec 32 := 0#32
  let c1_i32_5254 : BitVec 32 := 1#32
  let v3357 : BitVec 32 := Scalar.muli v0 c1_i32_5254
  let v3358 : BitVec 32 := Scalar.addi c0_i32_5255 v3357
  v3358.toNat
def k0_dev180 (v1 : BitVec 32) : Nat :=
  let c0_i32_5278 : BitVec 32 := 0#32
  let c1_i32_5277 : BitVec 32 := 1#32
  let v3367 : BitVec 32 := Scalar.muli v1 c1_i32_5277
  let v3368 : BitVec 32 := Scalar.addi c0_i32_5278 v3367
  v3368.toNat
def k0_dev181 (v0 : BitVec 32) : Nat :=
  let c0_i32_5312 : BitVec 32 := 0#32
  let c1_i32_5311 : BitVec 32 := 1#32
  let v3391 : BitVec 32 := Scalar.muli v0 c1_i32_5311
  let v3392 : BitVec 32 := Scalar.addi c0_i32_5312 v3391
  v3392.toNat
def k0_dev182 (v1 : BitVec 32) : Nat :=
  let c0_i32_5335 : BitVec 32 := 0#32
  let c1_i32_5334 : BitVec 32 := 1#32
  let v3401 : BitVec 32 := Scalar.muli v1 c1_i32_5334
  let v3402 : BitVec 32 := Scalar.addi c0_i32_5335 v3401
  v3402.toNat
def k0_dev183 (v1 : BitVec 32) : Nat :=
  let c0_i32_5369 : BitVec 32 := 0#32
  let c1_i32_5368 : BitVec 32 := 1#32
  let v3425 : BitVec 32 := Scalar.muli v1 c1_i32_5368
  let v3426 : BitVec 32 := Scalar.addi c0_i32_5369 v3425
  v3426.toNat
def k0_dev184 (v0 : BitVec 32) : Nat :=
  let c0_i32_5392 : BitVec 32 := 0#32
  let c1_i32_5391 : BitVec 32 := 1#32
  let v3435 : BitVec 32 := Scalar.muli v0 c1_i32_5391
  let v3436 : BitVec 32 := Scalar.addi c0_i32_5392 v3435
  v3436.toNat
def k0_dev185 (v1 : BitVec 32) : Nat :=
  let c0_i32_5426 : BitVec 32 := 0#32
  let c1_i32_5425 : BitVec 32 := 1#32
  let v3459 : BitVec 32 := Scalar.muli v1 c1_i32_5425
  let v3460 : BitVec 32 := Scalar.addi c0_i32_5426 v3459
  v3460.toNat
def k0_dev186 (v0 : BitVec 32) : Nat :=
  let c0_i32_5449 : BitVec 32 := 0#32
  let c1_i32_5448 : BitVec 32 := 1#32
  let v3469 : BitVec 32 := Scalar.muli v0 c1_i32_5448
  let v3470 : BitVec 32 := Scalar.addi c0_i32_5449 v3469
  v3470.toNat
def k0_dev187 (v0 : BitVec 32) : Nat :=
  let c0_i32_5483 : BitVec 32 := 0#32
  let c1_i32_5482 : BitVec 32 := 1#32
  let v3493 : BitVec 32 := Scalar.muli v0 c1_i32_5482
  let v3494 : BitVec 32 := Scalar.addi c0_i32_5483 v3493
  v3494.toNat
def k0_dev188 (v1 : BitVec 32) : Nat :=
  let c0_i32_5506 : BitVec 32 := 0#32
  let c1_i32_5505 : BitVec 32 := 1#32
  let v3503 : BitVec 32 := Scalar.muli v1 c1_i32_5505
  let v3504 : BitVec 32 := Scalar.addi c0_i32_5506 v3503
  v3504.toNat
def k0_dev189 (v0 : BitVec 32) : Nat :=
  let c0_i32_5540 : BitVec 32 := 0#32
  let c1_i32_5539 : BitVec 32 := 1#32
  let v3527 : BitVec 32 := Scalar.muli v0 c1_i32_5539
  let v3528 : BitVec 32 := Scalar.addi c0_i32_5540 v3527
  v3528.toNat
def k0_dev190 (v1 : BitVec 32) : Nat :=
  let c0_i32_5563 : BitVec 32 := 0#32
  let c1_i32_5562 : BitVec 32 := 1#32
  let v3537 : BitVec 32 := Scalar.muli v1 c1_i32_5562
  let v3538 : BitVec 32 := Scalar.addi c0_i32_5563 v3537
  v3538.toNat
def k0_dev191 (v1 : BitVec 32) : Nat :=
  let c0_i32_5597 : BitVec 32 := 0#32
  let c1_i32_5596 : BitVec 32 := 1#32
  let v3561 : BitVec 32 := Scalar.muli v1 c1_i32_5596
  let v3562 : BitVec 32 := Scalar.addi c0_i32_5597 v3561
  v3562.toNat
def k0_dev192 (v0 : BitVec 32) : Nat :=
  let c0_i32_5620 : BitVec 32 := 0#32
  let c1_i32_5619 : BitVec 32 := 1#32
  let v3571 : BitVec 32 := Scalar.muli v0 c1_i32_5619
  let v3572 : BitVec 32 := Scalar.addi c0_i32_5620 v3571
  v3572.toNat
def k0_dev193 (v1 : BitVec 32) : Nat :=
  let c0_i32_5654 : BitVec 32 := 0#32
  let c1_i32_5653 : BitVec 32 := 1#32
  let v3595 : BitVec 32 := Scalar.muli v1 c1_i32_5653
  let v3596 : BitVec 32 := Scalar.addi c0_i32_5654 v3595
  v3596.toNat
def k0_dev194 (v0 : BitVec 32) : Nat :=
  let c0_i32_5677 : BitVec 32 := 0#32
  let c1_i32_5676 : BitVec 32 := 1#32
  let v3605 : BitVec 32 := Scalar.muli v0 c1_i32_5676
  let v3606 : BitVec 32 := Scalar.addi c0_i32_5677 v3605
  v3606.toNat
def k0_dev195 (v0 : BitVec 32) : Nat :=
  let c0_i32_5711 : BitVec 32 := 0#32
  let c1_i32_5710 : BitVec 32 := 1#32
  let v3629 : BitVec 32 := Scalar.muli v0 c1_i32_5710
  let v3630 : BitVec 32 := Scalar.addi c0_i32_5711 v3629
  v3630.toNat
def k0_dev196 (v1 : BitVec 32) : Nat :=
  let c0_i32_5734 : BitVec 32 := 0#32
  let c1_i32_5733 : BitVec 32 := 1#32
  let v3639 : BitVec 32 := Scalar.muli v1 c1_i32_5733
  let v3640 : BitVec 32 := Scalar.addi c0_i32_5734 v3639
  v3640.toNat
def k0_dev197 (v0 : BitVec 32) : Nat :=
  let c0_i32_5768 : BitVec 32 := 0#32
  let c1_i32_5767 : BitVec 32 := 1#32
  let v3663 : BitVec 32 := Scalar.muli v0 c1_i32_5767
  let v3664 : BitVec 32 := Scalar.addi c0_i32_5768 v3663
  v3664.toNat
def k0_dev198 (v1 : BitVec 32) : Nat :=
  let c0_i32_5791 : BitVec 32 := 0#32
  let c1_i32_5790 : BitVec 32 := 1#32
  let v3673 : BitVec 32 := Scalar.muli v1 c1_i32_5790
  let v3674 : BitVec 32 := Scalar.addi c0_i32_5791 v3673
  v3674.toNat
def k0_dev199 (v1 : BitVec 32) : Nat :=
  let c0_i32_5825 : BitVec 32 := 0#32
  let c1_i32_5824 : BitVec 32 := 1#32
  let v3697 : BitVec 32 := Scalar.muli v1 c1_i32_5824
  let v3698 : BitVec 32 := Scalar.addi c0_i32_5825 v3697
  v3698.toNat
def k0_dev200 (v0 : BitVec 32) : Nat :=
  let c0_i32_5848 : BitVec 32 := 0#32
  let c1_i32_5847 : BitVec 32 := 1#32
  let v3707 : BitVec 32 := Scalar.muli v0 c1_i32_5847
  let v3708 : BitVec 32 := Scalar.addi c0_i32_5848 v3707
  v3708.toNat
def k0_dev201 (v1 : BitVec 32) : Nat :=
  let c0_i32_5882 : BitVec 32 := 0#32
  let c1_i32_5881 : BitVec 32 := 1#32
  let v3731 : BitVec 32 := Scalar.muli v1 c1_i32_5881
  let v3732 : BitVec 32 := Scalar.addi c0_i32_5882 v3731
  v3732.toNat
def k0_dev202 (v0 : BitVec 32) : Nat :=
  let c0_i32_5905 : BitVec 32 := 0#32
  let c1_i32_5904 : BitVec 32 := 1#32
  let v3741 : BitVec 32 := Scalar.muli v0 c1_i32_5904
  let v3742 : BitVec 32 := Scalar.addi c0_i32_5905 v3741
  v3742.toNat
def k0_dev203 (v0 : BitVec 32) : Nat :=
  let c0_i32_5939 : BitVec 32 := 0#32
  let c1_i32_5938 : BitVec 32 := 1#32
  let v3765 : BitVec 32 := Scalar.muli v0 c1_i32_5938
  let v3766 : BitVec 32 := Scalar.addi c0_i32_5939 v3765
  v3766.toNat
def k0_dev204 (v1 : BitVec 32) : Nat :=
  let c0_i32_5962 : BitVec 32 := 0#32
  let c1_i32_5961 : BitVec 32 := 1#32
  let v3775 : BitVec 32 := Scalar.muli v1 c1_i32_5961
  let v3776 : BitVec 32 := Scalar.addi c0_i32_5962 v3775
  v3776.toNat
def k0_dev205 (v0 : BitVec 32) : Nat :=
  let c0_i32_5996 : BitVec 32 := 0#32
  let c1_i32_5995 : BitVec 32 := 1#32
  let v3799 : BitVec 32 := Scalar.muli v0 c1_i32_5995
  let v3800 : BitVec 32 := Scalar.addi c0_i32_5996 v3799
  v3800.toNat
def k0_dev206 (v1 : BitVec 32) : Nat :=
  let c0_i32_6019 : BitVec 32 := 0#32
  let c1_i32_6018 : BitVec 32 := 1#32
  let v3809 : BitVec 32 := Scalar.muli v1 c1_i32_6018
  let v3810 : BitVec 32 := Scalar.addi c0_i32_6019 v3809
  v3810.toNat
def k0_dev207 (v1 : BitVec 32) : Nat :=
  let c0_i32_6053 : BitVec 32 := 0#32
  let c1_i32_6052 : BitVec 32 := 1#32
  let v3833 : BitVec 32 := Scalar.muli v1 c1_i32_6052
  let v3834 : BitVec 32 := Scalar.addi c0_i32_6053 v3833
  v3834.toNat
def k0_dev208 (v0 : BitVec 32) : Nat :=
  let c0_i32_6076 : BitVec 32 := 0#32
  let c1_i32_6075 : BitVec 32 := 1#32
  let v3843 : BitVec 32 := Scalar.muli v0 c1_i32_6075
  let v3844 : BitVec 32 := Scalar.addi c0_i32_6076 v3843
  v3844.toNat
def k0_dev209 (v1 : BitVec 32) : Nat :=
  let c0_i32_6110 : BitVec 32 := 0#32
  let c1_i32_6109 : BitVec 32 := 1#32
  let v3867 : BitVec 32 := Scalar.muli v1 c1_i32_6109
  let v3868 : BitVec 32 := Scalar.addi c0_i32_6110 v3867
  v3868.toNat
def k0_dev210 (v0 : BitVec 32) : Nat :=
  let c0_i32_6133 : BitVec 32 := 0#32
  let c1_i32_6132 : BitVec 32 := 1#32
  let v3877 : BitVec 32 := Scalar.muli v0 c1_i32_6132
  let v3878 : BitVec 32 := Scalar.addi c0_i32_6133 v3877
  v3878.toNat
def k0_dev211 (v0 : BitVec 32) : Nat :=
  let c0_i32_6167 : BitVec 32 := 0#32
  let c1_i32_6166 : BitVec 32 := 1#32
  let v3901 : BitVec 32 := Scalar.muli v0 c1_i32_6166
  let v3902 : BitVec 32 := Scalar.addi c0_i32_6167 v3901
  v3902.toNat
def k0_dev212 (v1 : BitVec 32) : Nat :=
  let c0_i32_6190 : BitVec 32 := 0#32
  let c1_i32_6189 : BitVec 32 := 1#32
  let v3911 : BitVec 32 := Scalar.muli v1 c1_i32_6189
  let v3912 : BitVec 32 := Scalar.addi c0_i32_6190 v3911
  v3912.toNat
def k0_dev213 (v0 : BitVec 32) : Nat :=
  let c0_i32_6224 : BitVec 32 := 0#32
  let c1_i32_6223 : BitVec 32 := 1#32
  let v3935 : BitVec 32 := Scalar.muli v0 c1_i32_6223
  let v3936 : BitVec 32 := Scalar.addi c0_i32_6224 v3935
  v3936.toNat
def k0_dev214 (v1 : BitVec 32) : Nat :=
  let c0_i32_6247 : BitVec 32 := 0#32
  let c1_i32_6246 : BitVec 32 := 1#32
  let v3945 : BitVec 32 := Scalar.muli v1 c1_i32_6246
  let v3946 : BitVec 32 := Scalar.addi c0_i32_6247 v3945
  v3946.toNat
def k0_dev215 (v1 : BitVec 32) : Nat :=
  let c0_i32_6281 : BitVec 32 := 0#32
  let c1_i32_6280 : BitVec 32 := 1#32
  let v3969 : BitVec 32 := Scalar.muli v1 c1_i32_6280
  let v3970 : BitVec 32 := Scalar.addi c0_i32_6281 v3969
  v3970.toNat
def k0_dev216 (v0 : BitVec 32) : Nat :=
  let c0_i32_6304 : BitVec 32 := 0#32
  let c1_i32_6303 : BitVec 32 := 1#32
  let v3979 : BitVec 32 := Scalar.muli v0 c1_i32_6303
  let v3980 : BitVec 32 := Scalar.addi c0_i32_6304 v3979
  v3980.toNat
def k0_dev217 (v1 : BitVec 32) : Nat :=
  let c0_i32_6338 : BitVec 32 := 0#32
  let c1_i32_6337 : BitVec 32 := 1#32
  let v4003 : BitVec 32 := Scalar.muli v1 c1_i32_6337
  let v4004 : BitVec 32 := Scalar.addi c0_i32_6338 v4003
  v4004.toNat
def k0_dev218 (v0 : BitVec 32) : Nat :=
  let c0_i32_6361 : BitVec 32 := 0#32
  let c1_i32_6360 : BitVec 32 := 1#32
  let v4013 : BitVec 32 := Scalar.muli v0 c1_i32_6360
  let v4014 : BitVec 32 := Scalar.addi c0_i32_6361 v4013
  v4014.toNat
def k0_dev219 (v0 : BitVec 32) : Nat :=
  let c0_i32_6395 : BitVec 32 := 0#32
  let c1_i32_6394 : BitVec 32 := 1#32
  let v4037 : BitVec 32 := Scalar.muli v0 c1_i32_6394
  let v4038 : BitVec 32 := Scalar.addi c0_i32_6395 v4037
  v4038.toNat
def k0_dev220 (v1 : BitVec 32) : Nat :=
  let c0_i32_6418 : BitVec 32 := 0#32
  let c1_i32_6417 : BitVec 32 := 1#32
  let v4047 : BitVec 32 := Scalar.muli v1 c1_i32_6417
  let v4048 : BitVec 32 := Scalar.addi c0_i32_6418 v4047
  v4048.toNat
def k0_dev221 (v0 : BitVec 32) : Nat :=
  let c0_i32_6452 : BitVec 32 := 0#32
  let c1_i32_6451 : BitVec 32 := 1#32
  let v4071 : BitVec 32 := Scalar.muli v0 c1_i32_6451
  let v4072 : BitVec 32 := Scalar.addi c0_i32_6452 v4071
  v4072.toNat
def k0_dev222 (v1 : BitVec 32) : Nat :=
  let c0_i32_6475 : BitVec 32 := 0#32
  let c1_i32_6474 : BitVec 32 := 1#32
  let v4081 : BitVec 32 := Scalar.muli v1 c1_i32_6474
  let v4082 : BitVec 32 := Scalar.addi c0_i32_6475 v4081
  v4082.toNat
def k0_dev223 (v1 : BitVec 32) : Nat :=
  let c0_i32_6509 : BitVec 32 := 0#32
  let c1_i32_6508 : BitVec 32 := 1#32
  let v4105 : BitVec 32 := Scalar.muli v1 c1_i32_6508
  let v4106 : BitVec 32 := Scalar.addi c0_i32_6509 v4105
  v4106.toNat
def k0_dev224 (v0 : BitVec 32) : Nat :=
  let c0_i32_6532 : BitVec 32 := 0#32
  let c1_i32_6531 : BitVec 32 := 1#32
  let v4115 : BitVec 32 := Scalar.muli v0 c1_i32_6531
  let v4116 : BitVec 32 := Scalar.addi c0_i32_6532 v4115
  v4116.toNat
def k0_dev225 (v1 : BitVec 32) : Nat :=
  let c0_i32_6566 : BitVec 32 := 0#32
  let c1_i32_6565 : BitVec 32 := 1#32
  let v4139 : BitVec 32 := Scalar.muli v1 c1_i32_6565
  let v4140 : BitVec 32 := Scalar.addi c0_i32_6566 v4139
  v4140.toNat
def k0_dev226 (v0 : BitVec 32) : Nat :=
  let c0_i32_6589 : BitVec 32 := 0#32
  let c1_i32_6588 : BitVec 32 := 1#32
  let v4149 : BitVec 32 := Scalar.muli v0 c1_i32_6588
  let v4150 : BitVec 32 := Scalar.addi c0_i32_6589 v4149
  v4150.toNat
def k0_dev227 (v0 : BitVec 32) : Nat :=
  let c0_i32_6623 : BitVec 32 := 0#32
  let c1_i32_6622 : BitVec 32 := 1#32
  let v4173 : BitVec 32 := Scalar.muli v0 c1_i32_6622
  let v4174 : BitVec 32 := Scalar.addi c0_i32_6623 v4173
  v4174.toNat
def k0_dev228 (v1 : BitVec 32) : Nat :=
  let c0_i32_6646 : BitVec 32 := 0#32
  let c1_i32_6645 : BitVec 32 := 1#32
  let v4183 : BitVec 32 := Scalar.muli v1 c1_i32_6645
  let v4184 : BitVec 32 := Scalar.addi c0_i32_6646 v4183
  v4184.toNat
def k0_dev229 (v0 : BitVec 32) : Nat :=
  let c0_i32_6680 : BitVec 32 := 0#32
  let c1_i32_6679 : BitVec 32 := 1#32
  let v4207 : BitVec 32 := Scalar.muli v0 c1_i32_6679
  let v4208 : BitVec 32 := Scalar.addi c0_i32_6680 v4207
  v4208.toNat
def k0_dev230 (v1 : BitVec 32) : Nat :=
  let c0_i32_6703 : BitVec 32 := 0#32
  let c1_i32_6702 : BitVec 32 := 1#32
  let v4217 : BitVec 32 := Scalar.muli v1 c1_i32_6702
  let v4218 : BitVec 32 := Scalar.addi c0_i32_6703 v4217
  v4218.toNat
def k0_dev231 (v0 : BitVec 32) : Nat :=
  let c0_i32_6757 : BitVec 32 := 0#32
  let c1_i32_6756 : BitVec 32 := 1#32
  let v4249 : BitVec 32 := Scalar.muli v0 c1_i32_6756
  let v4250 : BitVec 32 := Scalar.addi c0_i32_6757 v4249
  v4250.toNat
def k0_dev232 (v0 : BitVec 32) : Nat :=
  let c0_i32_6811 : BitVec 32 := 0#32
  let c1_i32_6810 : BitVec 32 := 1#32
  let v4281 : BitVec 32 := Scalar.muli v0 c1_i32_6810
  let v4282 : BitVec 32 := Scalar.addi c0_i32_6811 v4281
  v4282.toNat
def k0_dev233 (v1 : BitVec 32) : Nat :=
  let c0_i32_6865 : BitVec 32 := 0#32
  let c1_i32_6864 : BitVec 32 := 1#32
  let v4313 : BitVec 32 := Scalar.muli v1 c1_i32_6864
  let v4314 : BitVec 32 := Scalar.addi c0_i32_6865 v4313
  v4314.toNat
def k0_dev234 (v1 : BitVec 32) : Nat :=
  let c0_i32_6919 : BitVec 32 := 0#32
  let c1_i32_6918 : BitVec 32 := 1#32
  let v4345 : BitVec 32 := Scalar.muli v1 c1_i32_6918
  let v4346 : BitVec 32 := Scalar.addi c0_i32_6919 v4345
  v4346.toNat
def k0_dev235 (v0 : BitVec 32) : Nat :=
  let c0_i32_6973 : BitVec 32 := 0#32
  let c1_i32_6972 : BitVec 32 := 1#32
  let v4377 : BitVec 32 := Scalar.muli v0 c1_i32_6972
  let v4378 : BitVec 32 := Scalar.addi c0_i32_6973 v4377
  v4378.toNat
def k0_dev236 (v0 : BitVec 32) : Nat :=
  let c0_i32_7027 : BitVec 32 := 0#32
  let c1_i32_7026 : BitVec 32 := 1#32
  let v4409 : BitVec 32 := Scalar.muli v0 c1_i32_7026
  let v4410 : BitVec 32 := Scalar.addi c0_i32_7027 v4409
  v4410.toNat

def k0_chk1_0 (v0 : BitVec 32) : Prop :=
  ((k0_dev1 v0) < nD) ∧
  ((k0_dev3 v0) < nD) ∧
  ((k0_dev4 v0) < nD) ∧
  ((k0_dev8 v0) < nD) ∧
  ((k0_dev10 v0) < nD) ∧
  ((k0_dev11 v0) < nD) ∧
  ((k0_dev13 v0) < nD) ∧
  ((k0_dev16 v0) < nD) ∧
  ((k0_dev18 v0) < nD) ∧
  ((k0_dev19 v0) < nD) ∧
  ((k0_dev21 v0) < nD) ∧
  ((k0_dev24 v0) < nD) ∧
  ((k0_dev26 v0) < nD) ∧
  ((k0_dev27 v0) < nD) ∧
  ((k0_dev29 v0) < nD) ∧
  ((k0_dev32 v0) < nD) ∧
  ((k0_dev34 v0) < nD) ∧
  ((k0_dev35 v0) < nD) ∧
  ((k0_dev37 v0) < nD) ∧
  ((k0_dev40 v0) < nD) ∧
  ((k0_dev42 v0) < nD) ∧
  ((k0_dev43 v0) < nD) ∧
  ((k0_dev45 v0) < nD) ∧
  ((k0_dev48 v0) < nD) ∧
  ((k0_dev50 v0) < nD) ∧
  ((k0_dev51 v0) < nD) ∧
  ((k0_dev53 v0) < nD) ∧
  ((k0_dev56 v0) < nD) ∧
  ((k0_dev58 v0) < nD) ∧
  ((k0_dev59 v0) < nD) ∧
  ((k0_dev61 v0) < nD) ∧
  ((k0_dev64 v0) < nD)
def k0_chk1_1 (v0 : BitVec 32) : Prop :=
  ((k0_dev66 v0) < nD) ∧
  ((k0_dev67 v0) < nD) ∧
  ((k0_dev69 v0) < nD) ∧
  ((k0_dev72 v0) < nD) ∧
  ((k0_dev74 v0) < nD) ∧
  ((k0_dev75 v0) < nD) ∧
  ((k0_dev77 v0) < nD) ∧
  ((k0_dev80 v0) < nD) ∧
  ((k0_dev82 v0) < nD) ∧
  ((k0_dev83 v0) < nD) ∧
  ((k0_dev85 v0) < nD) ∧
  ((k0_dev88 v0) < nD) ∧
  ((k0_dev90 v0) < nD) ∧
  ((k0_dev91 v0) < nD) ∧
  ((k0_dev93 v0) < nD) ∧
  ((k0_dev96 v0) < nD) ∧
  ((k0_dev98 v0) < nD) ∧
  ((k0_dev99 v0) < nD) ∧
  ((k0_dev101 v0) < nD) ∧
  ((k0_dev104 v0) < nD) ∧
  ((k0_dev106 v0) < nD) ∧
  ((k0_dev107 v0) < nD) ∧
  ((k0_dev109 v0) < nD) ∧
  ((k0_dev112 v0) < nD) ∧
  ((k0_dev114 v0) < nD) ∧
  ((k0_dev115 v0) < nD) ∧
  ((k0_dev117 v0) < nD) ∧
  ((k0_dev120 v0) < nD) ∧
  ((k0_dev122 v0) < nD) ∧
  ((k0_dev123 v0) < nD) ∧
  ((k0_dev125 v0) < nD) ∧
  ((k0_dev128 v0) < nD)
def k0_chk1_2 (v0 : BitVec 32) : Prop :=
  ((k0_dev130 v0) < nD) ∧
  ((k0_dev131 v0) < nD) ∧
  ((k0_dev133 v0) < nD) ∧
  ((k0_dev136 v0) < nD) ∧
  ((k0_dev138 v0) < nD) ∧
  ((k0_dev139 v0) < nD) ∧
  ((k0_dev141 v0) < nD) ∧
  ((k0_dev144 v0) < nD) ∧
  ((k0_dev146 v0) < nD) ∧
  ((k0_dev147 v0) < nD) ∧
  ((k0_dev149 v0) < nD) ∧
  ((k0_dev152 v0) < nD) ∧
  ((k0_dev154 v0) < nD) ∧
  ((k0_dev155 v0) < nD) ∧
  ((k0_dev157 v0) < nD) ∧
  ((k0_dev160 v0) < nD) ∧
  ((k0_dev162 v0) < nD) ∧
  ((k0_dev163 v0) < nD) ∧
  ((k0_dev165 v0) < nD) ∧
  ((k0_dev168 v0) < nD) ∧
  ((k0_dev170 v0) < nD) ∧
  ((k0_dev171 v0) < nD) ∧
  ((k0_dev173 v0) < nD) ∧
  ((k0_dev176 v0) < nD) ∧
  ((k0_dev178 v0) < nD) ∧
  ((k0_dev179 v0) < nD) ∧
  ((k0_dev181 v0) < nD) ∧
  ((k0_dev184 v0) < nD) ∧
  ((k0_dev186 v0) < nD) ∧
  ((k0_dev187 v0) < nD) ∧
  ((k0_dev189 v0) < nD) ∧
  ((k0_dev192 v0) < nD)
def k0_chk1_3 (v0 : BitVec 32) : Prop :=
  ((k0_dev194 v0) < nD) ∧
  ((k0_dev195 v0) < nD) ∧
  ((k0_dev197 v0) < nD) ∧
  ((k0_dev200 v0) < nD) ∧
  ((k0_dev202 v0) < nD) ∧
  ((k0_dev203 v0) < nD) ∧
  ((k0_dev205 v0) < nD) ∧
  ((k0_dev208 v0) < nD) ∧
  ((k0_dev210 v0) < nD) ∧
  ((k0_dev211 v0) < nD) ∧
  ((k0_dev213 v0) < nD) ∧
  ((k0_dev216 v0) < nD) ∧
  ((k0_dev218 v0) < nD) ∧
  ((k0_dev219 v0) < nD) ∧
  ((k0_dev221 v0) < nD) ∧
  ((k0_dev224 v0) < nD) ∧
  ((k0_dev226 v0) < nD) ∧
  ((k0_dev227 v0) < nD) ∧
  ((k0_dev229 v0) < nD) ∧
  ((k0_dev231 v0) < nD) ∧
  ((k0_dev232 v0) < nD) ∧
  ((k0_dev235 v0) < nD) ∧
  ((k0_dev236 v0) < nD)
def k0_chk1 (v0 : BitVec 32) : Prop :=
  k0_chk1_0 v0 ∧
  k0_chk1_1 v0 ∧
  k0_chk1_2 v0 ∧
  k0_chk1_3 v0
theorem k0_dev1_lt : ∀ (v0 : BitVec 32) (k0_hw1 : k0_chk1 v0), (k0_dev1 v0) < nD := fun v0 k0_hw1 => k0_hw1.1.1
theorem k0_dev3_lt : ∀ (v0 : BitVec 32) (k0_hw1 : k0_chk1 v0), (k0_dev3 v0) < nD := fun v0 k0_hw1 => k0_hw1.1.2.1
theorem k0_dev4_lt : ∀ (v0 : BitVec 32) (k0_hw1 : k0_chk1 v0), (k0_dev4 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev10_lt : ∀ (v0 : BitVec 32) (k0_hw1 : k0_chk1 v0), (k0_dev10 v0) < nD := fun v0 k0_hw1 => k0_hw1.1.2.2.2.2.1
theorem k0_dev11_lt : ∀ (v0 : BitVec 32) (k0_hw1 : k0_chk1 v0), (k0_dev11 v0) < nD := fun v0 k0_hw1 => k0_hw1.1.2.2.2.2.2.1
theorem k0_dev13_lt : ∀ (v0 : BitVec 32) (k0_hw1 : k0_chk1 v0), (k0_dev13 v0) < nD := fun v0 k0_hw1 => k0_hw1.1.2.2.2.2.2.2.1
theorem k0_dev16_lt : ∀ (v0 : BitVec 32) (k0_hw1 : k0_chk1 v0), (k0_dev16 v0) < nD := fun v0 k0_hw1 => k0_hw1.1.2.2.2.2.2.2.2.1
theorem k0_dev18_lt : ∀ (v0 : BitVec 32) (k0_hw1 : k0_chk1 v0), (k0_dev18 v0) < nD := fun v0 k0_hw1 => k0_hw1.1.2.2.2.2.2.2.2.2.1
theorem k0_dev19_lt : ∀ (v0 : BitVec 32) (k0_hw1 : k0_chk1 v0), (k0_dev19 v0) < nD := fun v0 k0_hw1 => k0_hw1.1.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.1
theorem k0_dev24_lt : ∀ (v0 : BitVec 32) (k0_hw1 : k0_chk1 v0), (k0_dev24 v0) < nD := fun v0 k0_hw1 => k0_hw1.1.2.2.2.2.2.2.2.2.2.2.2.1
theorem k0_dev26_lt : ∀ (v0 : BitVec 32) (k0_hw1 : k0_chk1 v0), (k0_dev26 v0) < nD := fun v0 k0_hw1 => k0_hw1.1.2.2.2.2.2.2.2.2.2.2.2.2.1
theorem k0_dev27_lt : ∀ (v0 : BitVec 32) (k0_hw1 : k0_chk1 v0), (k0_dev27 v0) < nD := fun v0 k0_hw1 => k0_hw1.1.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.1
theorem k0_dev34_lt : ∀ (v0 : BitVec 32) (k0_hw1 : k0_chk1 v0), (k0_dev34 v0) < nD := fun v0 k0_hw1 => k0_hw1.1.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.1
theorem k0_dev42_lt : ∀ (v0 : BitVec 32) (k0_hw1 : k0_chk1 v0), (k0_dev42 v0) < nD := fun v0 k0_hw1 => k0_hw1.1.2.2.2.2.2.2.2.2.2.2.2.2.2.2.2.2.2.2.2.2.1
theorem k0_dev43_lt : ∀ (v0 : BitVec 32) (k0_hw1 : k0_chk1 v0), (k0_dev43 v0) < nD := fun v0 k0_hw1 => k0_hw1.1.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.1
theorem k0_dev48_lt : ∀ (v0 : BitVec 32) (k0_hw1 : k0_chk1 v0), (k0_dev48 v0) < nD := fun v0 k0_hw1 => k0_hw1.1.2.2.2.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.1.2.2.2.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.1.2.2.2.2.2.2.2.2.2.2.2.2.2.2.2.2.2.2.2.2.2.2.2.2.2.2.2.1
theorem k0_dev58_lt : ∀ (v0 : BitVec 32) (k0_hw1 : k0_chk1 v0), (k0_dev58 v0) < nD := fun v0 k0_hw1 => k0_hw1.1.2.2.2.2.2.2.2.2.2.2.2.2.2.2.2.2.2.2.2.2.2.2.2.2.2.2.2.2.1
theorem k0_dev59_lt : ∀ (v0 : BitVec 32) (k0_hw1 : k0_chk1 v0), (k0_dev59 v0) < nD := fun v0 k0_hw1 => k0_hw1.1.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.1
theorem k0_dev64_lt : ∀ (v0 : BitVec 32) (k0_hw1 : k0_chk1 v0), (k0_dev64 v0) < nD := fun v0 k0_hw1 => k0_hw1.1.2.2.2.2.2.2.2.2.2.2.2.2.2.2.2.2.2.2.2.2.2.2.2.2.2.2.2.2.2.2.2
theorem k0_dev66_lt : ∀ (v0 : BitVec 32) (k0_hw1 : k0_chk1 v0), (k0_dev66 v0) < nD := fun v0 k0_hw1 => k0_hw1.2.1.1
theorem k0_dev67_lt : ∀ (v0 : BitVec 32) (k0_hw1 : k0_chk1 v0), (k0_dev67 v0) < nD := fun v0 k0_hw1 => k0_hw1.2.1.2.1
theorem k0_dev69_lt : ∀ (v0 : BitVec 32) (k0_hw1 : k0_chk1 v0), (k0_dev69 v0) < nD := fun v0 k0_hw1 => k0_hw1.2.1.2.2.1
theorem k0_dev72_lt : ∀ (v0 : BitVec 32) (k0_hw1 : k0_chk1 v0), (k0_dev72 v0) < nD := fun v0 k0_hw1 => k0_hw1.2.1.2.2.2.1
theorem k0_dev74_lt : ∀ (v0 : BitVec 32) (k0_hw1 : k0_chk1 v0), (k0_dev74 v0) < nD := fun v0 k0_hw1 => k0_hw1.2.1.2.2.2.2.1
theorem k0_dev75_lt : ∀ (v0 : BitVec 32) (k0_hw1 : k0_chk1 v0), (k0_dev75 v0) < nD := fun v0 k0_hw1 => k0_hw1.2.1.2.2.2.2.2.1
theorem k0_dev77_lt : ∀ (v0 : BitVec 32) (k0_hw1 : k0_chk1 v0), (k0_dev77 v0) < nD := fun v0 k0_hw1 => k0_hw1.2.1.2.2.2.2.2.2.1
theorem k0_dev80_lt : ∀ (v0 : BitVec 32) (k0_hw1 : k0_chk1 v0), (k0_dev80 v0) < nD := fun v0 k0_hw1 => k0_hw1.2.1.2.2.2.2.2.2.2.1
theorem k0_dev82_lt : ∀ (v0 : BitVec 32) (k0_hw1 : k0_chk1 v0), (k0_dev82 v0) < nD := fun v0 k0_hw1 => k0_hw1.2.1.2.2.2.2.2.2.2.2.1
theorem k0_dev83_lt : ∀ (v0 : BitVec 32) (k0_hw1 : k0_chk1 v0), (k0_dev83 v0) < nD := fun v0 k0_hw1 => k0_hw1.2.1.2.2.2.2.2.2.2.2.2.1
theorem k0_dev85_lt : ∀ (v0 : BitVec 32) (k0_hw1 : k0_chk1 v0), (k0_dev85 v0) < nD := fun v0 k0_hw1 => k0_hw1.2.1.2.2.2.2.2.2.2.2.2.2.1
theorem k0_dev88_lt : ∀ (v0 : BitVec 32) (k0_hw1 : k0_chk1 v0), (k0_dev88 v0) < nD := fun v0 k0_hw1 => k0_hw1.2.1.2.2.2.2.2.2.2.2.2.2.2.1
theorem k0_dev90_lt : ∀ (v0 : BitVec 32) (k0_hw1 : k0_chk1 v0), (k0_dev90 v0) < nD := fun v0 k0_hw1 => k0_hw1.2.1.2.2.2.2.2.2.2.2.2.2.2.2.1
theorem k0_dev91_lt : ∀ (v0 : BitVec 32) (k0_hw1 : k0_chk1 v0), (k0_dev91 v0) < nD := fun v0 k0_hw1 => k0_hw1.2.1.2.2.2.2.2.2.2.2.2.2.2.2.2.1
theorem k0_dev93_lt : ∀ (v0 : BitVec 32) (k0_hw1 : k0_chk1 v0), (k0_dev93 v0) < nD := fun v0 k0_hw1 => k0_hw1.2.1.2.2.2.2.2.2.2.2.2.2.2.2.2.2.1
theorem k0_dev96_lt : ∀ (v0 : BitVec 32) (k0_hw1 : k0_chk1 v0), (k0_dev96 v0) < nD := fun v0 k0_hw1 => k0_hw1.2.1.2.2.2.2.2.2.2.2.2.2.2.2.2.2.2.1
theorem k0_dev98_lt : ∀ (v0 : BitVec 32) (k0_hw1 : k0_chk1 v0), (k0_dev98 v0) < nD := fun v0 k0_hw1 => k0_hw1.2.1.2.2.2.2.2.2.2.2.2.2.2.2.2.2.2.2.1
theorem k0_dev99_lt : ∀ (v0 : BitVec 32) (k0_hw1 : k0_chk1 v0), (k0_dev99 v0) < nD := fun v0 k0_hw1 => k0_hw1.2.1.2.2.2.2.2.2.2.2.2.2.2.2.2.2.2.2.2.1
theorem k0_dev101_lt : ∀ (v0 : BitVec 32) (k0_hw1 : k0_chk1 v0), (k0_dev101 v0) < nD := fun v0 k0_hw1 => k0_hw1.2.1.2.2.2.2.2.2.2.2.2.2.2.2.2.2.2.2.2.2.1
theorem k0_dev104_lt : ∀ (v0 : BitVec 32) (k0_hw1 : k0_chk1 v0), (k0_dev104 v0) < nD := fun v0 k0_hw1 => k0_hw1.2.1.2.2.2.2.2.2.2.2.2.2.2.2.2.2.2.2.2.2.2.1
theorem k0_dev106_lt : ∀ (v0 : BitVec 32) (k0_hw1 : k0_chk1 v0), (k0_dev106 v0) < nD := fun v0 k0_hw1 => k0_hw1.2.1.2.2.2.2.2.2.2.2.2.2.2.2.2.2.2.2.2.2.2.2.1
theorem k0_dev107_lt : ∀ (v0 : BitVec 32) (k0_hw1 : k0_chk1 v0), (k0_dev107 v0) < nD := fun v0 k0_hw1 => k0_hw1.2.1.2.2.2.2.2.2.2.2.2.2.2.2.2.2.2.2.2.2.2.2.2.1
theorem k0_dev109_lt : ∀ (v0 : BitVec 32) (k0_hw1 : k0_chk1 v0), (k0_dev109 v0) < nD := fun v0 k0_hw1 => k0_hw1.2.1.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.1.2.2.2.2.2.2.2.2.2.2.2.2.2.2.2.2.2.2.2.2.2.2.2.1
theorem k0_dev114_lt : ∀ (v0 : BitVec 32) (k0_hw1 : k0_chk1 v0), (k0_dev114 v0) < nD := fun v0 k0_hw1 => k0_hw1.2.1.2.2.2.2.2.2.2.2.2.2.2.2.2.2.2.2.2.2.2.2.2.2.2.2.1
theorem k0_dev115_lt : ∀ (v0 : BitVec 32) (k0_hw1 : k0_chk1 v0), (k0_dev115 v0) < nD := fun v0 k0_hw1 => k0_hw1.2.1.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.1.2.2.2.2.2.2.2.2.2.2.2.2.2.2.2.2.2.2.2.2.2.2.2.2.2.2.1
theorem k0_dev120_lt : ∀ (v0 : BitVec 32) (k0_hw1 : k0_chk1 v0), (k0_dev120 v0) < nD := fun v0 k0_hw1 => k0_hw1.2.1.2.2.2.2.2.2.2.2.2.2.2.2.2.2.2.2.2.2.2.2.2.2.2.2.2.2.2.1
theorem k0_dev122_lt : ∀ (v0 : BitVec 32) (k0_hw1 : k0_chk1 v0), (k0_dev122 v0) < nD := fun v0 k0_hw1 => k0_hw1.2.1.2.2.2.2.2.2.2.2.2.2.2.2.2.2.2.2.2.2.2.2.2.2.2.2.2.2.2.2.1
theorem k0_dev123_lt : ∀ (v0 : BitVec 32) (k0_hw1 : k0_chk1 v0), (k0_dev123 v0) < nD := fun v0 k0_hw1 => k0_hw1.2.1.2.2.2.2.2.2.2.2.2.2.2.2.2.2.2.2.2.2.2.2.2.2.2.2.2.2.2.2.2.1
theorem k0_dev125_lt : ∀ (v0 : BitVec 32) (k0_hw1 : k0_chk1 v0), (k0_dev125 v0) < nD := fun v0 k0_hw1 => k0_hw1.2.1.2.2.2.2.2.2.2.2.2.2.2.2.2.2.2.2.2.2.2.2.2.2.2.2.2.2.2.2.2.2.1
theorem k0_dev128_lt : ∀ (v0 : BitVec 32) (k0_hw1 : k0_chk1 v0), (k0_dev128 v0) < nD := fun v0 k0_hw1 => k0_hw1.2.1.2.2.2.2.2.2.2.2.2.2.2.2.2.2.2.2.2.2.2.2.2.2.2.2.2.2.2.2.2.2.2
theorem k0_dev130_lt : ∀ (v0 : BitVec 32) (k0_hw1 : k0_chk1 v0), (k0_dev130 v0) < nD := fun v0 k0_hw1 => k0_hw1.2.2.1.1
theorem k0_dev131_lt : ∀ (v0 : BitVec 32) (k0_hw1 : k0_chk1 v0), (k0_dev131 v0) < nD := fun v0 k0_hw1 => k0_hw1.2.2.1.2.1
theorem k0_dev133_lt : ∀ (v0 : BitVec 32) (k0_hw1 : k0_chk1 v0), (k0_dev133 v0) < nD := fun v0 k0_hw1 => k0_hw1.2.2.1.2.2.1
theorem k0_dev136_lt : ∀ (v0 : BitVec 32) (k0_hw1 : k0_chk1 v0), (k0_dev136 v0) < nD := fun v0 k0_hw1 => k0_hw1.2.2.1.2.2.2.1
theorem k0_dev138_lt : ∀ (v0 : BitVec 32) (k0_hw1 : k0_chk1 v0), (k0_dev138 v0) < nD := fun v0 k0_hw1 => k0_hw1.2.2.1.2.2.2.2.1
theorem k0_dev139_lt : ∀ (v0 : BitVec 32) (k0_hw1 : k0_chk1 v0), (k0_dev139 v0) < nD := fun v0 k0_hw1 => k0_hw1.2.2.1.2.2.2.2.2.1
theorem k0_dev141_lt : ∀ (v0 : BitVec 32) (k0_hw1 : k0_chk1 v0), (k0_dev141 v0) < nD := fun v0 k0_hw1 => k0_hw1.2.2.1.2.2.2.2.2.2.1
theorem k0_dev144_lt : ∀ (v0 : BitVec 32) (k0_hw1 : k0_chk1 v0), (k0_dev144 v0) < nD := fun v0 k0_hw1 => k0_hw1.2.2.1.2.2.2.2.2.2.2.1
theorem k0_dev146_lt : ∀ (v0 : BitVec 32) (k0_hw1 : k0_chk1 v0), (k0_dev146 v0) < nD := fun v0 k0_hw1 => k0_hw1.2.2.1.2.2.2.2.2.2.2.2.1
theorem k0_dev147_lt : ∀ (v0 : BitVec 32) (k0_hw1 : k0_chk1 v0), (k0_dev147 v0) < nD := fun v0 k0_hw1 => k0_hw1.2.2.1.2.2.2.2.2.2.2.2.2.1
theorem k0_dev149_lt : ∀ (v0 : BitVec 32) (k0_hw1 : k0_chk1 v0), (k0_dev149 v0) < nD := fun v0 k0_hw1 => k0_hw1.2.2.1.2.2.2.2.2.2.2.2.2.2.1
theorem k0_dev152_lt : ∀ (v0 : BitVec 32) (k0_hw1 : k0_chk1 v0), (k0_dev152 v0) < nD := fun v0 k0_hw1 => k0_hw1.2.2.1.2.2.2.2.2.2.2.2.2.2.2.1
theorem k0_dev154_lt : ∀ (v0 : BitVec 32) (k0_hw1 : k0_chk1 v0), (k0_dev154 v0) < nD := fun v0 k0_hw1 => k0_hw1.2.2.1.2.2.2.2.2.2.2.2.2.2.2.2.1
theorem k0_dev155_lt : ∀ (v0 : BitVec 32) (k0_hw1 : k0_chk1 v0), (k0_dev155 v0) < nD := fun v0 k0_hw1 => k0_hw1.2.2.1.2.2.2.2.2.2.2.2.2.2.2.2.2.1
theorem k0_dev157_lt : ∀ (v0 : BitVec 32) (k0_hw1 : k0_chk1 v0), (k0_dev157 v0) < nD := fun v0 k0_hw1 => k0_hw1.2.2.1.2.2.2.2.2.2.2.2.2.2.2.2.2.2.1
theorem k0_dev160_lt : ∀ (v0 : BitVec 32) (k0_hw1 : k0_chk1 v0), (k0_dev160 v0) < nD := fun v0 k0_hw1 => k0_hw1.2.2.1.2.2.2.2.2.2.2.2.2.2.2.2.2.2.2.1
theorem k0_dev162_lt : ∀ (v0 : BitVec 32) (k0_hw1 : k0_chk1 v0), (k0_dev162 v0) < nD := fun v0 k0_hw1 => k0_hw1.2.2.1.2.2.2.2.2.2.2.2.2.2.2.2.2.2.2.2.1
theorem k0_dev163_lt : ∀ (v0 : BitVec 32) (k0_hw1 : k0_chk1 v0), (k0_dev163 v0) < nD := fun v0 k0_hw1 => k0_hw1.2.2.1.2.2.2.2.2.2.2.2.2.2.2.2.2.2.2.2.2.1
theorem k0_dev165_lt : ∀ (v0 : BitVec 32) (k0_hw1 : k0_chk1 v0), (k0_dev165 v0) < nD := fun v0 k0_hw1 => k0_hw1.2.2.1.2.2.2.2.2.2.2.2.2.2.2.2.2.2.2.2.2.2.1
theorem k0_dev168_lt : ∀ (v0 : BitVec 32) (k0_hw1 : k0_chk1 v0), (k0_dev168 v0) < nD := fun v0 k0_hw1 => k0_hw1.2.2.1.2.2.2.2.2.2.2.2.2.2.2.2.2.2.2.2.2.2.2.1
theorem k0_dev170_lt : ∀ (v0 : BitVec 32) (k0_hw1 : k0_chk1 v0), (k0_dev170 v0) < nD := fun v0 k0_hw1 => k0_hw1.2.2.1.2.2.2.2.2.2.2.2.2.2.2.2.2.2.2.2.2.2.2.2.1
theorem k0_dev171_lt : ∀ (v0 : BitVec 32) (k0_hw1 : k0_chk1 v0), (k0_dev171 v0) < nD := fun v0 k0_hw1 => k0_hw1.2.2.1.2.2.2.2.2.2.2.2.2.2.2.2.2.2.2.2.2.2.2.2.2.1
theorem k0_dev173_lt : ∀ (v0 : BitVec 32) (k0_hw1 : k0_chk1 v0), (k0_dev173 v0) < nD := fun v0 k0_hw1 => k0_hw1.2.2.1.2.2.2.2.2.2.2.2.2.2.2.2.2.2.2.2.2.2.2.2.2.2.1
theorem k0_dev176_lt : ∀ (v0 : BitVec 32) (k0_hw1 : k0_chk1 v0), (k0_dev176 v0) < nD := fun v0 k0_hw1 => k0_hw1.2.2.1.2.2.2.2.2.2.2.2.2.2.2.2.2.2.2.2.2.2.2.2.2.2.2.1
theorem k0_dev178_lt : ∀ (v0 : BitVec 32) (k0_hw1 : k0_chk1 v0), (k0_dev178 v0) < nD := fun v0 k0_hw1 => k0_hw1.2.2.1.2.2.2.2.2.2.2.2.2.2.2.2.2.2.2.2.2.2.2.2.2.2.2.2.1
theorem k0_dev179_lt : ∀ (v0 : BitVec 32) (k0_hw1 : k0_chk1 v0), (k0_dev179 v0) < nD := fun v0 k0_hw1 => k0_hw1.2.2.1.2.2.2.2.2.2.2.2.2.2.2.2.2.2.2.2.2.2.2.2.2.2.2.2.2.1
theorem k0_dev181_lt : ∀ (v0 : BitVec 32) (k0_hw1 : k0_chk1 v0), (k0_dev181 v0) < nD := fun v0 k0_hw1 => k0_hw1.2.2.1.2.2.2.2.2.2.2.2.2.2.2.2.2.2.2.2.2.2.2.2.2.2.2.2.2.2.1
theorem k0_dev184_lt : ∀ (v0 : BitVec 32) (k0_hw1 : k0_chk1 v0), (k0_dev184 v0) < nD := fun v0 k0_hw1 => k0_hw1.2.2.1.2.2.2.2.2.2.2.2.2.2.2.2.2.2.2.2.2.2.2.2.2.2.2.2.2.2.2.1
theorem k0_dev186_lt : ∀ (v0 : BitVec 32) (k0_hw1 : k0_chk1 v0), (k0_dev186 v0) < nD := fun v0 k0_hw1 => k0_hw1.2.2.1.2.2.2.2.2.2.2.2.2.2.2.2.2.2.2.2.2.2.2.2.2.2.2.2.2.2.2.2.1
theorem k0_dev187_lt : ∀ (v0 : BitVec 32) (k0_hw1 : k0_chk1 v0), (k0_dev187 v0) < nD := fun v0 k0_hw1 => k0_hw1.2.2.1.2.2.2.2.2.2.2.2.2.2.2.2.2.2.2.2.2.2.2.2.2.2.2.2.2.2.2.2.2.1
theorem k0_dev189_lt : ∀ (v0 : BitVec 32) (k0_hw1 : k0_chk1 v0), (k0_dev189 v0) < nD := fun v0 k0_hw1 => k0_hw1.2.2.1.2.2.2.2.2.2.2.2.2.2.2.2.2.2.2.2.2.2.2.2.2.2.2.2.2.2.2.2.2.2.1
theorem k0_dev192_lt : ∀ (v0 : BitVec 32) (k0_hw1 : k0_chk1 v0), (k0_dev192 v0) < nD := fun v0 k0_hw1 => k0_hw1.2.2.1.2.2.2.2.2.2.2.2.2.2.2.2.2.2.2.2.2.2.2.2.2.2.2.2.2.2.2.2.2.2.2
theorem k0_dev194_lt : ∀ (v0 : BitVec 32) (k0_hw1 : k0_chk1 v0), (k0_dev194 v0) < nD := fun v0 k0_hw1 => k0_hw1.2.2.2.1
theorem k0_dev195_lt : ∀ (v0 : BitVec 32) (k0_hw1 : k0_chk1 v0), (k0_dev195 v0) < nD := fun v0 k0_hw1 => k0_hw1.2.2.2.2.1
theorem k0_dev197_lt : ∀ (v0 : BitVec 32) (k0_hw1 : k0_chk1 v0), (k0_dev197 v0) < nD := fun v0 k0_hw1 => k0_hw1.2.2.2.2.2.1
theorem k0_dev200_lt : ∀ (v0 : BitVec 32) (k0_hw1 : k0_chk1 v0), (k0_dev200 v0) < nD := fun v0 k0_hw1 => k0_hw1.2.2.2.2.2.2.1
theorem k0_dev202_lt : ∀ (v0 : BitVec 32) (k0_hw1 : k0_chk1 v0), (k0_dev202 v0) < nD := fun v0 k0_hw1 => k0_hw1.2.2.2.2.2.2.2.1
theorem k0_dev203_lt : ∀ (v0 : BitVec 32) (k0_hw1 : k0_chk1 v0), (k0_dev203 v0) < nD := fun v0 k0_hw1 => k0_hw1.2.2.2.2.2.2.2.2.1
theorem k0_dev205_lt : ∀ (v0 : BitVec 32) (k0_hw1 : k0_chk1 v0), (k0_dev205 v0) < nD := fun v0 k0_hw1 => k0_hw1.2.2.2.2.2.2.2.2.2.1
theorem k0_dev208_lt : ∀ (v0 : BitVec 32) (k0_hw1 : k0_chk1 v0), (k0_dev208 v0) < nD := fun v0 k0_hw1 => k0_hw1.2.2.2.2.2.2.2.2.2.2.1
theorem k0_dev210_lt : ∀ (v0 : BitVec 32) (k0_hw1 : k0_chk1 v0), (k0_dev210 v0) < nD := fun v0 k0_hw1 => k0_hw1.2.2.2.2.2.2.2.2.2.2.2.1
theorem k0_dev211_lt : ∀ (v0 : BitVec 32) (k0_hw1 : k0_chk1 v0), (k0_dev211 v0) < nD := fun v0 k0_hw1 => k0_hw1.2.2.2.2.2.2.2.2.2.2.2.2.1
theorem k0_dev213_lt : ∀ (v0 : BitVec 32) (k0_hw1 : k0_chk1 v0), (k0_dev213 v0) < nD := fun v0 k0_hw1 => k0_hw1.2.2.2.2.2.2.2.2.2.2.2.2.2.1
theorem k0_dev216_lt : ∀ (v0 : BitVec 32) (k0_hw1 : k0_chk1 v0), (k0_dev216 v0) < nD := fun v0 k0_hw1 => k0_hw1.2.2.2.2.2.2.2.2.2.2.2.2.2.2.1
theorem k0_dev218_lt : ∀ (v0 : BitVec 32) (k0_hw1 : k0_chk1 v0), (k0_dev218 v0) < nD := fun v0 k0_hw1 => k0_hw1.2.2.2.2.2.2.2.2.2.2.2.2.2.2.2.1
theorem k0_dev219_lt : ∀ (v0 : BitVec 32) (k0_hw1 : k0_chk1 v0), (k0_dev219 v0) < nD := fun v0 k0_hw1 => k0_hw1.2.2.2.2.2.2.2.2.2.2.2.2.2.2.2.2.1
theorem k0_dev221_lt : ∀ (v0 : BitVec 32) (k0_hw1 : k0_chk1 v0), (k0_dev221 v0) < nD := fun v0 k0_hw1 => k0_hw1.2.2.2.2.2.2.2.2.2.2.2.2.2.2.2.2.2.1
theorem k0_dev224_lt : ∀ (v0 : BitVec 32) (k0_hw1 : k0_chk1 v0), (k0_dev224 v0) < nD := fun v0 k0_hw1 => k0_hw1.2.2.2.2.2.2.2.2.2.2.2.2.2.2.2.2.2.2.1
theorem k0_dev226_lt : ∀ (v0 : BitVec 32) (k0_hw1 : k0_chk1 v0), (k0_dev226 v0) < nD := fun v0 k0_hw1 => k0_hw1.2.2.2.2.2.2.2.2.2.2.2.2.2.2.2.2.2.2.2.1
theorem k0_dev227_lt : ∀ (v0 : BitVec 32) (k0_hw1 : k0_chk1 v0), (k0_dev227 v0) < nD := fun v0 k0_hw1 => k0_hw1.2.2.2.2.2.2.2.2.2.2.2.2.2.2.2.2.2.2.2.2.1
theorem k0_dev229_lt : ∀ (v0 : BitVec 32) (k0_hw1 : k0_chk1 v0), (k0_dev229 v0) < nD := fun v0 k0_hw1 => k0_hw1.2.2.2.2.2.2.2.2.2.2.2.2.2.2.2.2.2.2.2.2.2.1
theorem k0_dev231_lt : ∀ (v0 : BitVec 32) (k0_hw1 : k0_chk1 v0), (k0_dev231 v0) < nD := fun v0 k0_hw1 => k0_hw1.2.2.2.2.2.2.2.2.2.2.2.2.2.2.2.2.2.2.2.2.2.2.1
theorem k0_dev232_lt : ∀ (v0 : BitVec 32) (k0_hw1 : k0_chk1 v0), (k0_dev232 v0) < nD := fun v0 k0_hw1 => k0_hw1.2.2.2.2.2.2.2.2.2.2.2.2.2.2.2.2.2.2.2.2.2.2.2.1
theorem k0_dev235_lt : ∀ (v0 : BitVec 32) (k0_hw1 : k0_chk1 v0), (k0_dev235 v0) < nD := fun v0 k0_hw1 => k0_hw1.2.2.2.2.2.2.2.2.2.2.2.2.2.2.2.2.2.2.2.2.2.2.2.2.1
theorem k0_dev236_lt : ∀ (v0 : BitVec 32) (k0_hw1 : k0_chk1 v0), (k0_dev236 v0) < nD := fun v0 k0_hw1 => k0_hw1.2.2.2.2.2.2.2.2.2.2.2.2.2.2.2.2.2.2.2.2.2.2.2.2.2

def k0_dev237 (v1 : BitVec 32) : Nat :=
  let c0_i32_7081 : BitVec 32 := 0#32
  let c1_i32_7080 : BitVec 32 := 1#32
  let v4441 : BitVec 32 := Scalar.muli v1 c1_i32_7080
  let v4442 : BitVec 32 := Scalar.addi c0_i32_7081 v4441
  v4442.toNat
def k0_dev238 (v1 : BitVec 32) : Nat :=
  let c0_i32_7135 : BitVec 32 := 0#32
  let c1_i32_7134 : BitVec 32 := 1#32
  let v4473 : BitVec 32 := Scalar.muli v1 c1_i32_7134
  let v4474 : BitVec 32 := Scalar.addi c0_i32_7135 v4473
  v4474.toNat

def k0_chk2_0 (v1 : BitVec 32) : Prop :=
  ((k0_dev2 v1) < nD) ∧
  ((k0_dev5 v1) < nD) ∧
  ((k0_dev6 v1) < nD) ∧
  ((k0_dev7 v1) < nD) ∧
  ((k0_dev9 v1) < nD) ∧
  ((k0_dev12 v1) < nD) ∧
  ((k0_dev14 v1) < nD) ∧
  ((k0_dev15 v1) < nD) ∧
  ((k0_dev17 v1) < nD) ∧
  ((k0_dev20 v1) < nD) ∧
  ((k0_dev22 v1) < nD) ∧
  ((k0_dev23 v1) < nD) ∧
  ((k0_dev25 v1) < nD) ∧
  ((k0_dev28 v1) < nD) ∧
  ((k0_dev30 v1) < nD) ∧
  ((k0_dev31 v1) < nD) ∧
  ((k0_dev33 v1) < nD) ∧
  ((k0_dev36 v1) < nD) ∧
  ((k0_dev38 v1) < nD) ∧
  ((k0_dev39 v1) < nD) ∧
  ((k0_dev41 v1) < nD) ∧
  ((k0_dev44 v1) < nD) ∧
  ((k0_dev46 v1) < nD) ∧
  ((k0_dev47 v1) < nD) ∧
  ((k0_dev49 v1) < nD) ∧
  ((k0_dev52 v1) < nD) ∧
  ((k0_dev54 v1) < nD) ∧
  ((k0_dev55 v1) < nD) ∧
  ((k0_dev57 v1) < nD) ∧
  ((k0_dev60 v1) < nD) ∧
  ((k0_dev62 v1) < nD) ∧
  ((k0_dev63 v1) < nD)
def k0_chk2_1 (v1 : BitVec 32) : Prop :=
  ((k0_dev65 v1) < nD) ∧
  ((k0_dev68 v1) < nD) ∧
  ((k0_dev70 v1) < nD) ∧
  ((k0_dev71 v1) < nD) ∧
  ((k0_dev73 v1) < nD) ∧
  ((k0_dev76 v1) < nD) ∧
  ((k0_dev78 v1) < nD) ∧
  ((k0_dev79 v1) < nD) ∧
  ((k0_dev81 v1) < nD) ∧
  ((k0_dev84 v1) < nD) ∧
  ((k0_dev86 v1) < nD) ∧
  ((k0_dev87 v1) < nD) ∧
  ((k0_dev89 v1) < nD) ∧
  ((k0_dev92 v1) < nD) ∧
  ((k0_dev94 v1) < nD) ∧
  ((k0_dev95 v1) < nD) ∧
  ((k0_dev97 v1) < nD) ∧
  ((k0_dev100 v1) < nD) ∧
  ((k0_dev102 v1) < nD) ∧
  ((k0_dev103 v1) < nD) ∧
  ((k0_dev105 v1) < nD) ∧
  ((k0_dev108 v1) < nD) ∧
  ((k0_dev110 v1) < nD) ∧
  ((k0_dev111 v1) < nD) ∧
  ((k0_dev113 v1) < nD) ∧
  ((k0_dev116 v1) < nD) ∧
  ((k0_dev118 v1) < nD) ∧
  ((k0_dev119 v1) < nD) ∧
  ((k0_dev121 v1) < nD) ∧
  ((k0_dev124 v1) < nD) ∧
  ((k0_dev126 v1) < nD) ∧
  ((k0_dev127 v1) < nD)
def k0_chk2_2 (v1 : BitVec 32) : Prop :=
  ((k0_dev129 v1) < nD) ∧
  ((k0_dev132 v1) < nD) ∧
  ((k0_dev134 v1) < nD) ∧
  ((k0_dev135 v1) < nD) ∧
  ((k0_dev137 v1) < nD) ∧
  ((k0_dev140 v1) < nD) ∧
  ((k0_dev142 v1) < nD) ∧
  ((k0_dev143 v1) < nD) ∧
  ((k0_dev145 v1) < nD) ∧
  ((k0_dev148 v1) < nD) ∧
  ((k0_dev150 v1) < nD) ∧
  ((k0_dev151 v1) < nD) ∧
  ((k0_dev153 v1) < nD) ∧
  ((k0_dev156 v1) < nD) ∧
  ((k0_dev158 v1) < nD) ∧
  ((k0_dev159 v1) < nD) ∧
  ((k0_dev161 v1) < nD) ∧
  ((k0_dev164 v1) < nD) ∧
  ((k0_dev166 v1) < nD) ∧
  ((k0_dev167 v1) < nD) ∧
  ((k0_dev169 v1) < nD) ∧
  ((k0_dev172 v1) < nD) ∧
  ((k0_dev174 v1) < nD) ∧
  ((k0_dev175 v1) < nD) ∧
  ((k0_dev177 v1) < nD) ∧
  ((k0_dev180 v1) < nD) ∧
  ((k0_dev182 v1) < nD) ∧
  ((k0_dev183 v1) < nD) ∧
  ((k0_dev185 v1) < nD) ∧
  ((k0_dev188 v1) < nD) ∧
  ((k0_dev190 v1) < nD) ∧
  ((k0_dev191 v1) < nD)
def k0_chk2_3 (v1 : BitVec 32) : Prop :=
  ((k0_dev193 v1) < nD) ∧
  ((k0_dev196 v1) < nD) ∧
  ((k0_dev198 v1) < nD) ∧
  ((k0_dev199 v1) < nD) ∧
  ((k0_dev201 v1) < nD) ∧
  ((k0_dev204 v1) < nD) ∧
  ((k0_dev206 v1) < nD) ∧
  ((k0_dev207 v1) < nD) ∧
  ((k0_dev209 v1) < nD) ∧
  ((k0_dev212 v1) < nD) ∧
  ((k0_dev214 v1) < nD) ∧
  ((k0_dev215 v1) < nD) ∧
  ((k0_dev217 v1) < nD) ∧
  ((k0_dev220 v1) < nD) ∧
  ((k0_dev222 v1) < nD) ∧
  ((k0_dev223 v1) < nD) ∧
  ((k0_dev225 v1) < nD) ∧
  ((k0_dev228 v1) < nD) ∧
  ((k0_dev230 v1) < nD) ∧
  ((k0_dev233 v1) < nD) ∧
  ((k0_dev234 v1) < nD) ∧
  ((k0_dev237 v1) < nD) ∧
  ((k0_dev238 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev5_lt : ∀ (v1 : BitVec 32) (k0_hw2 : k0_chk2 v1), (k0_dev5 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev12_lt : ∀ (v1 : BitVec 32) (k0_hw2 : k0_chk2 v1), (k0_dev12 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev20_lt : ∀ (v1 : BitVec 32) (k0_hw2 : k0_chk2 v1), (k0_dev20 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev28_lt : ∀ (v1 : BitVec 32) (k0_hw2 : k0_chk2 v1), (k0_dev28 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev44_lt : ∀ (v1 : BitVec 32) (k0_hw2 : k0_chk2 v1), (k0_dev44 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1.1
theorem k0_dev68_lt : ∀ (v1 : BitVec 32) (k0_hw2 : k0_chk2 v1), (k0_dev68 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev71_lt : ∀ (v1 : BitVec 32) (k0_hw2 : k0_chk2 v1), (k0_dev71 v1) < nD := fun v1 k0_hw2 => k0_hw2.2.1.2.2.2.1
theorem k0_dev73_lt : ∀ (v1 : BitVec 32) (k0_hw2 : k0_chk2 v1), (k0_dev73 v1) < nD := fun v1 k0_hw2 => k0_hw2.2.1.2.2.2.2.1
theorem k0_dev76_lt : ∀ (v1 : BitVec 32) (k0_hw2 : k0_chk2 v1), (k0_dev76 v1) < nD := fun v1 k0_hw2 => k0_hw2.2.1.2.2.2.2.2.1
theorem k0_dev78_lt : ∀ (v1 : BitVec 32) (k0_hw2 : k0_chk2 v1), (k0_dev78 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev84_lt : ∀ (v1 : BitVec 32) (k0_hw2 : k0_chk2 v1), (k0_dev84 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev89_lt : ∀ (v1 : BitVec 32) (k0_hw2 : k0_chk2 v1), (k0_dev89 v1) < nD := fun v1 k0_hw2 => k0_hw2.2.1.2.2.2.2.2.2.2.2.2.2.2.2.1
theorem k0_dev92_lt : ∀ (v1 : BitVec 32) (k0_hw2 : k0_chk2 v1), (k0_dev92 v1) < nD := fun v1 k0_hw2 => k0_hw2.2.1.2.2.2.2.2.2.2.2.2.2.2.2.2.1
theorem k0_dev94_lt : ∀ (v1 : BitVec 32) (k0_hw2 : k0_chk2 v1), (k0_dev94 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev100_lt : ∀ (v1 : BitVec 32) (k0_hw2 : k0_chk2 v1), (k0_dev100 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.1.2.2.2.2.2.2.2.2.2.2.2.2.2.2.2.2.2.2.2.2.1
theorem k0_dev108_lt : ∀ (v1 : BitVec 32) (k0_hw2 : k0_chk2 v1), (k0_dev108 v1) < nD := fun v1 k0_hw2 => k0_hw2.2.1.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.1.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.1.2.2.2.2.2.2.2.2.2.2.2.2.2.2.2.2.2.2.2.2.2.2.2.2.2.2.2.2.1
theorem k0_dev124_lt : ∀ (v1 : BitVec 32) (k0_hw2 : k0_chk2 v1), (k0_dev124 v1) < nD := fun v1 k0_hw2 => k0_hw2.2.1.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1.1
theorem k0_dev132_lt : ∀ (v1 : BitVec 32) (k0_hw2 : k0_chk2 v1), (k0_dev132 v1) < nD := fun v1 k0_hw2 => k0_hw2.2.2.1.2.1
theorem k0_dev134_lt : ∀ (v1 : BitVec 32) (k0_hw2 : k0_chk2 v1), (k0_dev134 v1) < nD := fun v1 k0_hw2 => k0_hw2.2.2.1.2.2.1
theorem k0_dev135_lt : ∀ (v1 : BitVec 32) (k0_hw2 : k0_chk2 v1), (k0_dev135 v1) < nD := fun v1 k0_hw2 => k0_hw2.2.2.1.2.2.2.1
theorem k0_dev137_lt : ∀ (v1 : BitVec 32) (k0_hw2 : k0_chk2 v1), (k0_dev137 v1) < nD := fun v1 k0_hw2 => k0_hw2.2.2.1.2.2.2.2.1
theorem k0_dev140_lt : ∀ (v1 : BitVec 32) (k0_hw2 : k0_chk2 v1), (k0_dev140 v1) < nD := fun v1 k0_hw2 => k0_hw2.2.2.1.2.2.2.2.2.1
theorem k0_dev142_lt : ∀ (v1 : BitVec 32) (k0_hw2 : k0_chk2 v1), (k0_dev142 v1) < nD := fun v1 k0_hw2 => k0_hw2.2.2.1.2.2.2.2.2.2.1
theorem k0_dev143_lt : ∀ (v1 : BitVec 32) (k0_hw2 : k0_chk2 v1), (k0_dev143 v1) < nD := fun v1 k0_hw2 => k0_hw2.2.2.1.2.2.2.2.2.2.2.1
theorem k0_dev145_lt : ∀ (v1 : BitVec 32) (k0_hw2 : k0_chk2 v1), (k0_dev145 v1) < nD := fun v1 k0_hw2 => k0_hw2.2.2.1.2.2.2.2.2.2.2.2.1
theorem k0_dev148_lt : ∀ (v1 : BitVec 32) (k0_hw2 : k0_chk2 v1), (k0_dev148 v1) < nD := fun v1 k0_hw2 => k0_hw2.2.2.1.2.2.2.2.2.2.2.2.2.1
theorem k0_dev150_lt : ∀ (v1 : BitVec 32) (k0_hw2 : k0_chk2 v1), (k0_dev150 v1) < nD := fun v1 k0_hw2 => k0_hw2.2.2.1.2.2.2.2.2.2.2.2.2.2.1
theorem k0_dev151_lt : ∀ (v1 : BitVec 32) (k0_hw2 : k0_chk2 v1), (k0_dev151 v1) < nD := fun v1 k0_hw2 => k0_hw2.2.2.1.2.2.2.2.2.2.2.2.2.2.2.1
theorem k0_dev153_lt : ∀ (v1 : BitVec 32) (k0_hw2 : k0_chk2 v1), (k0_dev153 v1) < nD := fun v1 k0_hw2 => k0_hw2.2.2.1.2.2.2.2.2.2.2.2.2.2.2.2.1
theorem k0_dev156_lt : ∀ (v1 : BitVec 32) (k0_hw2 : k0_chk2 v1), (k0_dev156 v1) < nD := fun v1 k0_hw2 => k0_hw2.2.2.1.2.2.2.2.2.2.2.2.2.2.2.2.2.1
theorem k0_dev158_lt : ∀ (v1 : BitVec 32) (k0_hw2 : k0_chk2 v1), (k0_dev158 v1) < nD := fun v1 k0_hw2 => k0_hw2.2.2.1.2.2.2.2.2.2.2.2.2.2.2.2.2.2.1
theorem k0_dev159_lt : ∀ (v1 : BitVec 32) (k0_hw2 : k0_chk2 v1), (k0_dev159 v1) < nD := fun v1 k0_hw2 => k0_hw2.2.2.1.2.2.2.2.2.2.2.2.2.2.2.2.2.2.2.1
theorem k0_dev161_lt : ∀ (v1 : BitVec 32) (k0_hw2 : k0_chk2 v1), (k0_dev161 v1) < nD := fun v1 k0_hw2 => k0_hw2.2.2.1.2.2.2.2.2.2.2.2.2.2.2.2.2.2.2.2.1
theorem k0_dev164_lt : ∀ (v1 : BitVec 32) (k0_hw2 : k0_chk2 v1), (k0_dev164 v1) < nD := fun v1 k0_hw2 => k0_hw2.2.2.1.2.2.2.2.2.2.2.2.2.2.2.2.2.2.2.2.2.1
theorem k0_dev166_lt : ∀ (v1 : BitVec 32) (k0_hw2 : k0_chk2 v1), (k0_dev166 v1) < nD := fun v1 k0_hw2 => k0_hw2.2.2.1.2.2.2.2.2.2.2.2.2.2.2.2.2.2.2.2.2.2.1
theorem k0_dev167_lt : ∀ (v1 : BitVec 32) (k0_hw2 : k0_chk2 v1), (k0_dev167 v1) < nD := fun v1 k0_hw2 => k0_hw2.2.2.1.2.2.2.2.2.2.2.2.2.2.2.2.2.2.2.2.2.2.2.1
theorem k0_dev169_lt : ∀ (v1 : BitVec 32) (k0_hw2 : k0_chk2 v1), (k0_dev169 v1) < nD := fun v1 k0_hw2 => k0_hw2.2.2.1.2.2.2.2.2.2.2.2.2.2.2.2.2.2.2.2.2.2.2.2.1
theorem k0_dev172_lt : ∀ (v1 : BitVec 32) (k0_hw2 : k0_chk2 v1), (k0_dev172 v1) < nD := fun v1 k0_hw2 => k0_hw2.2.2.1.2.2.2.2.2.2.2.2.2.2.2.2.2.2.2.2.2.2.2.2.2.1
theorem k0_dev174_lt : ∀ (v1 : BitVec 32) (k0_hw2 : k0_chk2 v1), (k0_dev174 v1) < nD := fun v1 k0_hw2 => k0_hw2.2.2.1.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.1.2.2.2.2.2.2.2.2.2.2.2.2.2.2.2.2.2.2.2.2.2.2.2.1
theorem k0_dev177_lt : ∀ (v1 : BitVec 32) (k0_hw2 : k0_chk2 v1), (k0_dev177 v1) < nD := fun v1 k0_hw2 => k0_hw2.2.2.1.2.2.2.2.2.2.2.2.2.2.2.2.2.2.2.2.2.2.2.2.2.2.2.2.1
theorem k0_dev180_lt : ∀ (v1 : BitVec 32) (k0_hw2 : k0_chk2 v1), (k0_dev180 v1) < nD := fun v1 k0_hw2 => k0_hw2.2.2.1.2.2.2.2.2.2.2.2.2.2.2.2.2.2.2.2.2.2.2.2.2.2.2.2.2.1
theorem k0_dev182_lt : ∀ (v1 : BitVec 32) (k0_hw2 : k0_chk2 v1), (k0_dev182 v1) < nD := fun v1 k0_hw2 => k0_hw2.2.2.1.2.2.2.2.2.2.2.2.2.2.2.2.2.2.2.2.2.2.2.2.2.2.2.2.2.2.1
theorem k0_dev183_lt : ∀ (v1 : BitVec 32) (k0_hw2 : k0_chk2 v1), (k0_dev183 v1) < nD := fun v1 k0_hw2 => k0_hw2.2.2.1.2.2.2.2.2.2.2.2.2.2.2.2.2.2.2.2.2.2.2.2.2.2.2.2.2.2.2.1
theorem k0_dev185_lt : ∀ (v1 : BitVec 32) (k0_hw2 : k0_chk2 v1), (k0_dev185 v1) < nD := fun v1 k0_hw2 => k0_hw2.2.2.1.2.2.2.2.2.2.2.2.2.2.2.2.2.2.2.2.2.2.2.2.2.2.2.2.2.2.2.2.1
theorem k0_dev188_lt : ∀ (v1 : BitVec 32) (k0_hw2 : k0_chk2 v1), (k0_dev188 v1) < nD := fun v1 k0_hw2 => k0_hw2.2.2.1.2.2.2.2.2.2.2.2.2.2.2.2.2.2.2.2.2.2.2.2.2.2.2.2.2.2.2.2.2.1
theorem k0_dev190_lt : ∀ (v1 : BitVec 32) (k0_hw2 : k0_chk2 v1), (k0_dev190 v1) < nD := fun v1 k0_hw2 => k0_hw2.2.2.1.2.2.2.2.2.2.2.2.2.2.2.2.2.2.2.2.2.2.2.2.2.2.2.2.2.2.2.2.2.2.1
theorem k0_dev191_lt : ∀ (v1 : BitVec 32) (k0_hw2 : k0_chk2 v1), (k0_dev191 v1) < nD := fun v1 k0_hw2 => k0_hw2.2.2.1.2.2.2.2.2.2.2.2.2.2.2.2.2.2.2.2.2.2.2.2.2.2.2.2.2.2.2.2.2.2.2
theorem k0_dev193_lt : ∀ (v1 : BitVec 32) (k0_hw2 : k0_chk2 v1), (k0_dev193 v1) < nD := fun v1 k0_hw2 => k0_hw2.2.2.2.1
theorem k0_dev196_lt : ∀ (v1 : BitVec 32) (k0_hw2 : k0_chk2 v1), (k0_dev196 v1) < nD := fun v1 k0_hw2 => k0_hw2.2.2.2.2.1
theorem k0_dev198_lt : ∀ (v1 : BitVec 32) (k0_hw2 : k0_chk2 v1), (k0_dev198 v1) < nD := fun v1 k0_hw2 => k0_hw2.2.2.2.2.2.1
theorem k0_dev199_lt : ∀ (v1 : BitVec 32) (k0_hw2 : k0_chk2 v1), (k0_dev199 v1) < nD := fun v1 k0_hw2 => k0_hw2.2.2.2.2.2.2.1
theorem k0_dev201_lt : ∀ (v1 : BitVec 32) (k0_hw2 : k0_chk2 v1), (k0_dev201 v1) < nD := fun v1 k0_hw2 => k0_hw2.2.2.2.2.2.2.2.1
theorem k0_dev204_lt : ∀ (v1 : BitVec 32) (k0_hw2 : k0_chk2 v1), (k0_dev204 v1) < nD := fun v1 k0_hw2 => k0_hw2.2.2.2.2.2.2.2.2.1
theorem k0_dev206_lt : ∀ (v1 : BitVec 32) (k0_hw2 : k0_chk2 v1), (k0_dev206 v1) < nD := fun v1 k0_hw2 => k0_hw2.2.2.2.2.2.2.2.2.2.1
theorem k0_dev207_lt : ∀ (v1 : BitVec 32) (k0_hw2 : k0_chk2 v1), (k0_dev207 v1) < nD := fun v1 k0_hw2 => k0_hw2.2.2.2.2.2.2.2.2.2.2.1
theorem k0_dev209_lt : ∀ (v1 : BitVec 32) (k0_hw2 : k0_chk2 v1), (k0_dev209 v1) < nD := fun v1 k0_hw2 => k0_hw2.2.2.2.2.2.2.2.2.2.2.2.1
theorem k0_dev212_lt : ∀ (v1 : BitVec 32) (k0_hw2 : k0_chk2 v1), (k0_dev212 v1) < nD := fun v1 k0_hw2 => k0_hw2.2.2.2.2.2.2.2.2.2.2.2.2.1
theorem k0_dev214_lt : ∀ (v1 : BitVec 32) (k0_hw2 : k0_chk2 v1), (k0_dev214 v1) < nD := fun v1 k0_hw2 => k0_hw2.2.2.2.2.2.2.2.2.2.2.2.2.2.1
theorem k0_dev215_lt : ∀ (v1 : BitVec 32) (k0_hw2 : k0_chk2 v1), (k0_dev215 v1) < nD := fun v1 k0_hw2 => k0_hw2.2.2.2.2.2.2.2.2.2.2.2.2.2.2.1
theorem k0_dev217_lt : ∀ (v1 : BitVec 32) (k0_hw2 : k0_chk2 v1), (k0_dev217 v1) < nD := fun v1 k0_hw2 => k0_hw2.2.2.2.2.2.2.2.2.2.2.2.2.2.2.2.1
theorem k0_dev220_lt : ∀ (v1 : BitVec 32) (k0_hw2 : k0_chk2 v1), (k0_dev220 v1) < nD := fun v1 k0_hw2 => k0_hw2.2.2.2.2.2.2.2.2.2.2.2.2.2.2.2.2.1
theorem k0_dev222_lt : ∀ (v1 : BitVec 32) (k0_hw2 : k0_chk2 v1), (k0_dev222 v1) < nD := fun v1 k0_hw2 => k0_hw2.2.2.2.2.2.2.2.2.2.2.2.2.2.2.2.2.2.1
theorem k0_dev223_lt : ∀ (v1 : BitVec 32) (k0_hw2 : k0_chk2 v1), (k0_dev223 v1) < nD := fun v1 k0_hw2 => k0_hw2.2.2.2.2.2.2.2.2.2.2.2.2.2.2.2.2.2.2.1
theorem k0_dev225_lt : ∀ (v1 : BitVec 32) (k0_hw2 : k0_chk2 v1), (k0_dev225 v1) < nD := fun v1 k0_hw2 => k0_hw2.2.2.2.2.2.2.2.2.2.2.2.2.2.2.2.2.2.2.2.1
theorem k0_dev228_lt : ∀ (v1 : BitVec 32) (k0_hw2 : k0_chk2 v1), (k0_dev228 v1) < nD := fun v1 k0_hw2 => k0_hw2.2.2.2.2.2.2.2.2.2.2.2.2.2.2.2.2.2.2.2.2.1
theorem k0_dev230_lt : ∀ (v1 : BitVec 32) (k0_hw2 : k0_chk2 v1), (k0_dev230 v1) < nD := fun v1 k0_hw2 => k0_hw2.2.2.2.2.2.2.2.2.2.2.2.2.2.2.2.2.2.2.2.2.2.1
theorem k0_dev233_lt : ∀ (v1 : BitVec 32) (k0_hw2 : k0_chk2 v1), (k0_dev233 v1) < nD := fun v1 k0_hw2 => k0_hw2.2.2.2.2.2.2.2.2.2.2.2.2.2.2.2.2.2.2.2.2.2.2.1
theorem k0_dev234_lt : ∀ (v1 : BitVec 32) (k0_hw2 : k0_chk2 v1), (k0_dev234 v1) < nD := fun v1 k0_hw2 => k0_hw2.2.2.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.2.2.2.2.2.2.2.2.2.2.2.2.2.2.2.2.2.2.2.2.2.1
theorem k0_dev238_lt : ∀ (v1 : BitVec 32) (k0_hw2 : k0_chk2 v1), (k0_dev238 v1) < nD := fun v1 k0_hw2 => k0_hw2.2.2.2.2.2.2.2.2.2.2.2.2.2.2.2.2.2.2.2.2.2.2.2.2.2

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Walk.lean ====
/-
  The kernel's body as a WALK over (step, column block): the printed body is one straight line of statements; here it
  is written once per kind of step, at a symbolic step `s` and block `i`, each in continuation form.
-/
module

public import proofs.«01_k».proof.Proof.Gen.KernelIdeal

@[expose] public section

noncomputable section

namespace Cert.KernelIdeal.Ring

open Cert.KernelIdeal Cert.KernelIdeal.Gen
open Idealize.ShloMosaic Idealize.SL.Sem

variable {F : FTy → Type} [FloatOps F]

/-- A kernel program of this body that returns nothing. -/
abbrev Pg (F : FTy → Type) : Type 1 := Prog (TpuEff nD τ sig (Elt F) Λ₀ .tc) PUnit

/-- The operands the body is called on. -/
structure Ops where
  /-- this device's columns of `x` -/
  x : Memref sig .tc .vmem S4096x128 .f32
  /-- this device's rows of `w` -/
  w : Memref sig .tc .vmem S128x2048 .f32
  /-- the row block multiplied at each position, forward order -/
  tab : Memref sig .tc .smem S32 .i32
  /-- the same in the backward order (not read) -/
  tabB : Memref sig .tc .smem S32 .i32
  /-- the two ring neighbours -/
  nb : Memref sig .tc .smem S2 .i32
  /-- the result block -/
  out : Memref sig .tc .vmem S128x2048 .f32
  /-- the communication slots, slot by column block -/
  buf : Memref sig .tc .vmem S4x4x128x512 .f32
  /-- the partial products -/
  sp : Memref sig .tc .vmem S32x128x2048 .f32
  /-- the departure semaphores -/
  snd : DmaSems sig S4x4
  /-- the arrival semaphores -/
  rcv : DmaSems sig S4x4
  /-- the forward credits -/
  cf : Sems sig S_
  /-- the backward credits -/
  cb : Sems sig S_

/-- A step's slot is one of four. -/
theorem slot_lt (s : ℕ) : s % 4 < 4 := Nat.mod_lt _ (by decide)

/-- The slot of step `s`. -/
def slot (s : ℕ) : Fin 4 := ⟨s % 4, slot_lt s⟩

/-- A slot lies inside the transfer buffer. -/
theorem buf_inb (t i : Fin 4) : ∀ a, ((![t.val, i.val, 0, 0] : Fin 4 → ℕ) a) + S1x1x128x512.size a ≤ S4x4x128x512.size a := by
  revert t i; decide
/-- A semaphore lies inside its array. -/
theorem sem_inb (t i : Fin 4) : ∀ a, ((![t.val, i.val] : Fin 2 → ℕ) a) + S1x1.size a ≤ S4x4.size a := by
  revert t i; decide
/-- A partial product lies inside the scratch of partial products. -/
theorem sp_inb (j : Fin 32) : ∀ a, ((![j.val, 0, 0] : Fin 3 → ℕ) a) + S1x128x2048.size a ≤ S32x128x2048.size a := by
  revert j; decide
/-- So does a column block of one. -/
theorem ps_inb (j : Fin 32) (i : Fin 4) :
    ∀ a, ((![j.val, 0, 512 * i.val] : Fin 3 → ℕ) a) + S1x128x512.size a ≤ S32x128x2048.size a := by
  revert j i; decide
/-- A column block lies inside the result. -/
theorem out_inb (i : Fin 4) : ∀ a, ((![0, 512 * i.val] : Fin 2 → ℕ) a) + S128x512.size a ≤ S128x2048.size a := by
  revert i; decide
/-- An entry lies inside the table of row blocks. -/
theorem tab_inb (j : Fin 32) : ∀ a, ((![j.val] : Fin 1 → ℕ) a) + S1.size a ≤ S32.size a := by
  revert j; decide

/-- The rectangle of slot `t`, column block `i` of the communication buffer. -/
abbrev bufR (t i : Fin 4) : Rect S4x4x128x512 := Rect.unit (s := S4x4x128x512) ![t.val, i.val, 0, 0] S1x1x128x512.size (buf_inb t i)
/-- The rectangle of partial product `j`. -/
abbrev spR (j : Fin 32) : Rect S32x128x2048 := Rect.unit (s := S32x128x2048) ![j.val, 0, 0] S1x128x2048.size (sp_inb j)
/-- The rectangle of column block `i` of partial product `j`. -/
abbrev psR (j : Fin 32) (i : Fin 4) : Rect S32x128x2048 :=
  Rect.unit (s := S32x128x2048) ![j.val, 0, 512 * i.val] S1x128x512.size (ps_inb j i)
/-- The rectangle of column block `i` of the result. -/
abbrev outR (i : Fin 4) : Rect S128x2048 := Rect.unit (s := S128x2048) ![0, 512 * i.val] S128x512.size (out_inb i)

/-- Slot `t`, column block `i`, as a 128 × 512 operand of a transfer. -/
abbrev slotM (A : Ops) (t i : Fin 4) : Memref sig .tc .vmem S128x512 .f32 :=
  (A.buf.slice (bufR t i) (fun _ => rfl)).squeeze S128x512 squeezes_S1x1x128x512_S128x512
/-- The semaphore of slot `t`, block `i`, of an array of sixteen. -/
abbrev semAt (S : DmaSems sig S4x4) (t i : Fin 4) : DmaSem sig :=
  ((S.slice (Rect.unit (s := S4x4) ![t.val, i.val] S1x1.size (sem_inb t i))).squeeze S_ squeezes_S1x1_S_).sem

/-- The position of the partial product that block `i` adds at step `s`: forward blocks go up, backward blocks mirror. -/
def posOf (s : ℕ) (i : Fin 4) : Fin 32 :=
  if i.val < 2 then ⟨s % 32, Nat.mod_lt _ (by decide)⟩ else ⟨30 - s, by omega⟩

/-! ## The statements, each continued by `k` -/

/-- Multiply row block `tab[j]` of `x` by `w` into partial product `j`. -/
def dot (A : Ops) (j : Fin 32) (k : Pg F) : Pg F :=
  Prog.bind (smemLoad A.tab (Rect.unit (s := S32) ![j.val] S1.size (tab_inb j)) numel1_S1 rfl) fun v =>
  .op (.assume (k0_chk3 v) (k0_chk3.dec v)) fun h =>
  .op (.load A.x (Rect.unit (s := S4096x128) (k0_off1 v) S128x128.size (k0_off1_inb v h.down)).toLoadRect (View.loadsAt_vmem h_S128x128)) fun a =>
  .op (.load A.w (Rect.unit (s := S128x2048) ![0, 0] S128x2048.size inb_S128x2048_S128x2048_0_0).toLoadRect (View.loadsAt_vmem h_S128x2048)) fun b =>
  .op (.load A.sp (spR j).toLoadRect (View.loadsAt_vmem h_S1x128x2048)) fun _ =>
  .op (.store A.sp (spR j)
    (shapeCast S1x128x2048 (matmul dot_S128x128_S128x2048_S128x2048_1_0_0_1_n_n none
      (shapeCast S128x128 a shapeCasts_S128x128_S128x128) (shapeCast S128x2048 b shapeCasts_S128x2048_S128x2048)
      (constant S128x2048 .f32 0x00000000#32)) shapeCasts_S128x2048_S1x128x2048)
    Finset.univ (View.stores_vmem_bits_univ h_S1x128x2048 rfl) (.inl rfl)) fun _ => k

/-- Put block `i` of its first partial product in slot 0. -/
def first (A : Ops) (i : Fin 4) (k : Pg F) : Pg F :=
  .op (.load A.sp (psR (posOf 0 i) i).toLoadRect (View.loadsAt_vmem h_S1x128x512)) fun p =>
  .op (.load A.buf (bufR 0 i).toLoadRect (View.loadsAt_vmem h_S1x1x128x512)) fun _ =>
  .op (.store A.buf (bufR 0 i)
    (shapeCast S1x1x128x512 (shapeCast S128x512 p shapeCasts_S1x128x512_S128x512) shapeCasts_S128x512_S1x1x128x512)
    Finset.univ (View.stores_vmem_bits_univ h_S1x1x128x512 rfl) (.inl rfl)) fun _ => k

/-- Start step `s`'s transfer of block `i`: slot of `s` here to the slot of `s + 1` on `d`. -/
def start (A : Ops) (d : Dev nD) (s : ℕ) (i : Fin 4) (k : Pg F) : Pg F :=
  .op (.enqueueDma (slotM A (slot s) i) (.remote (Dev.tc d) (slotM A (slot (s + 1)) i) (.dma (semAt A.snd (slot s) i)))
    (.dma (semAt A.rcv (slot (s + 1)) i)) ((View.wordExact_bits rfl).reshape _ _) ((View.wordExact_bits rfl).reshape _ _)
    ⟨⟨rfl, Or.inl rfl⟩, trivial⟩) fun _ => k

/-- Wait for step `s`'s transfer of block `i` to have left, and for the neighbour's to have arrived. -/
def await (A : Ops) (s : ℕ) (i : Fin 4) (k : Pg F) : Pg F :=
  .op (.waitDma2 (semAt A.snd (slot s) i) (slotM A (slot (s + 1)) i) (slotM A (slot s) i)
    ((View.wordExact_bits rfl).reshape _ _) ((View.wordExact_bits rfl).reshape _ _)) fun _ =>
  .op (.waitDma2 (semAt A.rcv (slot (s + 1)) i) (slotM A (slot s) i) (slotM A (slot (s + 1)) i)
    ((View.wordExact_bits rfl).reshape _ _) ((View.wordExact_bits rfl).reshape _ _)) fun _ => k

/-- Give the neighbour `u` one credit. -/
def give (S : Sems sig S_) (u : Dev nD) (k : Pg F) : Pg F :=
  Prog.bind (semSignalWord u S.sem 1#32) fun _ => k
/-- Take one credit. -/
def take (S : Sems sig S_) (k : Pg F) : Pg F :=
  Prog.bind (semWaitWord S.sem 1#32) fun _ => k

/-- Add block `i` of the step's partial product to what arrived. -/
def accum (A : Ops) (s : ℕ) (i : Fin 4) (k : Pg F) : Pg F :=
  .op (.load A.buf (bufR (slot s) i).toLoadRect (View.loadsAt_vmem h_S1x1x128x512)) fun a =>
  .op (.load A.sp (psR (posOf s i) i).toLoadRect (View.loadsAt_vmem h_S1x128x512)) fun p =>
  .op (.load A.buf (bufR (slot s) i).toLoadRect (View.loadsAt_vmem h_S1x1x128x512)) fun _ =>
  .op (.store A.buf (bufR (slot s) i)
    (shapeCast S1x1x128x512 (addf (shapeCast S128x512 a shapeCasts_S1x1x128x512_S128x512) (shapeCast S128x512 p shapeCasts_S1x128x512_S128x512)) shapeCasts_S128x512_S1x1x128x512)
    Finset.univ (View.stores_vmem_bits_univ h_S1x1x128x512 rfl) (.inl rfl)) fun _ => k

/-- The activation, as the kernel computes it. -/
def gelu (y : FVec F S128x512 .f32) : FVec F S128x512 .f32 :=
  mulf (mulf (broadcast S128x512 (Scalar.ofBits .f32 0x3F000000#32)) y)
    (addf (broadcast S128x512 (Scalar.ofBits .f32 0x3F800000#32))
      (tanh (mulf (broadcast S128x512 (Scalar.ofBits .f32 0x3F4C422A#32))
        (addf y (mulf (mulf (mulf (broadcast S128x512 (Scalar.ofBits .f32 0x3D372713#32)) y) y) y)))))

/-- Wait for the last arrival of block `i`, add the last partial product, and write the result's block. -/
def finish (A : Ops) (i : Fin 4) (k : Pg F) : Pg F :=
  await A 30 i <|
  .op (.load A.buf (bufR 3 i).toLoadRect (View.loadsAt_vmem h_S1x1x128x512)) fun a =>
  .op (.load A.sp (psR 31 i).toLoadRect (View.loadsAt_vmem h_S1x128x512)) fun p =>
  .op (.load A.out (outR i).toLoadRect (View.loadsAt_vmem h_S128x512)) fun _ =>
  .op (.store A.out (outR i)
    (gelu (addf (shapeCast S128x512 a shapeCasts_S1x1x128x512_S128x512) (shapeCast S128x512 p shapeCasts_S1x128x512_S128x512)))
    Finset.univ (View.stores_vmem_bits_univ h_S128x512 rfl) (.inl rfl)) fun _ => k

/-- Where block `i` travels to, of the two neighbours `f` (next) and `b` (previous). -/
def down (f b : Dev nD) (i : Fin 4) : Dev nD := if i.val < 2 then f else b
/-- Where block `i` comes from. -/
def up (f b : Dev nD) (i : Fin 4) : Dev nD := if i.val < 2 then b else f
/-- The credits of block `i`'s direction. -/
def credit (A : Ops) (i : Fin 4) : Sems sig S_ := if i.val < 2 then A.cf else A.cb

/-- Step `s` of block `i`. -/
def step (A : Ops) (f b : Dev nD) (s : ℕ) (hs : s < 32) (i : Fin 4) (k : Pg F) : Pg F :=
  if 1 ≤ s then
    await A (s - 1) i <|
    (if s ≤ 28 then give (credit A i) (up f b i) else id) <|
    accum A s i <|
    (if 3 ≤ s then take (credit A i) else id) <|
    start A (down f b i) s i k
  else start A (down f b i) s i k

/-- The products that follow step `s`. -/
def dots (A : Ops) (s : ℕ) (hs : s < 32) (k : Pg F) : Pg F :=
  if h : s ≤ 13 then
    dot A ⟨s + 2, by omega⟩ (if s + 2 = 28 - s then k else dot A ⟨28 - s, by omega⟩ k)
  else k

/-- Step `s` of the four blocks, and the products after it. -/
def round (A : Ops) (f b : Dev nD) (s : ℕ) (hs : s < 32) (k : Pg F) : Pg F :=
  step A f b s hs 0 <| step A f b s hs 1 <| step A f b s hs 2 <| step A f b s hs 3 <| dots A s hs k

/-- The rounds from `31 - n` on, `n` of them. -/
def rounds (A : Ops) (f b : Dev nD) : (n : ℕ) → n ≤ 31 → Pg F → Pg F
  | 0, _, k => k
  | n + 1, h, k => round A f b (30 - n) (by omega) (rounds A f b n (by omega) k)

/-- What precedes the rounds, after the handshake. -/
def before (A : Ops) (k : Pg F) : Pg F :=
  dot A 0 <| dot A 30 <| first A 0 <| first A 1 <| first A 2 <| first A 3 <| dot A 1 <| dot A 29 <| dot A 31 k

/-- What follows them. -/
def after (A : Ops) : Pg F :=
  finish A 0 <| finish A 1 <| finish A 2 <| finish A 3 <| .ret ⟨⟩

/-- The barrier semaphore. -/
abbrev barS : Fin sig.nSem := sig.barrier 0 rfl

/-- The barrier handshake with the two neighbours. -/
def greet (f b : Dev nD) (k : Pg F) : Pg F :=
  Prog.bind (semSignalWord f barS 1#32) fun _ =>
  Prog.bind (semSignalWord b barS 1#32) fun _ =>
  Prog.bind (semWaitWord barS 2#32) fun _ => k

/-- The body once the neighbours are known. -/
def main' (A : Ops) (f b : Dev nD) : Pg F :=
  greet f b <| before A <| rounds A f b 31 (le_refl _) <| after A

/-- The whole body. -/
def body (A : Ops) : Pg F :=
  Prog.bind (smemLoad A.nb (Rect.unit (s := S2) ![0] S1.size inb_S2_S1_0) numel1_S1 rfl) fun v0 =>
  .op (.assume (k0_chk1 v0) (k0_chk1.dec v0)) fun h0 =>
  Prog.bind (smemLoad A.nb (Rect.unit (s := S2) ![1] S1.size inb_S2_S1_1) numel1_S1 rfl) fun v1 =>
  .op (.assume (k0_chk2 v1) (k0_chk2.dec v1)) fun h1 =>
  main' A ⟨k0_dev1 v0, k0_dev1_lt v0 h0.down⟩ ⟨k0_dev2 v1, k0_dev2_lt v1 h1.down⟩

set_option maxRecDepth 100000 in
set_option maxHeartbeats 40000000 in
/-- The printed body is the walk. -/
theorem body_eq (A : Ops) (h0 : A.x.IsWhole) (h1 : A.w.IsWhole) (h2 : A.tab.IsWhole) (h3 : A.tabB.IsWhole) (h4 : A.nb.IsWhole)
    (h5 : A.out.IsWhole) (h6 : A.buf.IsWhole) (h7 : A.sp.IsWhole) :
    cc0_body (F := F) A.x h0 A.w h1 A.tab h2 A.tabB h3 A.nb h4 A.out h5 A.buf h6 A.sp h7 A.snd A.rcv A.cf A.cb = body A := by
  rfl

end Cert.KernelIdeal.Ring

end
-- ==== Proof.Proto.lean ====
/-
  The PROTOCOL of the ring: who talks to whom, what every semaphore's raise hands over, and the values that travel.

  Every column block `i` is a channel around the ring: blocks 0 and 1 go to the next device, blocks 2 and 3 to the
  previous one. Step `s` of a channel sends slot `s mod 4` here into slot `s + 1 mod 4` of the device downstream. The slots
  of the first three steps are handed over by the barrier; the slot of a later step `s` is handed over by the
  credit that the device downstream gives at its step `s − 2`.
-/
module

public import proofs.«01_k».proof.Proof.Walk
public import Idealize.ShloMosaic.Lib.Pipeline.Regions
public import Idealize.ShloMosaic.Lib.Pipeline.Kit
public import Idealize.ShloMosaic.Lib.Rounds
public import Idealize.ShloMosaic.Lib.Release
public import Idealize.ShloMosaic.Lib.StableHlo
public import Idealize.ShloMosaic.Lib.Tactic
public import Idealize.ShloMosaic.PureOps
public import Idealize.ShloMosaic.Lib.Pipeline.RegionTalk
public import Idealize.ShloMosaic.Harness.Basic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device at a ring position. -/
def ringT : Fin 32 → Fin 32 :=
  ![0, 1, 9, 8, 16, 17, 25, 24, 27, 26, 18, 19, 11, 10, 13, 12, 20, 21, 29, 28, 31, 30, 22, 23, 15, 14, 6, 7, 4, 5, 2, 3]
/-- The ring position of a device. -/
def ringP : Fin 32 → Fin 32 :=
  ![0, 1, 30, 31, 28, 29, 26, 27, 3, 2, 13, 12, 15, 14, 25, 24, 4, 5, 10, 11, 16, 17, 22, 23, 7, 6, 9, 8, 19, 18, 21, 20]

/-- The next device. -/
def nx (c : Dev nD) : Dev nD := ringT (ringP c + 1)
/-- The previous one. -/
def pv (c : Dev nD) : Dev nD := ringT (ringP c - 1)
/-- The row block multiplied at position `j`. -/
def chunk (c : Dev nD) (j : Fin 32) : Fin 32 := ringT (ringP c - 1 - j)

/-- The device after the previous one is the device itself. -/
theorem nx_pv (c : Dev nD) : nx (pv c) = c := by revert c; decide
/-- The device before the next one is the device itself. -/
theorem pv_nx (c : Dev nD) : pv (nx c) = c := by revert c; decide
/-- The two neighbours are different devices. -/
theorem nx_ne_pv (c : Dev nD) : nx c ≠ pv c := by revert c; decide

/-- The device downstream of `c` on channel `i`. -/
abbrev dn (c : Dev nD) (i : Fin 4) : Dev nD := down (nx c) (pv c) i
/-- The device upstream. -/
abbrev us (c : Dev nD) (i : Fin 4) : Dev nD := up (nx c) (pv c) i

/-- The device upstream of the one downstream is the device itself. -/
theorem us_dn (c : Dev nD) (i : Fin 4) : us (dn c i) i = c := by
  unfold us dn up down; split <;> simp [nx_pv, pv_nx]
/-- The device downstream of the one upstream is the device itself. -/
theorem dn_us (c : Dev nD) (i : Fin 4) : dn (us c i) i = c := by
  unfold us dn up down; split <;> simp [nx_pv, pv_nx]

/-! ## The operands -/

/-- The operands of the launch: the staging buffers and the scratch. -/
abbrev A₀ : Ops where
  x := Memref.whole cc0_stg0_0
  w := Memref.whole cc0_stg1_0
  tab := Memref.whole cc0_stg2_0
  tabB := Memref.whole cc0_stg3_0
  nb := Memref.whole cc0_stg4_0
  out := Memref.whole cc0_stg5_0
  buf := Memref.whole cc0_scratch0
  sp := Memref.whole cc0_scratch1
  snd := cc0_scratch2
  rcv := cc0_scratch3
  cf := cc0_scratch4
  cb := cc0_scratch5

/-- What a semaphore is for. -/
inductive Role
  | bar
  | cred (b : Bool)
  | snd (t i : Fin 4)
  | rcv (t i : Fin 4)
  | other
  deriving DecidableEq

/-- The direction of a channel: backward? -/
def dir (i : Fin 4) : Bool := decide (2 ≤ i.val)

/-- The role of each semaphore. -/
def role : SemLoc sig → Role
  | .reg s => if s.val = 2 then .bar else if s.val = 0 then .cred false else if s.val = 1 then .cred true else .other
  | .dma s =>
    if 6 ≤ s.val ∧ s.val < 22 then .snd ⟨(s.val - 6) / 4 % 4, Nat.mod_lt _ (by decide)⟩ ⟨(s.val - 6) % 4, Nat.mod_lt _ (by decide)⟩
    else if 22 ≤ s.val ∧ s.val < 38 then .rcv ⟨(s.val - 22) / 4 % 4, Nat.mod_lt _ (by decide)⟩ ⟨(s.val - 22) % 4, Nat.mod_lt _ (by decide)⟩
    else .other

/-- The credit semaphores, by direction. -/
abbrev crA (b : Bool) : Sems sig S_ := if b then A₀.cb else A₀.cf
/-- A channel's credit semaphore is that of its direction. -/
theorem credit_eq (i : Fin 4) : credit A₀ i = crA (dir i) := by
  unfold credit crA dir
  by_cases h : i.val < 2
  · rw [if_pos h, if_neg (by simpa using h)]
  · rw [if_neg h, if_pos (by simpa using h)]

/-- A device's barrier semaphore. -/
abbrev barCell (c : Dev nD) : GSem nD τ sig := ((c : Thread nD τ), .reg barS)
/-- A device's credit semaphore of a direction. -/
abbrev crCell (c : Dev nD) (b : Bool) : GSem nD τ sig := ((c : Thread nD τ), .reg (crA b).sem)
/-- A device's send semaphore of a slot and a channel. -/
abbrev sndCell (c : Dev nD) (t i : Fin 4) : GSem nD τ sig := ((c : Thread nD τ), .dma (semAt A₀.snd t i))
/-- A device's arrival semaphore of a slot and a channel. -/
abbrev rcvCell (c : Dev nD) (t i : Fin 4) : GSem nD τ sig := ((c : Thread nD τ), .dma (semAt A₀.rcv t i))

/-- The barrier semaphore has the barrier's role. -/
theorem role_bar : role (.reg barS) = .bar := by decide
/-- A credit semaphore has the role of its direction's credit. -/
theorem role_cr (b : Bool) : role (.reg (crA b).sem) = .cred b := by revert b; decide
/-- A send semaphore has its slot's and channel's role of sending. -/
theorem role_snd (t i : Fin 4) : role (.dma (semAt A₀.snd t i)) = .snd t i := by revert t i; decide
/-- An arrival semaphore has its slot's and channel's role of arrival. -/
theorem role_rcv (t i : Fin 4) : role (.dma (semAt A₀.rcv t i)) = .rcv t i := by revert t i; decide

/-! ## Values -/

section Values

variable (X : Dev nD → S4096x128.Idx → Elt F .f32) (Wt : Dev nD → S128x2048.Idx → Elt F .f32)

/-- A row block lies inside the first operand. -/
theorem row_inb (j : Fin 32) : ∀ a, ((![128 * j.val, 0] : Fin 2 → ℕ) a) + S128x128.size a ≤ S4096x128.size a := by
  revert j; decide
/-- Row block `j` of `x`. -/
abbrev rowR (j : Fin 32) : Rect S4096x128 := Rect.unit (s := S4096x128) ![128 * j.val, 0] S128x128.size (row_inb j)
/-- A column block lies inside a partial product. -/
theorem in_inb (i : Fin 4) : ∀ a, ((![0, 0, 512 * i.val] : Fin 3 → ℕ) a) + S1x128x512.size a ≤ S1x128x2048.size a := by
  revert i; decide
/-- Column block `i` of one partial product. -/
abbrev inR (i : Fin 4) : Rect S1x128x2048 := Rect.unit (s := S1x128x2048) ![0, 0, 512 * i.val] S1x128x512.size (in_inb i)

/-- Device `c`'s partial product of position `j`. -/
def pdot (c : Dev nD) (j : Fin 32) : FVec F S1x128x2048 .f32 :=
  shapeCast S1x128x2048 (matmul dot_S128x128_S128x2048_S128x2048_1_0_0_1_n_n none
      (shapeCast S128x128 (fun k => X c ((rowR (chunk c j)).emb k)) shapeCasts_S128x128_S128x128)
      (shapeCast S128x2048 (Wt c) shapeCasts_S128x2048_S128x2048)
      (constant S128x2048 .f32 0x00000000#32)) shapeCasts_S128x2048_S1x128x2048

/-- Column block `i` of it. -/
def ps (c : Dev nD) (j : Fin 32) (i : Fin 4) : FVec F S128x512 .f32 :=
  shapeCast S128x512 (fun k => pdot X Wt c j ((inR i).emb k) : FVec F S1x128x512 .f32) shapeCasts_S1x128x512_S128x512

/-- What device `c` sends at step `s` on channel `i`. -/
def acc : ℕ → Dev nD → Fin 4 → FVec F S128x512 .f32
  | 0, c, i => ps X Wt c (posOf 0 i) i
  | s + 1, c, i => addf (acc s (us c i) i) (ps X Wt c (posOf (s + 1) i) i)

/-- Column block `i` of device `c`'s result. -/
def res (c : Dev nD) (i : Fin 4) : FVec F S128x512 .f32 := gelu (addf (acc X Wt 30 (us c i) i) (ps X Wt c 31 i))

end Values

/-! ## The algebra -/

/-- A slot's hand-back: the device it lies on, its channel, and the step whose transfer fills it next. -/
abbrev Key : Type := Dev nD × Fin 4 × ℕ

/-- The protocol's own ghost state: the rounds of the semaphores and the slots' releases. -/
abbrev UT : Type := URounds (GSem nD τ sig) ℕ × Release.USlots Key
/-- The ghost state of the proof: the pipeline's and the protocol's. -/
abbrev UU : Type := UR sig nD τ × UT

local notation "𝕄" => MT nD τ sig ℕ (Elt F) ℕ UU ℕ

/-- Where the pipeline's ghost state lies. -/
abbrev EP : Emb (UR sig nD τ) (MT nD τ sig ℕ (Elt F) ℕ UU ℕ) := embL
/-- Where the rounds of the semaphores lie. -/
abbrev ER : Emb (URounds (GSem nD τ sig) ℕ) (MT nD τ sig ℕ (Elt F) ℕ UU ℕ) := (Emb.inl : Emb _ UT).trans embR
/-- Where the slots' releases lie. -/
abbrev EQ : Emb (Release.USlots Key) (MT nD τ sig ℕ (Elt F) ℕ UU ℕ) := (Emb.inr : Emb _ UT).trans embR

/-- The amount of a slot's transfer. -/
abbrev N : ℕ := (slotM A₀ 0 0).view.dmaCredit
/-- A transfer raises its semaphores by more than nothing. -/
theorem N_pos : 0 < N := View.dmaCredit_pos _ (by decide)

/-- A slot at named contents. -/
abbrev slotAt (c : Dev nD) (t i : Fin 4) (v : FVec F S128x512 .f32) : sProp 𝕄 :=
  owns (c : Thread nD τ) (slotM A₀ t i) fullShare v
/-- A slot at any contents. -/
def slotAny (c : Dev nD) (t i : Fin 4) : sProp 𝕄 :=
  Release.slot ((slotM A₀ t i).view.loc (c : Thread nD τ)) (slotM A₀ t i).view.set

/-- A slot at known contents is a slot at some contents. -/
theorem slotAt_any (c : Dev nD) (t i : Fin 4) (v : FVec F S128x512 .f32) : slotAt c t i v ⊢ (slotAny c t i : sProp 𝕄) := by
  unfold slotAt slotAny owns Release.slot
  iintro ⟨%f, -, H⟩; iexists f; iexact H

/-- Nobody holds the same slot twice. -/
theorem slotAny_excl (c : Dev nD) (t i : Fin 4) : iprop(slotAny c t i ∗ slotAny c t i) ⊢ (False : sProp 𝕄) :=
  Release.slot_slot_false (View.set_nonempty (v := (slotM A₀ t i).view) (h := by decide))

/-- A slot may be kept in an invariant. -/
instance slotAny_storable (c : Dev nD) (t i : Fin 4) : BI.Storable (upEmb : UEmb _ 𝕄) (slotAny (F := F) c t i) := by
  unfold slotAny; infer_instance

/-! ## Payloads -/

/-- The channel and step of the `n`-th credit of a direction: channels alternate. -/
def crIx (b : Bool) (n : ℕ) : Fin 4 := ⟨n % 2 + (if b then 2 else 0), by split <;> omega⟩
/-- The step the `n`-th credit of a direction is for. -/
def crStep (n : ℕ) : ℕ := 3 + n / 2
/-- The number, in its direction, of the credit for step `s` of channel `i`. -/
def crNo (i : Fin 4) (s : ℕ) : ℕ := 2 * (s - 3) + i.val % 2

/-- What the writer of step `s ≥ 3` on channel `i` into device `e` must know: the slot is released, and its arrival semaphore is at the step's round. -/
def fact (e : Dev nD) (i : Fin 4) (s : ℕ) : sProp 𝕄 :=
  iprop(Release.released EQ (e, i, s) 1 ∗ reached ER (rcvCell e (slot (s + 1)) i) (s / 4))
/-- What the writer of step `s < 3` is given. -/
def gift (e : Dev nD) (i : Fin 4) (s : ℕ) : sProp 𝕄 :=
  iprop(slotAny e (slot (s + 1)) i ∗ reached ER (rcvCell e (slot (s + 1)) i) 0)

/-- What a writer must know may be used any number of times. -/
instance fact_persistent (e : Dev nD) (i : Fin 4) (s : ℕ) : BI.Persistent (fact (F := F) e i s) := by unfold fact; infer_instance
/-- It may be kept in an invariant. -/
instance fact_storable (e : Dev nD) (i : Fin 4) (s : ℕ) : BI.Storable (upEmb : UEmb _ 𝕄) (fact (F := F) e i s) := by unfold fact; infer_instance
/-- What a writer is given may be kept in an invariant. -/
instance gift_storable (e : Dev nD) (i : Fin 4) (s : ℕ) : BI.Storable (upEmb : UEmb _ 𝕄) (gift (F := F) e i s) := by unfold gift; infer_instance

/-- What device `e` hands over by the barrier to the device upstream of it on channel `i`. -/
def gifts (e : Dev nD) (i : Fin 4) : sProp 𝕄 := bigSep (Finset.range 3) (gift e i)
/-- What the barrier hands over may be kept in an invariant. -/
instance gifts_storable (e : Dev nD) (i : Fin 4) : BI.Storable (upEmb : UEmb _ 𝕄) (gifts (F := F) e i) := by unfold gifts; infer_instance

/-- Paid to `c`'s barrier by the next device (`d = 0`) or the previous one (`d ≠ 0`). -/
def barPay (c : Dev nD) (d : ℕ) : sProp 𝕄 :=
  if d = 0 then iprop(gifts (nx c) 0 ∗ gifts (nx c) 1 ∗ reached ER (crCell (nx c) true) 0)
  else iprop(gifts (pv c) 2 ∗ gifts (pv c) 3 ∗ reached ER (crCell (pv c) false) 0)
/-- Paid to `c`'s credit of direction `b` as the `n`-th: all the facts up to it. -/
def crPay (c : Dev nD) (b : Bool) (n : ℕ) : sProp 𝕄 :=
  bigSep (Finset.range (n + 1)) fun m => fact (dn c (crIx b m)) (crIx b m) (crStep m)

section Sched

variable (X : Dev nD → S4096x128.Idx → Elt F .f32) (Wt : Dev nD → S128x2048.Idx → Elt F .f32)

/-- The step whose arrival is round `r` of arrival slot `t`. -/
def rcvStep (t : Fin 4) (r : ℕ) : ℕ := 4 * r + (t.val + 3) % 4

/-- What each raise hands over. -/
def pay (c : Dev nD) (ro : Role) (r d : ℕ) : sProp 𝕄 :=
  match ro with
  | .bar => barPay c d
  | .cred b => crPay c b d
  | .snd t i => slotAny c t i
  | .rcv t i => slotAt c t i (acc X Wt (rcvStep t r) (us c i) i)
  | .other => iprop(emp)

/-- The raises of each round. -/
def dutiesOf (ro : Role) (r : ℕ) : Finset ℕ :=
  match ro with
  | .bar => if r = 0 then {0, 1} else ∅
  | .cred _ => if r = 0 then Finset.range 56 else ∅
  | .snd t _ => if 4 * r + t.val ≤ 30 then {0} else ∅
  | .rcv t _ => if rcvStep t r ≤ 30 then {0} else ∅
  | .other => ∅

/-- The amount of a raise. -/
def amountOf' (ro : Role) : ℕ :=
  match ro with
  | .snd _ _ => N
  | .rcv _ _ => N
  | _ => 1

/-- Every raise is by more than nothing. -/
theorem amountOf'_pos (ro : Role) : 0 < amountOf' ro := by
  unfold amountOf'; split <;> first | exact N_pos | exact Nat.one_pos

/-- The schedule. -/
def Rd : Rounds.Schedule (GSem nD τ sig) ℕ 𝕄 where
  duties g r := if g.1.2 = .tc then dutiesOf (role g.2) r else ∅
  unitless _ := False
  amount g _ _ := amountOf' (role g.2)
  payload g r d := pay X Wt g.1.1 (role g.2) r d
  amount_pos g _ _ _ := amountOf'_pos _

/-- What a raise hands over may be kept in an invariant. -/
instance Rd_storable (g : GSem nD τ sig) (r : ℕ) (d : ℕ) :
    BI.Storable (upEmb : UEmb _ 𝕄) ((Rd X Wt).payload g r d) := by
  show BI.Storable upEmb (pay X Wt g.1.1 (role g.2) r d)
  unfold pay barPay crPay
  (repeat' split) <;> infer_instance

end Sched

end Cert.KernelIdeal.Ring

end
-- ==== Proof.Talk.lean ====
/-
  The rules of the ring's TRANSFERS and SEMAPHORES: what a step of the schedule consumes and yields, one rule per kind
  of statement of the walk, at any device, channel and step.
-/
module

public import proofs.«01_k».proof.Proof.Proto
public import Idealize.SL.BI.BigOpNat

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Levels -/

/-- The indices of each cell. -/
def L (g : GSem nD τ sig) : Finset ℕ := if g.1.2 = .tc then Finset.range 64 else ∅
/-- The level of a pair: arrivals of step `s` at `2 s + 2`, the credit for step `s` at `2 s − 3`, the barrier at 1. -/
def lv (g : GSem nD τ sig) (u : ℕ) : ℕ :=
  match role g.2 with
  | .bar => 1
  | .cred _ => 2 * (u / 2) + 3
  | .rcv _ _ => 2 * u + 2
  | _ => 0

/-- Everything owed lies above level `k`. -/
def Above (k : ℕ) (O : CellTallies nD τ sig ℕ) : Prop := ∀ g u, 0 < O g u → u ∈ L g ∧ k < lv g u

/-- The empty tally is above every level. -/
theorem Above.zero (k : ℕ) : Above k 0 := fun g u h => absurd h (Nat.lt_irrefl 0)
/-- Two tallies above a level are above it together. -/
theorem Above.add {k : ℕ} {O P : CellTallies nD τ sig ℕ} (h : Above k O) (h' : Above k P) : Above k (O + P) := fun g u hg => by
  have hg' : 0 < O g u + P g u := hg
  rcases Nat.eq_zero_or_pos (O g u) with h0 | h0
  · exact h' g u (by omega)
  · exact h g u h0
/-- What is above a level is above every lower one. -/
theorem Above.mono {k k' : ℕ} {O : CellTallies nD τ sig ℕ} (h : Above k O) (hk : k' ≤ k) : Above k' O :=
  fun g u hg => ⟨(h g u hg).1, lt_of_le_of_lt hk (h g u hg).2⟩
/-- A single debt is above every level below its own. -/
theorem Above.tally {k : ℕ} (c : Dev nD) (sm : SemLoc sig) (u n : ℕ) (hu : u < 64) (hk : k < lv ((c : Thread nD τ), sm) u) :
    Above k (tallyAt ((c : Thread nD τ), sm) u n) := fun g u' hg => by
  rw [tallyAt_apply] at hg
  by_cases h : g = ((c : Thread nD τ), sm) ∧ u' = u
  · rw [h.1, h.2]; exact ⟨by rw [L, if_pos rfl]; exact Finset.mem_range.mpr hu, hk⟩
  · rw [if_neg h] at hg; exact absurd hg (Nat.lt_irrefl 0)

/-- A device may wait for a unit whose level is at most `k` while all it owes is above `k`. -/
theorem mayWait (c : Dev nD) (sm : SemLoc sig) (u : ℕ) {k : ℕ} {O : CellTallies nD τ sig ℕ} (hu : u < 64)
    (hk : lv ((c : Thread nD τ), sm) u ≤ k) (hO : Above k O) : (levAts L lv : sProp 𝕄) ⊢ MayWait (c : Thread nD τ) sm u O :=
  MayOwe.of_cut (L := L) (lev := lv) k
    (fun p hp => by rw [Finset.mem_singleton.mp hp, L, if_pos rfl]; exact Finset.mem_range.mpr hu)
    (fun g u h => (hO g u h).1) (fun p hp => by rw [Finset.mem_singleton.mp hp]; exact hk) (fun g u h => (hO g u h).2)

/-- The level of the barrier. -/
theorem lv_bar (c : Dev nD) (u : ℕ) : lv (barCell c) u = 1 := by unfold lv; rw [role_bar]
/-- The level of a credit, by the step it is for. -/
theorem lv_cr (c : Dev nD) (b : Bool) (u : ℕ) : lv (crCell c b) u = 2 * (u / 2) + 3 := by unfold lv; rw [role_cr]
/-- The level of a send: nobody owes one, so the lowest. -/
theorem lv_snd (c : Dev nD) (t i : Fin 4) (u : ℕ) : lv (sndCell c t i) u = 0 := by unfold lv; rw [role_snd]
/-- The level of an arrival: that of its step. -/
theorem lv_rcv (c : Dev nD) (t i : Fin 4) (u : ℕ) : lv (rcvCell c t i) u = 2 * u + 2 := by unfold lv; rw [role_rcv]

/-! ## The schedule at each cell -/

section

variable (X : Dev nD → S4096x128.Idx → Elt F .f32) (Wt : Dev nD → S128x2048.Idx → Elt F .f32)

/-- The duties of a semaphore's round are those of its role. -/
theorem duties_eq (c : Dev nD) (sm : SemLoc sig) (r : ℕ) : (Rd X Wt).duties ((c : Thread nD τ), sm) r = dutiesOf (role sm) r := by
  dsimp only [Rd]; exact if_pos rfl
/-- The amount of a raise is that of the semaphore's role. -/
theorem amount_eq (c : Dev nD) (sm : SemLoc sig) (r d : ℕ) : (Rd X Wt).amount ((c : Thread nD τ), sm) r d = amountOf' (role sm) := rfl
/-- What a raise hands over is what the semaphore's role says. -/
theorem payload_eq (c : Dev nD) (sm : SemLoc sig) (r d : ℕ) : (Rd X Wt).payload ((c : Thread nD τ), sm) r d = pay X Wt c (role sm) r d := rfl
/-- A round raises a semaphore by the amount of a raise for each duty. -/
theorem expect_eq (c : Dev nD) (sm : SemLoc sig) (r : ℕ) :
    (Rd X Wt).expect ((c : Thread nD τ), sm) r = (dutiesOf (role sm) r).card * amountOf' (role sm) := by
  unfold Schedule.expect Schedule.amountOf
  rw [duties_eq, Finset.sum_congr rfl (fun d _ => amount_eq X Wt c sm r d), Finset.sum_const, smul_eq_mul]

/-- The step that arrives in round `s / 4` of its slot is `s`. -/
theorem rcvStep_slot (s : ℕ) : rcvStep (slot (s + 1)) (s / 4) = s := by unfold rcvStep slot; dsimp only; omega

/-- One raise for each send. -/
theorem duties_snd (c : Dev nD) (s : ℕ) (hs : s ≤ 30) (i : Fin 4) : (Rd X Wt).duties (sndCell c (slot s) i) (s / 4) = {0} := by
  rw [duties_eq, role_snd]; exact if_pos (by show 4 * (s / 4) + s % 4 ≤ 30; omega)
/-- One raise for each arrival. -/
theorem duties_rcv (c : Dev nD) (s : ℕ) (hs : s ≤ 30) (i : Fin 4) : (Rd X Wt).duties (rcvCell c (slot (s + 1)) i) (s / 4) = {0} := by
  rw [duties_eq, role_rcv]; exact if_pos (by rw [rcvStep_slot]; exact hs)
/-- All 56 credits of a direction are raises of one round. -/
theorem duties_cr (c : Dev nD) (b : Bool) : (Rd X Wt).duties (crCell c b) 0 = Finset.range 56 := by rw [duties_eq, role_cr]; rfl
/-- Both neighbours raise the barrier in its one round. -/
theorem duties_bar (c : Dev nD) : (Rd X Wt).duties (barCell c) 0 = {0, 1} := by rw [duties_eq, role_bar]; rfl

/-- A send raises its semaphore by the size of a transfer. -/
theorem expect_snd (c : Dev nD) (s : ℕ) (hs : s ≤ 30) (i : Fin 4) : (Rd X Wt).expect (sndCell c (slot s) i) (s / 4) = N := by
  rw [expect_eq, ← duties_eq X Wt c, duties_snd X Wt c s hs, role_snd]; exact Nat.one_mul N
/-- An arrival raises its semaphore by the size of a transfer. -/
theorem expect_rcv (c : Dev nD) (s : ℕ) (hs : s ≤ 30) (i : Fin 4) : (Rd X Wt).expect (rcvCell c (slot (s + 1)) i) (s / 4) = N := by
  rw [expect_eq, ← duties_eq X Wt c, duties_rcv X Wt c s hs, role_rcv]; exact Nat.one_mul N
/-- The credits of a direction come to 56. -/
theorem expect_cr (c : Dev nD) (b : Bool) : (Rd X Wt).expect (crCell c b) 0 = 56 := by rw [expect_eq, role_cr]; rfl
/-- The barrier's raises come to 2. -/
theorem expect_bar (c : Dev nD) : (Rd X Wt).expect (barCell c) 0 = 2 := by rw [expect_eq, role_bar]; rfl

/-- A send's end hands back the slot it was sent from. -/
theorem payload_snd (c : Dev nD) (t i : Fin 4) (r d : ℕ) : (Rd X Wt).payload (sndCell c t i) r d = slotAny c t i := by
  rw [payload_eq, role_snd]; rfl
/-- An arrival hands over the slot, holding the upstream device's partial sum. -/
theorem payload_rcv (c : Dev nD) (s : ℕ) (i : Fin 4) (d : ℕ) :
    (Rd X Wt).payload (rcvCell c (slot (s + 1)) i) (s / 4) d = slotAt c (slot (s + 1)) i (acc X Wt s (us c i) i) := by
  rw [payload_eq, role_rcv]; show slotAt c _ i (acc X Wt (rcvStep _ _) _ i) = _; rw [rcvStep_slot]
/-- A credit hands over the facts up to it. -/
theorem payload_cr (c : Dev nD) (b : Bool) (r d : ℕ) : (Rd X Wt).payload (crCell c b) r d = crPay c b d := by
  rw [payload_eq, role_cr]; rfl
/-- A raise of the barrier hands over the neighbour's slots. -/
theorem payload_bar (c : Dev nD) (r d : ℕ) : (Rd X Wt).payload (barCell c) r d = barPay c d := by
  rw [payload_eq, role_bar]; rfl

/-- All that a send's round hands over. -/
theorem rest_snd (c : Dev nD) (s : ℕ) (hs : s ≤ 30) (i : Fin 4) :
    bigSep ((Rd X Wt).duties (sndCell c (slot s) i) (s / 4) \ ∅) (fun d => (Rd X Wt).payload (sndCell c (slot s) i) (s / 4) d) = slotAny c (slot s) i := by
  rw [Finset.sdiff_empty, duties_snd X Wt c s hs, bigSep_singleton, payload_snd]
/-- All that an arrival's round hands over. -/
theorem rest_rcv (c : Dev nD) (s : ℕ) (hs : s ≤ 30) (i : Fin 4) :
    bigSep ((Rd X Wt).duties (rcvCell c (slot (s + 1)) i) (s / 4) \ ∅) (fun d => (Rd X Wt).payload (rcvCell c (slot (s + 1)) i) (s / 4) d)
      = slotAt c (slot (s + 1)) i (acc X Wt s (us c i) i) := by
  rw [Finset.sdiff_empty, duties_rcv X Wt c s hs, bigSep_singleton, payload_rcv]
/-- All that the barrier's round hands over. -/
theorem rest_bar (c : Dev nD) :
    bigSep ((Rd X Wt).duties (barCell c) 0 \ ∅) (fun d => (Rd X Wt).payload (barCell c) 0 d) = iprop(barPay c 0 ∗ barPay c 1) := by
  rw [Finset.sdiff_empty, duties_bar, bigSep_insert (by decide), bigSep_singleton, payload_bar, payload_bar]
  rfl

/-! ## The standing context -/

/-- The cells of the protocol. -/
def cells : Finset (GSem nD τ sig) := Finset.univ.filter fun g => g.1.2 = .tc ∧ role g.2 ≠ .other
/-- The hand-backs of the protocol. -/
def keys : Finset Key := Finset.univ ×ˢ Finset.univ ×ˢ Finset.Ico 3 31

/-- A semaphore with a role is a cell of the protocol. -/
theorem mem_cells (c : Dev nD) (sm : SemLoc sig) (h : role sm ≠ .other) : ((c : Thread nD τ), sm) ∈ cells := by
  rw [cells, Finset.mem_filter]; exact ⟨Finset.mem_univ _, rfl, h⟩

/-- The slot of a hand-back. -/
abbrev keySlot (k : Key) : sProp 𝕄 := slotAny k.1 (slot (k.2.2 + 1)) k.2.1

/-- The invariants of all cells and hand-backs, and the levels. -/
def Ctx (K : GSem nD τ sig → ℕ) (κ : Key → ℕ) : sProp 𝕄 :=
  iprop(bigSep cells (fun g => cellInv ER (Rd X Wt) (K g) g) ∗ bigSep keys (fun k => Release.slotInv EQ (κ k) k (keySlot k)) ∗ levAts L lv)

/-- The context may be used any number of times. -/
instance Ctx_persistent (K : GSem nD τ sig → ℕ) (κ : Key → ℕ) : BI.Persistent (Ctx X Wt K κ) := by unfold Ctx; infer_instance

variable (K : GSem nD τ sig → ℕ) (κ : Key → ℕ)

/-- The context has the invariant of every cell. -/
theorem Ctx_cell (c : Dev nD) (sm : SemLoc sig) (h : role sm ≠ .other) :
    Ctx X Wt K κ ⊢ cellInv ER (Rd X Wt) (K ((c : Thread nD τ), sm)) ((c : Thread nD τ), sm) := by
  unfold Ctx
  iintro ⟨H, -, -⟩
  have hel : bigSep cells (fun g => cellInv ER (Rd X Wt) (K g) g) ⊢
      (cellInv ER (Rd X Wt) (K ((c : Thread nD τ), sm)) ((c : Thread nD τ), sm) : sProp 𝕄) := bigSep_elim (mem_cells c sm h)
  iapply hel $$ H
/-- The context has the invariant of every slot that is released. -/
theorem Ctx_key (e : Dev nD) (i : Fin 4) (s : ℕ) (h : 3 ≤ s) (h' : s ≤ 30) :
    Ctx X Wt K κ ⊢ Release.slotInv EQ (κ (e, i, s)) (e, i, s) (slotAny e (slot (s + 1)) i) := by
  unfold Ctx
  iintro ⟨-, H, -⟩
  have hk : (e, i, s) ∈ keys := by
    unfold keys
    exact Finset.mem_product.mpr ⟨Finset.mem_univ _, Finset.mem_product.mpr ⟨Finset.mem_univ _, Finset.mem_Ico.mpr ⟨h, Nat.lt_succ_of_le h'⟩⟩⟩
  have hel : bigSep keys (fun k => Release.slotInv EQ (κ k) k (keySlot k)) ⊢
      (Release.slotInv EQ (κ (e, i, s)) (e, i, s) (slotAny e (slot (s + 1)) i) : sProp 𝕄) := bigSep_elim hk
  iapply hel $$ H
/-- The context has the levels. -/
theorem Ctx_lev : Ctx X Wt K κ ⊢ levAts L lv := by
  unfold Ctx
  iintro ⟨-, -, H⟩; iexact H

/-! ## Programs and positions -/

/-- No loop of the body needs a variant. -/
abbrev 𝒱₀ : Variants := Variants.none

/-- Device `c` runs `p`. -/
abbrev run (c : Dev nD) (p : Pg F) (Q : PUnit → sProp 𝕄) : sProp 𝕄 :=
  wp frame (wpE (defs₀ (F := F)) 𝒱₀ (c : Thread nD τ) none) Set.univ p Q

/-- What device `c` still owes, whatever it waited for. -/
def due (c : Dev nD) (O : CellTallies nD τ sig ℕ) : sProp 𝕄 := iprop(∃ W, owes (c : Thread nD τ) O W)

/-- A position in a cell's rounds, with the fact that the round is reached. -/
def seat (g : GSem nD τ sig) (r : ℕ) : sProp 𝕄 := iprop(atPos ER g r ∅ 0 ∗ reached ER g r)

/-- Of the first `m` steps, those of slot `t`. -/
def cnt (t : Fin 4) (m : ℕ) : ℕ := (m + 3 - t.val) / 4
/-- The slot a slot's arrival comes from. -/
def before' (t : Fin 4) : Fin 4 := ⟨(t.val + 3) % 4, Nat.mod_lt _ (by decide)⟩

/-- The positions of channel `i` after `m` waits. -/
def seatsS (c : Dev nD) (i : Fin 4) (m : ℕ) : sProp 𝕄 := bigSep Finset.univ fun t : Fin 4 => seat (sndCell c t i) (cnt t m)
/-- The positions at a channel's arrival semaphores after `m` waits. -/
def seatsR (c : Dev nD) (i : Fin 4) (m : ℕ) : sProp 𝕄 := bigSep Finset.univ fun t : Fin 4 => seat (rcvCell c t i) (cnt (before' t) m)

/-- Before step `m` its slot has been used `m / 4` times. -/
theorem cnt_slot (m : ℕ) : cnt (slot m) m = m / 4 := by unfold cnt slot; dsimp only; omega
/-- After it, once more. -/
theorem cnt_slot_succ (m : ℕ) : cnt (slot m) (m + 1) = m / 4 + 1 := by unfold cnt slot; dsimp only; omega
/-- The other slots have been used as often as before. -/
theorem cnt_other (t : Fin 4) (m : ℕ) (h : t ≠ slot m) : cnt t (m + 1) = cnt t m := by
  have : t.val ≠ m % 4 := fun e => h (Fin.ext e)
  have := t.isLt
  unfold cnt; omega
/-- Step `m` sends from slot `m` to the slot after it. -/
theorem before'_slot (m : ℕ) : before' (slot (m + 1)) = slot m := by
  apply Fin.ext; show ((m + 1) % 4 + 3) % 4 = m % 4; omega
/-- No other slot is filled by step `m`. -/
theorem before'_ne (t : Fin 4) (m : ℕ) (h : t ≠ slot (m + 1)) : before' t ≠ slot m := fun e => h (by
  have e' : (t.val + 3) % 4 = m % 4 := congrArg Fin.val e
  have := t.isLt
  apply Fin.ext; show t.val = (m + 1) % 4; omega)
/-- Before step `s`, the slot of step `s + 3` has received `(s + 2) / 4` times. -/
theorem cnt_ahead (s : ℕ) (h : 1 ≤ s) : cnt (before' (slot (s + 3))) s = (s + 2) / 4 := by
  unfold cnt before' slot; dsimp only; omega

/-- The positions but the send's of slot `m`. -/
theorem seatsS_split (c : Dev nD) (i : Fin 4) (m : ℕ) :
    seatsS c i m = (iprop(seat (sndCell c (slot m) i) (m / 4)
      ∗ bigSep (Finset.univ.erase (slot m)) fun t : Fin 4 => seat (sndCell c t i) (cnt t m)) : sProp 𝕄) := by
  unfold seatsS; rw [bigSep_erase (Finset.mem_univ (slot m)), cnt_slot]; rfl
/-- The positions at the send semaphores after the send of step `m`. -/
theorem seatsS_succ (c : Dev nD) (i : Fin 4) (m : ℕ) :
    seatsS c i (m + 1) = (iprop(seat (sndCell c (slot m) i) (m / 4 + 1)
      ∗ bigSep (Finset.univ.erase (slot m)) fun t : Fin 4 => seat (sndCell c t i) (cnt t m)) : sProp 𝕄) := by
  unfold seatsS; rw [bigSep_erase (Finset.mem_univ (slot m)), cnt_slot_succ,
    bigSep_congr (fun t ht => by rw [cnt_other t m (Finset.ne_of_mem_erase ht)])]; rfl
/-- The positions at the arrival semaphores, that of step `m` apart. -/
theorem seatsR_split (c : Dev nD) (i : Fin 4) (m : ℕ) :
    seatsR c i m = (iprop(seat (rcvCell c (slot (m + 1)) i) (m / 4)
      ∗ bigSep (Finset.univ.erase (slot (m + 1))) fun t : Fin 4 => seat (rcvCell c t i) (cnt (before' t) m)) : sProp 𝕄) := by
  unfold seatsR; rw [bigSep_erase (Finset.mem_univ (slot (m + 1))), before'_slot, cnt_slot]; rfl
/-- The positions at the arrival semaphores after the arrival of step `m`. -/
theorem seatsR_succ (c : Dev nD) (i : Fin 4) (m : ℕ) :
    seatsR c i (m + 1) = (iprop(seat (rcvCell c (slot (m + 1)) i) (m / 4 + 1)
      ∗ bigSep (Finset.univ.erase (slot (m + 1))) fun t : Fin 4 => seat (rcvCell c t i) (cnt (before' t) m)) : sProp 𝕄) := by
  unfold seatsR; rw [bigSep_erase (Finset.mem_univ (slot (m + 1))), before'_slot, cnt_slot_succ,
    bigSep_congr (fun t ht => by rw [cnt_other _ m (before'_ne t m (Finset.ne_of_mem_erase ht))])]; rfl

/-- The positions at the arrival semaphores, that of step `s + 2` apart. -/
theorem seatsR_ahead (c : Dev nD) (i : Fin 4) (s : ℕ) (h : 1 ≤ s) :
    seatsR c i s = (iprop(seat (rcvCell c (slot (s + 3)) i) ((s + 2) / 4)
      ∗ bigSep (Finset.univ.erase (slot (s + 3))) fun t : Fin 4 => seat (rcvCell c t i) (cnt (before' t) s)) : sProp 𝕄) := by
  unfold seatsR; rw [bigSep_erase (Finset.mem_univ (slot (s + 3))), cnt_ahead s h]; rfl

/-! ## The statements -/

/-- Waiting for step `m`: the source comes back, and what the upstream device sent. -/
theorem run_await (c : Dev nD) (m : ℕ) (hm : m ≤ 30) (i : Fin 4) (O : CellTallies nD τ sig ℕ) (hO : Above (2 * m + 2) O)
    (k : Pg F) (Q : PUnit → sProp 𝕄) :
    iprop(Ctx X Wt K κ ∗ seatsS c i m ∗ seatsR c i m ∗ cred (tallyAt (sndCell c (slot m) i) 0 N)
        ∗ cred (tallyAt (rcvCell c (slot (m + 1)) i) m N) ∗ due c O)
      ⊢ iprop(((seatsS c i (m + 1) ∗ seatsR c i (m + 1) ∗ slotAny c (slot m) i ∗ slotAt c (slot (m + 1)) i (acc X Wt m (us c i) i) ∗ due c O)
          -∗ run c k Q) -∗ run c (await A₀ m i k) Q) := by
  rw [seatsS_split, seatsR_split, seatsS_succ, seatsR_succ]
  unfold await due seat
  iintro ⟨#HC, ⟨⟨HaS, -⟩, HrestS⟩, ⟨⟨HaR, -⟩, HrestR⟩, HcS, HcR, ⟨%W, HO⟩⟩ Hk
  iapply (Rounds.wp_wait_rest_token 𝒱₀ ER (Rd X Wt) (c : Thread nD τ) none (κ := K (sndCell c (slot m) i))
      (wpE_waitDma2_eq (src := slotM A₀ (slot (m + 1)) i) (dst := slotM A₀ (slot m) i) 𝒱₀ (c : Thread nD τ) none Set.univ) (Set.mem_univ _) 0 (O := O) (W := W) (R := m / 4) (m := 0) (T := ∅)
      ((Nat.zero_add _).trans (expect_snd X Wt c m hm i).symm)) $$ [HcS HO HaS]
  · isplitr; · iapply (Ctx_cell X Wt K κ c _ (by rw [role_snd]; nofun)); iexact HC
    isplitl [HcS]; · iexact HcS
    isplitl [HO]; · iexact HO
    isplitr
    · iapply (mayWait c _ 0 (k := 2 * m + 2) (by decide) (by rw [lv_snd]; omega) hO); iapply (Ctx_lev X Wt K κ); iexact HC
    iexact HaS
  iintro ⟨HO, HaS, #HrS, Hpay⟩
  ihave Hsl := (Entails.of_eq (rest_snd X Wt c m hm i)) $$ Hpay
  iapply (Rounds.wp_wait_rest_token 𝒱₀ ER (Rd X Wt) (c : Thread nD τ) none (κ := K (rcvCell c (slot (m + 1)) i))
      (wpE_waitDma2_eq (src := slotM A₀ (slot m) i) (dst := slotM A₀ (slot (m + 1)) i) 𝒱₀ (c : Thread nD τ) none Set.univ) (Set.mem_univ _) m (O := O) (R := m / 4) (m := 0) (T := ∅)
      ((Nat.zero_add _).trans (expect_rcv X Wt c m hm i).symm)) $$ [HcR HO HaR]
  · isplitr; · iapply (Ctx_cell X Wt K κ c _ (by rw [role_rcv]; nofun)); iexact HC
    isplitl [HcR]; · iexact HcR
    isplitl [HO]; · iexact HO
    isplitr
    · iapply (mayWait c _ m (k := 2 * m + 2) (by omega) (by rw [lv_rcv]) hO); iapply (Ctx_lev X Wt K κ); iexact HC
    iexact HaR
  iintro ⟨HO, HaR, #HrR, Hpay⟩
  ihave Hsl2 := (Entails.of_eq (rest_rcv X Wt c m hm i)) $$ Hpay
  iapply Hk
  isplitl [HaS HrestS]
  · isplitl [HaS]
    · isplitl [HaS]; · iexact HaS
      iexact HrS
    iexact HrestS
  isplitl [HaR HrestR]
  · isplitl [HaR]
    · isplitl [HaR]; · iexact HaR
      iexact HrR
    iexact HrestR
  isplitl [Hsl]; · iexact Hsl
  isplitl [Hsl2]; · iexact Hsl2
  iexists _; iexact HO

/-- Starting step `s`'s transfer to `d`, the device downstream. -/
theorem run_start (c : Dev nD) (s : ℕ) (hs : s ≤ 30) (i : Fin 4) (O : CellTallies nD τ sig ℕ) (k : Pg F) (Q : PUnit → sProp 𝕄) :
    iprop(Ctx X Wt K κ ∗ seatsS c i s ∗ slotAt c (slot s) i (acc X Wt s c i) ∗ slotAny (dn c i) (slot (s + 1)) i
        ∗ reached ER (rcvCell (dn c i) (slot (s + 1)) i) (s / 4)
        ∗ dutyTok ER (sndCell c (slot s) i) (s / 4) 0 ∗ dutyTok ER (rcvCell (dn c i) (slot (s + 1)) i) (s / 4) 0
        ∗ due c (O + tallyAt (rcvCell (dn c i) (slot (s + 1)) i) s N))
      ⊢ iprop(((seatsS c i s ∗ cred (tallyAt (sndCell c (slot s) i) 0 N) ∗ due c O) -∗ run c k Q)
          -∗ run c (start A₀ (dn c i) s i k) Q) := by
  rw [seatsS_split]
  unfold start due seat slotAny Release.slot slotAt owns
  iintro ⟨#HC, ⟨⟨HaS, #HrS⟩, HrestS⟩, ⟨%fs, %hfs, Hs⟩, ⟨%fd, Hd⟩, #HrR, HtS, HtR, ⟨%W, HO⟩⟩ Hk
  iapply (Rounds.wp_send_pointsTo 𝒱₀ ER (Rd X Wt) (c : Thread nD τ) none (c' := (dn c i : Thread nD τ)) (src := slotM A₀ (slot s) i)
      (dst := slotM A₀ (slot (s + 1)) i) (sS := .dma (semAt A₀.snd (slot s) i)) (sem := .dma (semAt A₀.rcv (slot (s + 1)) i)) (q := fullShare)
      (fs := fs) (κ₁ := K (sndCell c (slot s) i)) (κ₂ := K (rcvCell (dn c i) (slot (s + 1)) i))
      (r₁ := s / 4) (r₂ := s / 4) (d₁ := 0) (d₂ := 0) (fd := fd)
      (by rw [duties_snd X Wt c s hs]; exact Finset.mem_singleton_self _) (by rw [duties_rcv X Wt _ s hs]; exact Finset.mem_singleton_self _)
      s 0 N rfl (by rw [amount_eq, role_snd]; rfl) (by rw [amount_eq, role_rcv]; rfl) O rfl (W := W)
      (by rw [payload_snd]; unfold slotAny Release.slot; iintro H; iexists fs; iexact H)
      (by
        rw [payload_rcv, us_dn]; unfold slotAt owns
        iintro H
        iexists (slotM A₀ (slot (s + 1)) i).view.write (Elt F) fd ((slotM A₀ (slot s) i).view.read (Elt F) fs) Finset.univ
        isplitr
        · ipureintro; exact (View.read_write_univ (v := (slotM A₀ (slot (s + 1)) i).view) _ _).trans hfs
        iexact H)) $$ [Hs Hd HO HtS HtR]
  · isplitr; · iapply (Ctx_cell X Wt K κ c _ (by rw [role_snd]; nofun)); iexact HC
    isplitr; · iapply (Ctx_cell X Wt K κ (dn c i) _ (by rw [role_rcv]; nofun)); iexact HC
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HaS HrestS]
  · isplitl [HaS]
    · isplitl [HaS]; · iexact HaS
      iexact HrS
    iexact HrestS
  isplitl [Hc]; · iexact Hc
  iexists W; iexact HO

/-- The channel of a direction's credit is of that direction. -/
theorem dir_crIx (b : Bool) (n : ℕ) : dir (crIx b n) = b := by
  unfold dir crIx
  cases b
  · have : n % 2 < 2 := Nat.mod_lt _ (by decide)
    exact decide_eq_false (by simp; omega)
  · exact decide_eq_true (by simp)
/-- A credit's number gives back its channel. -/
theorem crIx_crNo (i : Fin 4) (s : ℕ) : crIx (dir i) (crNo i s) = i := by
  have := i.isLt
  apply Fin.ext
  unfold crIx crNo dir
  by_cases h : 2 ≤ i.val
  · rw [decide_eq_true h]; simp; omega
  · rw [decide_eq_false h]; simp; omega
/-- A credit's number gives back its step. -/
theorem crStep_crNo (i : Fin 4) (s : ℕ) (h : 3 ≤ s) : crStep (crNo i s) = s := by unfold crStep crNo; omega

/-- The device is downstream of its upstream one on every channel of the same direction. -/
theorem dn_us_dir (c : Dev nD) (i j : Fin 4) (h : dir j = dir i) : dn (us c i) j = c := by
  have e : dn (us c i) j = dn (us c i) i := by
    unfold dn down
    by_cases hi : i.val < 2
    · have hj : j.val < 2 := by by_contra hj; exact absurd (h.trans (decide_eq_false (by omega))) (by rw [dir, decide_eq_true (by omega)]; decide)
      rw [if_pos hi, if_pos hj]
    · have hj : ¬ j.val < 2 := by intro hj; exact absurd (h.trans (decide_eq_true (by omega))) (by rw [dir, decide_eq_false (by omega)]; decide)
      rw [if_neg hi, if_neg hj]
  rw [e, dn_us]

/-- The facts device `c` has given in direction `b`. -/
def given (c : Dev nD) (b : Bool) (n : ℕ) : sProp 𝕄 := bigSep (Finset.range n) fun m => fact c (crIx b m) (crStep m)
/-- Device `c`'s position in the credits of direction `b`: `n` taken. -/
def taken (c : Dev nD) (b : Bool) (n : ℕ) : sProp 𝕄 :=
  iprop(∃ T : Finset ℕ, ⌜T ⊆ Finset.range 56 ∧ n + (Finset.range 56 \ T).card ≤ 56⌝ ∗ atPos ER (crCell c b) 0 T n ∗ bigSep T (crPay c b))

/-- The facts given may be used any number of times. -/
instance given_persistent (c : Dev nD) (b : Bool) (n : ℕ) : BI.Persistent (given (F := F) c b n) := by unfold given; infer_instance
/-- So may the facts a credit hands over. -/
instance crPay_persistent (c : Dev nD) (b : Bool) (n : ℕ) : BI.Persistent (crPay (F := F) c b n) := by unfold crPay; infer_instance

/-- Giving the credit for step `s + 2` at step `s`: the slot of step `s − 1` is released to the device upstream. -/
theorem run_give (c : Dev nD) (s : ℕ) (h1 : 1 ≤ s) (h2 : s ≤ 28) (i : Fin 4) (O : CellTallies nD τ sig ℕ) (k : Pg F) (Q : PUnit → sProp 𝕄) :
    iprop(Ctx X Wt K κ ∗ seatsR c i s ∗ slotAny c (slot (s + 3)) i ∗ Release.readerAt EQ (c, i, s + 2) 0
        ∗ given c (dir i) (crNo i (s + 2)) ∗ dutyTok ER (crCell (us c i) (dir i)) 0 (crNo i (s + 2)) ∗ reached ER (crCell (us c i) (dir i)) 0
        ∗ due c (O + tallyAt (crCell (us c i) (dir i)) (crNo i (s + 2)) 1))
      ⊢ iprop(((seatsR c i s ∗ given c (dir i) (crNo i (s + 2) + 1) ∗ due c O) -∗ run c k Q)
          -∗ run c (give (credit A₀ i) (us c i) k) Q) := by
  have hsl : slot (s + 3) = slot (s + 2 + 1) := rfl
  have hseat : (seatsR c i s : sProp 𝕄) ⊢ iprop(seatsR c i s ∗ reached ER (rcvCell c (slot (s + 3)) i) ((s + 2) / 4)) := by
    rw [seatsR_ahead c i s h1]
    unfold seat
    iintro ⟨⟨Ha, #Hr⟩, Hrest⟩
    isplitl [Ha Hrest]
    · isplitl [Ha]
      · isplitl [Ha]; · iexact Ha
        iexact Hr
      iexact Hrest
    iexact Hr
  rw [credit_eq]
  unfold give due
  iintro ⟨#HC, Hseat, Hs, Hrd, #Hg, Ht, #Hcr, ⟨%W, HO⟩⟩ Hk
  ihave Hseat := hseat $$ Hseat
  icases Hseat with ⟨Hseat, #Hrc⟩
  iapply fupd_wp
  imod (Release.slot_release EQ (Set.mem_univ (κ (c, i, s + 2))) (slotAny_excl c (slot (s + 3)) i) 0) $$ [Hrd Hs] with ⟨Hrd, #Hrel⟩
  · isplitr; · rw [hsl]; iapply (Ctx_key X Wt K κ c i (s + 2) (by omega) (by omega)); iexact HC
    isplitl [Hrd] <;> iassumption
  imodintro
  have hfact : (iprop(given c (dir i) (crNo i (s + 2)) ∗ Release.released EQ (c, i, s + 2) (0 + 1) ∗ reached ER (rcvCell c (slot (s + 3)) i) ((s + 2) / 4)) : sProp 𝕄)
      ⊢ given c (dir i) (crNo i (s + 2) + 1) := by
    unfold given
    rw [bigSep_range_succ, crIx_crNo, crStep_crNo i (s + 2) (by omega)]
    iintro ⟨#Ha, #Hb, #Hc⟩
    isplitr
    · unfold fact
      isplitr; · iexact Hb
      iexact Hc
    iexact Ha
  have hpay : (given c (dir i) (crNo i (s + 2) + 1) : sProp 𝕄) ⊢ (Rd X Wt).payload (crCell (us c i) (dir i)) 0 (crNo i (s + 2)) := by
    rw [payload_cr]; unfold given crPay
    exact Entails.of_eq (bigSep_congr fun m _ => by rw [dn_us_dir c i _ (dir_crIx _ _)])
  ihave #Hg' := hfact $$ []
  · isplitr; · iexact Hg
    isplitr; · iexact Hrel
    iexact Hrc
  iapply (Rounds.wp_signal 𝒱₀ ER (Rd X Wt) (c : Thread nD τ) none (dst := (us c i : Thread nD τ)) (sem := (crA (dir i)).sem) (r := 0) (d := crNo i (s + 2))
      (k' := 1) (κ := K (crCell (us c i) (dir i)))
      (by rw [duties_cr]; unfold crNo; exact Finset.mem_range.mpr (by omega)) (by rw [amount_eq, role_cr]; rfl)
      (crNo i (s + 2)) O rfl) $$ [HO Ht]
  · isplitr; · iapply (Ctx_cell X Wt K κ (us c i) _ (by rw [role_cr]; nofun)); iexact HC
    isplitl [HO]; · iexact HO
    isplitl [Ht]; · iexact Ht
    isplitr; · iapply hpay; iexact Hg'
    iexact Hcr
  iintro HO
  iapply Hk
  isplitl [Hseat]; · iexact Hseat
  isplitr; · iexact Hg'
  iexists W; iexact HO

/-- Taking the credit for step `s`. -/
theorem run_take (c : Dev nD) (s : ℕ) (h1 : 3 ≤ s) (h2 : s ≤ 30) (i : Fin 4) (O : CellTallies nD τ sig ℕ) (hO : Above (2 * s) O) (k : Pg F) (Q : PUnit → sProp 𝕄) :
    iprop(Ctx X Wt K κ ∗ taken c (dir i) (crNo i s) ∗ cred (tallyAt (crCell c (dir i)) (crNo i s) 1) ∗ due c O)
      ⊢ iprop(((taken c (dir i) (crNo i s + 1) ∗ fact (dn c i) i s ∗ due c O) -∗ run c k Q)
          -∗ run c (take (credit A₀ i) k) Q) := by
  have hn : crNo i s < 56 := by unfold crNo; omega
  rw [credit_eq]
  unfold take due taken
  iintro ⟨#HC, ⟨%T, %hT, Hat, HT⟩, Hc, ⟨%W, HO⟩⟩ Hk
  iapply (Rounds.wp_wait 𝒱₀ ER (Rd X Wt) (c : Thread nD τ) none (sm := .reg (crA (dir i)).sem) (k' := 1) (κ := K (crCell c (dir i)))
      (wpE_semWait_eq 𝒱₀ (c : Thread nD τ) none Set.univ) (Set.mem_univ _) (cr := Finsupp.single (crNo i s) 1) (O := O) (W := W) {(SemLoc.reg (crA (dir i)).sem, crNo i s)}
      (R := 0) (m := crNo i s) (T := T) (by rw [Util.total_single]) (image_single_subset _ _ _)) $$ [Hc HO Hat]
  · isplitr; · iapply (Ctx_cell X Wt K κ c _ (by rw [role_cr]; nofun)); iexact HC
    isplitl [Hc]; · iexact Hc
    isplitl [HO]; · iexact HO
    isplitr
    · iapply (mayWait c (.reg (crA (dir i)).sem) (crNo i s) (k := 2 * s) (by omega) (by rw [lv_cr]; unfold crNo; omega) hO); iapply (Ctx_lev X Wt K κ); iexact HC
    iexact Hat
  iintro %S ⟨%hS, HO, Hat, Hnew⟩
  have hS2 : S ⊆ Finset.range 56 := by rw [← duties_cr X Wt c (dir i)]; exact hS.2.1
  have hS3 : crNo i s + 1 + (Finset.range 56 \ S).card ≤ 56 := by
    have := hS.2.2
    rwa [duties_cr, expect_cr] at this
  obtain ⟨d, hdS, hd⟩ : ∃ d ∈ S, crNo i s ≤ d := by
    by_contra hno
    have hsub : S ⊆ Finset.range (crNo i s) := fun d hd => Finset.mem_range.mpr (by
      by_contra hge; exact hno ⟨d, hd, by omega⟩)
    have h3 := Finset.card_le_card hsub
    have h4 := Finset.card_sdiff_add_card_eq_card hS2
    rw [Finset.card_range] at h3 h4
    omega
  have hall : iprop(bigSep T (crPay c (dir i)) ∗ bigSep (S \ T) (fun d => (Rd X Wt).payload (crCell c (dir i)) 0 d)) ⊢ (bigSep S (crPay c (dir i)) : sProp 𝕄) := by
    rw [bigSep_congr (s := S \ T) (fun d _ => payload_cr X Wt c (dir i) 0 d), bigSep_sdiff_split hS.1]
    exact .rfl
  have hf : (bigSep S (crPay c (dir i)) : sProp 𝕄) ⊢ fact (dn c i) i s := by
    refine (bigSep_elim hdS).trans ?_
    unfold crPay
    refine (bigSep_elim (i := crNo i s) (Finset.mem_range.mpr (by omega))).trans ?_
    rw [crIx_crNo, crStep_crNo i s h1]
    exact BI.Entails.refl _
  ihave #Hall := hall $$ [HT Hnew]
  · isplitl [HT] <;> iassumption
  iapply Hk
  isplitl [Hat]
  · iexists S
    isplitr; · ipureintro; exact ⟨hS2, hS3⟩
    isplitl [Hat]; · iexact Hat
    iexact Hall
  isplitr; · iapply hf; iexact Hall
  iexists _; iexact HO

/-- The slot of step `s ≥ 3` is the sender's, once it has the fact. -/
theorem take_slot (e : Dev nD) (i : Fin 4) (s : ℕ) (h1 : 3 ≤ s) (h2 : s ≤ 30) :
    iprop(Ctx X Wt K κ ∗ fact e i s ∗ Release.writeTok EQ (e, i, s) 1)
      ⊢ (|={Set.univ}=> (slotAny e (slot (s + 1)) i ∗ reached ER (rcvCell e (slot (s + 1)) i) (s / 4)) : sProp 𝕄) := by
  unfold fact
  iintro ⟨#HC, ⟨#Hrel, #Hr⟩, Hw⟩
  imod (Release.slot_take EQ (k := (e, i, s)) (S := slotAny e (slot (s + 1)) i) (Set.mem_univ (κ (e, i, s))) 1) $$ [Hw] with HS
  · isplitr; · iapply (Ctx_key X Wt K κ e i s h1 h2); iexact HC
    isplitr; · iexact Hrel
    iexact Hw
  imodintro
  isplitl [HS]; · iexact HS
  iexact Hr

/-- The handshake: this device's gifts go to both neighbours, theirs come back. -/
theorem run_greet (c : Dev nD) (O : CellTallies nD τ sig ℕ) (hO : Above 1 O) (k : Pg F) (Q : PUnit → sProp 𝕄) :
    iprop(Ctx X Wt K κ ∗ (gifts c 0 ∗ gifts c 1 ∗ gifts c 2 ∗ gifts c 3) ∗ reached ER (crCell c true) 0 ∗ reached ER (crCell c false) 0
        ∗ dutyTok ER (barCell (nx c)) 0 1 ∗ dutyTok ER (barCell (pv c)) 0 0 ∗ reached ER (barCell (nx c)) 0 ∗ reached ER (barCell (pv c)) 0
        ∗ atPos ER (barCell c) 0 ∅ 0 ∗ cred (tallyAt (barCell c) 0 2)
        ∗ due c ((O + tallyAt (barCell (pv c)) 0 1) + tallyAt (barCell (nx c)) 0 1))
      ⊢ iprop(((gifts (nx c) 0 ∗ gifts (nx c) 1 ∗ gifts (pv c) 2 ∗ gifts (pv c) 3 ∗ reached ER (crCell (nx c) true) 0 ∗ reached ER (crCell (pv c) false) 0
          ∗ atPos ER (barCell c) 1 ∅ 0 ∗ due c O) -∗ run c k Q)
          -∗ run c (greet (nx c) (pv c) k) Q) := by
  unfold greet due
  iintro ⟨#HC, ⟨H0, H1, H2, H3⟩, #Hct, #Hcf, HtN, HtP, #HrN, #HrP, Hat, Hc, ⟨%W, HO⟩⟩ Hk
  iapply (Rounds.wp_signal 𝒱₀ ER (Rd X Wt) (c : Thread nD τ) none (dst := (nx c : Thread nD τ)) (sem := barS) (r := 0) (d := 1)
      (k' := 1) (κ := K (barCell (nx c)))
      (by rw [duties_bar]; decide) (by rw [amount_eq, role_bar]; rfl)
      0 (O + tallyAt (barCell (pv c)) 0 1) rfl) $$ [HO HtN H2 H3]
  · isplitr; · iapply (Ctx_cell X Wt K κ (nx c) _ (by rw [role_bar]; nofun)); iexact HC
    isplitl [HO]; · iexact HO
    isplitl [HtN]; · iexact HtN
    isplitl [H2 H3]
    · rw [payload_bar]; unfold barPay; rw [if_neg (by decide), pv_nx]
      isplitl [H2]; · iexact H2
      isplitl [H3]; · iexact H3
      iexact Hcf
    iexact HrN
  iintro HO
  iapply (Rounds.wp_signal 𝒱₀ ER (Rd X Wt) (c : Thread nD τ) none (dst := (pv c : Thread nD τ)) (sem := barS) (r := 0) (d := 0)
      (k' := 1) (κ := K (barCell (pv c)))
      (by rw [duties_bar]; decide) (by rw [amount_eq, role_bar]; rfl)
      0 O rfl) $$ [HO HtP H0 H1]
  · isplitr; · iapply (Ctx_cell X Wt K κ (pv c) _ (by rw [role_bar]; nofun)); iexact HC
    isplitl [HO]; · iexact HO
    isplitl [HtP]; · iexact HtP
    isplitl [H0 H1]
    · rw [payload_bar]; unfold barPay; rw [if_pos rfl, nx_pv]
      isplitl [H0]; · iexact H0
      isplitl [H1]; · iexact H1
      iexact Hct
    iexact HrP
  iintro HO
  iapply (Rounds.wp_wait_rest_token 𝒱₀ ER (Rd X Wt) (c : Thread nD τ) none (sm := .reg barS) (k' := 2) (κ := K (barCell c))
      (wpE_semWait_eq 𝒱₀ (c : Thread nD τ) none Set.univ) (Set.mem_univ _) 0 (O := O) (W := W) (R := 0) (m := 0) (T := ∅)
      ((Nat.zero_add 2).trans (expect_bar X Wt c).symm)) $$ [Hc HO Hat]
  · isplitr; · iapply (Ctx_cell X Wt K κ c _ (by rw [role_bar]; nofun)); iexact HC
    isplitl [Hc]; · iexact Hc
    isplitl [HO]; · iexact HO
    isplitr
    · iapply (mayWait c (.reg barS) 0 (k := 1) (by decide) (by rw [lv_bar]) hO); iapply (Ctx_lev X Wt K κ); iexact HC
    iexact Hat
  iintro ⟨HO, Hat, -, Hpay⟩
  ihave Hp := (Entails.of_eq (rest_bar X Wt c)) $$ Hpay
  unfold barPay
  rw [if_pos rfl, if_neg (by decide)]
  icases Hp with ⟨⟨G0, G1, #Ht⟩, ⟨G2, G3, #Hf⟩⟩
  iapply Hk
  isplitl [G0]; · iexact G0
  isplitl [G1]; · iexact G1
  isplitl [G2]; · iexact G2
  isplitl [G3]; · iexact G3
  isplitr; · iexact Ht
  isplitr; · iexact Hf
  isplitl [Hat]; · iexact Hat
  iexists _; iexact HO

end

end Cert.KernelIdeal.Ring

end
-- ==== Proof.Local.lean ====
/-
  The rules of the ring's LOCAL statements: the multiplications, the sums in the slots, and the result.
-/
module

public import proofs.«01_k».proof.Proof.Talk
public import Idealize.ShloMosaic.Lib.Pipeline.Value

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S4096x128.Idx → Elt F .f32) (Wt : Dev nD → S128x2048.Idx → Elt F .f32)

/-! ## The words the host hands over -/

/-- The word of the row block multiplied at position `j`. -/
def word (c : Dev nD) (j : Fin 32) : BitVec 32 := BitVec.ofNat 32 (chunk c j).val
/-- The table of row blocks. -/
def tabW (c : Dev nD) : S32.Idx → Elt F .i32 := fun z => word c (z 0)
/-- The neighbours. -/
def nbW (c : Dev nD) : S2.Idx → Elt F .i32 := fun z => BitVec.ofNat 32 (if (z 0).val = 0 then (nx c).val else (pv c).val)

/-- The word of a row block gives the first row of that block. -/
theorem off_word (q : Fin 32) : k0_off1 (BitVec.ofNat 32 q.val) = ![128 * q.val, 0] := by revert q; decide
/-- A row block's word passes the body's check. -/
theorem chk_word (q : Fin 32) : k0_chk3 (BitVec.ofNat 32 q.val) := by
  unfold k0_chk3; rw [off_word]; exact row_inb q

/-- Reading at a rectangle depends on its offsets alone. -/
theorem row_congr (f : S4096x128.Idx → Elt F .f32) (o o' : Fin 2 → ℕ) (e : o = o')
    (h : ∀ a, o a + S128x128.size a ≤ S4096x128.size a) (h' : ∀ a, o' a + S128x128.size a ≤ S4096x128.size a) :
    (fun k => f ((Rect.unit (s := S4096x128) o S128x128.size h).emb k) : S128x128.Idx → Elt F .f32)
      = fun k => f ((Rect.unit (s := S4096x128) o' S128x128.size h').emb k) := by
  subst e; rfl

/-! ## What is held -/

/-- A whole buffer at contents `f`. -/
abbrev pt (c : Dev nD) (b : Ref sig .tc) (f : b.ty.Contents (Elt F)) : sProp 𝕄 := (Memref.whole b).view.loc (c : Thread nD τ) ↦{fullShare} f

/-- The operands a device multiplies, and its table. -/
def ins (c : Dev nD) : sProp 𝕄 := iprop(pt c cc0_stg0_0 (X c) ∗ pt c cc0_stg1_0 (Wt c) ∗ pt c cc0_stg2_0 (tabW c))

/-- The partial products at the positions of `J` are made. -/
def made (c : Dev nD) (J : Fin 32 → Prop) : sProp 𝕄 :=
  iprop(∃ f : S32x128x2048.Idx → Elt F .f32, ⌜∀ j, J j → ∀ k, f ((spR j).emb k) = pdot X Wt c j k⌝ ∗ pt c cc0_scratch1 f)

/-- The first `n` column blocks of the result are written. -/
def wrote (c : Dev nD) (n : ℕ) : sProp 𝕄 :=
  iprop(∃ f : S128x2048.Idx → Elt F .f32, ⌜∀ i : Fin 4, i.val < n → ∀ k, f ((outR i).emb k) = res X Wt c i k⌝ ∗ pt c cc0_stg5_0 f)

/-- Different positions' partial products share no element. -/
theorem spR_ne (j j' : Fin 32) (h : j ≠ j') (k k' : S1x128x2048.Idx) : (spR j).emb k ≠ (spR j').emb k' := fun e => h (by
  have e0 := congrArg Fin.val (congrFun e (0 : Fin 3))
  have l : (k (0 : Fin 3)).val < 1 := (k (0 : Fin 3)).isLt
  have l' : (k' (0 : Fin 3)).val < 1 := (k' (0 : Fin 3)).isLt
  have v : ((spR j).emb k (0 : Fin 3)).val = j.val + 1 * (k (0 : Fin 3)).val := rfl
  have v' : ((spR j').emb k' (0 : Fin 3)).val = j'.val + 1 * (k' (0 : Fin 3)).val := rfl
  apply Fin.ext; omega)
/-- Different column blocks of the result share no element. -/
theorem outR_ne (i i' : Fin 4) (h : i ≠ i') (k k' : S128x512.Idx) : (outR i).emb k ≠ (outR i').emb k' := fun e => h (by
  have e0 := congrArg Fin.val (congrFun e (1 : Fin 2))
  have l : (k (1 : Fin 2)).val < 512 := (k (1 : Fin 2)).isLt
  have l' : (k' (1 : Fin 2)).val < 512 := (k' (1 : Fin 2)).isLt
  have v : ((outR i).emb k (1 : Fin 2)).val = 512 * i.val + 1 * (k (1 : Fin 2)).val := rfl
  have v' : ((outR i').emb k' (1 : Fin 2)).val = 512 * i'.val + 1 * (k' (1 : Fin 2)).val := rfl
  apply Fin.ext; omega)
/-- Column block `i` of partial product `j` is column block `i` of the product at `j`. -/
theorem psR_emb (j : Fin 32) (i : Fin 4) (k : S1x128x512.Idx) : (psR j i).emb k = (spR j).emb ((inR i).emb k) := by
  funext a
  apply Fin.ext
  show (![j.val, 0, 512 * i.val] : Fin 3 → ℕ) a + 1 * (k a).val
    = (![j.val, 0, 0] : Fin 3 → ℕ) a + 1 * ((![0, 0, 512 * i.val] : Fin 3 → ℕ) a + 1 * (k a).val)
  revert a
  intro (a : Fin 3)
  fin_cases a <;> simp

/-- A partial product just written is read back. -/
theorem sp_write_same (j : Fin 32) (f : (A₀.sp.access (spR j)).ty.Contents (Elt F)) (w : (spR j).shape.Idx → Elt F .f32) (k : (spR j).shape.Idx) :
    (A₀.sp.access (spR j)).write (Elt F) f w Finset.univ ((A₀.sp.access (spR j)).emb k) = w k :=
  (View.write_emb_of_mem f w (Finset.mem_univ k)).trans (cast_eq _ _)
/-- Writing one position's partial product leaves the others' as they were. -/
theorem sp_write_other (j j' : Fin 32) (hj : j' ≠ j) (f : S32x128x2048.Idx → Elt F .f32) (w : S1x128x2048.Idx → Elt F .f32) (k : S1x128x2048.Idx) :
    ((A₀.sp.access (spR j)).write (Elt F) f w Finset.univ : S32x128x2048.Idx → Elt F .f32) ((spR j').emb k) = f ((spR j').emb k) :=
  View.write_of_not_mem (v := A₀.sp.access (spR j)) (Val := Elt F) f w Finset.univ fun hm => by
    obtain ⟨x, -, hx⟩ := Finset.mem_map.mp hm
    exact spR_ne j j' (fun e' => hj e'.symm) x k hx
/-- A column block of the result just written is read back. -/
theorem out_write_same (i : Fin 4) (f : (A₀.out.access (outR i)).ty.Contents (Elt F)) (w : (outR i).shape.Idx → Elt F .f32) (k : (outR i).shape.Idx) :
    (A₀.out.access (outR i)).write (Elt F) f w Finset.univ ((A₀.out.access (outR i)).emb k) = w k :=
  (View.write_emb_of_mem f w (Finset.mem_univ k)).trans (cast_eq _ _)
/-- Writing one column block of the result leaves the others as they were. -/
theorem out_write_other (i i' : Fin 4) (hi : i' ≠ i) (f : S128x2048.Idx → Elt F .f32) (w : S128x512.Idx → Elt F .f32) (k : S128x512.Idx) :
    ((A₀.out.access (outR i)).write (Elt F) f w Finset.univ : S128x2048.Idx → Elt F .f32) ((outR i').emb k) = f ((outR i').emb k) :=
  View.write_of_not_mem (v := A₀.out.access (outR i)) (Val := Elt F) f w Finset.univ fun hm => by
    obtain ⟨x, -, hx⟩ := Finset.mem_map.mp hm
    exact outR_ne i i' (fun e' => hi e'.symm) x k hx

/-! ## The statements -/

/-- A multiplication, once its word is read. -/
def dotAt (A : Ops) (j : Fin 32) (v : BitVec 32) (k : Pg F) : Pg F :=
  .op (.assume (k0_chk3 v) (k0_chk3.dec v)) fun h =>
  .op (.load A.x (Rect.unit (s := S4096x128) (k0_off1 v) S128x128.size (k0_off1_inb v h.down)).toLoadRect (View.loadsAt_vmem h_S128x128)) fun a =>
  .op (.load A.w (Rect.unit (s := S128x2048) ![0, 0] S128x2048.size inb_S128x2048_S128x2048_0_0).toLoadRect (View.loadsAt_vmem h_S128x2048)) fun b =>
  .op (.load A.sp (spR j).toLoadRect (View.loadsAt_vmem h_S1x128x2048)) fun _ =>
  .op (.store A.sp (spR j)
    (shapeCast S1x128x2048 (matmul dot_S128x128_S128x2048_S128x2048_1_0_0_1_n_n none
      (shapeCast S128x128 a shapeCasts_S128x128_S128x128) (shapeCast S128x2048 b shapeCasts_S128x2048_S128x2048)
      (constant S128x2048 .f32 0x00000000#32)) shapeCasts_S128x2048_S1x128x2048)
    Finset.univ (View.stores_vmem_bits_univ h_S1x128x2048 rfl) (.inl rfl)) fun _ => k

/-- The whole of `w` is read. -/
theorem w_read (f : S128x2048.Idx → Elt F .f32) :
    (fun k => f ((Rect.unit (s := S128x2048) ![0, 0] S128x2048.size inb_S128x2048_S128x2048_0_0).emb k) : S128x2048.Idx → Elt F .f32) = f := by
  funext k
  refine congrArg f (funext fun a => Fin.ext ?_)
  show (![0, 0] : Fin 2 → ℕ) a + 1 * (k a).val = (k a).val
  revert a; intro (a : Fin 2); fin_cases a <;> simp

/-- Multiplying the row block of position `j` adds `j` to the positions made. -/
theorem run_dotAt (c : Dev nD) (j : Fin 32) (v : BitVec 32) (hv : v = word c j) (J J' : Fin 32 → Prop) (hJ : ∀ j', J' j' → j' = j ∨ J j')
    (k : Pg F) (Q : PUnit → sProp 𝕄) :
    iprop(pt c cc0_stg0_0 (X c) ∗ pt c cc0_stg1_0 (Wt c) ∗ made X Wt c J)
      ⊢ iprop(((pt c cc0_stg0_0 (X c) ∗ pt c cc0_stg1_0 (Wt c) ∗ made X Wt c J') -∗ run c k Q) -∗ run c (dotAt A₀ j v k) Q) := by
  subst hv
  have hc : k0_chk3 (word c j) := chk_word (chunk c j)
  unfold made dotAt
  iintro ⟨Hx, Hw, ⟨%f, %hf, Hs⟩⟩ Hk
  iapply (wp_assume 𝒱₀ (c : Thread nD τ) none Set.univ hc)
  iapply (wp_load_rect 𝒱₀ (c : Thread nD τ) none Set.univ (m := A₀.x) (r := Rect.unit (s := S4096x128) (k0_off1 (word c j)) S128x128.size (k0_off1_inb (word c j) hc))
    (S := Finset.univ) (q := fullShare) (f := X c) (Finset.subset_univ _)) $$ Hx
  iintro Hx
  iapply (wp_load_rect 𝒱₀ (c : Thread nD τ) none Set.univ (m := A₀.w) (r := Rect.unit (s := S128x2048) ![0, 0] S128x2048.size inb_S128x2048_S128x2048_0_0)
    (S := Finset.univ) (q := fullShare) (f := Wt c) (Finset.subset_univ _)) $$ Hw
  iintro Hw
  iapply (wp_load_rect 𝒱₀ (c : Thread nD τ) none Set.univ (m := A₀.sp) (r := spR j)
    (S := Finset.univ) (q := fullShare) (f := f) (Finset.subset_univ _)) $$ Hs
  iintro Hs
  have ha : (A₀.x.access (Rect.unit (s := S4096x128) (k0_off1 (word c j)) S128x128.size (k0_off1_inb (word c j) hc))).read (Elt F) (X c)
      = fun k => X c ((rowR (chunk c j)).emb k) := row_congr (X c) _ _ (off_word (chunk c j)) _ _
  have hb : (A₀.w.access (Rect.unit (s := S128x2048) ![0, 0] S128x2048.size inb_S128x2048_S128x2048_0_0)).read (Elt F) (Wt c) = Wt c := w_read (Wt c)
  rw [ha, hb]
  iapply (wp_store 𝒱₀ (c : Thread nD τ) none Set.univ (m := A₀.sp) (r := spR j) (w := pdot X Wt c j) (Mk := Finset.univ)
    (S := Finset.univ) (f := f) (Finset.subset_univ _)) $$ Hs
  iintro Hs
  iapply Hk
  isplitl [Hx]; · iexact Hx
  isplitl [Hw]; · iexact Hw
  iexists (A₀.sp.access (spR j)).write (Elt F) f (pdot X Wt c j) Finset.univ
  isplitr
  · ipureintro
    intro j' hj' k'
    by_cases e : j' = j
    · subst e
      exact sp_write_same j' f (pdot X Wt c j') k'
    · exact (sp_write_other j j' e f (pdot X Wt c j) k').trans (hf j' ((hJ j' hj').resolve_left e) k')
  iexact Hs

/-- A multiplication makes the partial product of its position. -/
theorem run_dot (c : Dev nD) (j : Fin 32) (J J' : Fin 32 → Prop) (hJ : ∀ j', J' j' → j' = j ∨ J j') (k : Pg F) (Q : PUnit → sProp 𝕄) :
    iprop(ins X Wt c ∗ made X Wt c J)
      ⊢ iprop(((ins X Wt c ∗ made X Wt c J') -∗ run c k Q) -∗ run c (dot A₀ j k) Q) := by
  unfold ins made
  iintro ⟨⟨Hx, Hw, Ht⟩, ⟨%f, %hf, Hs⟩⟩ Hk
  have hv : (A₀.tab.access (Rect.unit (s := S32) ![j.val] S1.size (tab_inb j))).read (Elt F) (tabW c) (Shape.Idx.first (numel1_S1.symm ▸ Nat.one_pos))
      = word c j := by
    show word c ((Rect.unit (s := S32) ![j.val] S1.size (tab_inb j)).emb (Shape.Idx.first _) (0 : Fin 1)) = word c j
    refine congrArg (word c) (Fin.ext ?_)
    have hl : ((Shape.Idx.first (s := (Rect.unit (s := S32) ![j.val] S1.size (tab_inb j)).shape) (numel1_S1.symm ▸ Nat.one_pos)) (0 : Fin 1)).val < 1 :=
      Fin.isLt _
    show j.val + 1 * ((Shape.Idx.first (s := (Rect.unit (s := S32) ![j.val] S1.size (tab_inb j)).shape) (numel1_S1.symm ▸ Nat.one_pos)) (0 : Fin 1)).val = j.val
    omega
  iapply (wp_load_rect 𝒱₀ (c : Thread nD τ) none Set.univ (m := A₀.tab) (r := Rect.unit (s := S32) ![j.val] S1.size (tab_inb j))
    (S := Finset.univ) (q := fullShare) (f := tabW c) (Finset.subset_univ _)) $$ Ht
  iintro Ht
  iapply (run_dotAt X Wt c j _ hv J J' hJ k Q) $$ [Hx Hw Hs]
  · isplitl [Hx]; · iexact Hx
    isplitl [Hw]; · iexact Hw
    unfold made
    iexists f
    isplitr; · ipureintro; exact hf
    iexact Hs
  iintro ⟨Hx, Hw, Hs⟩
  iapply Hk
  isplitl [Hx Hw Ht]
  · isplitl [Hx]; · iexact Hx
    isplitl [Hw]; · iexact Hw
    iexact Ht
  unfold made
  iexact Hs

/-- The partial product's column block as the sums and the first slot read it. -/
theorem ps_read (c : Dev nD) (j : Fin 32) (i : Fin 4) (f : S32x128x2048.Idx → Elt F .f32) (hf : ∀ k, f ((spR j).emb k) = pdot X Wt c j k) :
    shapeCast S128x512 ((A₀.sp.access (psR j i)).read (Elt F) f) shapeCasts_S1x128x512_S128x512 = ps X Wt c j i := by
  unfold ps
  refine congrArg (fun g : FVec F S1x128x512 .f32 => shapeCast S128x512 g shapeCasts_S1x128x512_S128x512) (funext fun k => ?_)
  show f ((psR j i).emb k) = _
  rw [psR_emb, hf]

/-- A slot covers the same elements however it is shaped. -/
theorem slot_set (t i : Fin 4) : (slotM A₀ t i).view.set = (A₀.buf.access (bufR t i)).set := View.set_reshape _ _

/-- Loading a slot. -/
theorem run_load_slot (c : Dev nD) (t i : Fin 4) (v : FVec F S128x512 .f32) (hl : A₀.buf.view.LoadsAt (bufR t i)) (k : ((bufR t i).shape.Idx → Elt F .f32) → Pg F) (Q : PUnit → sProp 𝕄) :
    slotAt c t i v
      ⊢ iprop((∀ a, (⌜shapeCast S128x512 a shapeCasts_S1x1x128x512_S128x512 = v⌝ ∗ slotAt c t i v) -∗ run c (k a) Q)
          -∗ run c (.op (.load A₀.buf (bufR t i).toLoadRect hl) k) Q) := by
  unfold slotAt owns
  iintro ⟨%f, %hf, H⟩ Hk
  iapply (wp_load_rect 𝒱₀ (c : Thread nD τ) none Set.univ (m := A₀.buf) (r := bufR t i)
    (S := (slotM A₀ t i).view.set) (q := fullShare) (f := f) (slot_set t i).ge) $$ H
  iintro H
  iapply Hk $$ %((A₀.buf.access (bufR t i)).read (Elt F) f)
  isplitr; · ipureintro; exact hf
  iexists f
  isplitr; · ipureintro; exact hf
  iexact H

/-- Loading a slot whose contents do not matter. -/
theorem run_load_any (c : Dev nD) (t i : Fin 4) (hl : A₀.buf.view.LoadsAt (bufR t i)) (k : ((bufR t i).shape.Idx → Elt F .f32) → Pg F) (Q : PUnit → sProp 𝕄) :
    slotAny c t i
      ⊢ iprop((∀ a, slotAny c t i -∗ run c (k a) Q) -∗ run c (.op (.load A₀.buf (bufR t i).toLoadRect hl) k) Q) := by
  unfold slotAny Release.slot
  iintro ⟨%f, H⟩ Hk
  iapply (wp_load_rect 𝒱₀ (c : Thread nD τ) none Set.univ (m := A₀.buf) (r := bufR t i)
    (S := (slotM A₀ t i).view.set) (q := fullShare) (f := f) (slot_set t i).ge) $$ H
  iintro H
  iapply Hk $$ %((A₀.buf.access (bufR t i)).read (Elt F) f)
  iexists f
  iexact H

/-- Storing into a slot. -/
theorem run_store_slot (c : Dev nD) (t i : Fin 4) (v : FVec F S128x512 .f32) (hx hm) (k : Pg F) (Q : PUnit → sProp 𝕄) :
    slotAny c t i
      ⊢ iprop((slotAt c t i v -∗ run c k Q)
          -∗ run c (.op (.store A₀.buf (bufR t i) (shapeCast S1x1x128x512 v shapeCasts_S128x512_S1x1x128x512) Finset.univ hx hm) fun _ => k) Q) := by
  unfold slotAny Release.slot slotAt owns
  iintro ⟨%f, H⟩ Hk
  iapply (wp_store 𝒱₀ (c : Thread nD τ) none Set.univ (m := A₀.buf) (r := bufR t i) (w := shapeCast S1x1x128x512 v shapeCasts_S128x512_S1x1x128x512) (Mk := Finset.univ)
    (S := (slotM A₀ t i).view.set) (f := f) (slot_set t i).ge) $$ H
  iintro H
  iapply Hk
  iexists (A₀.buf.access (bufR t i)).write (Elt F) f (shapeCast S1x1x128x512 v shapeCasts_S128x512_S1x1x128x512) Finset.univ
  isplitr
  · ipureintro
    have h := View.read_write_univ (v := A₀.buf.access (bufR t i)) f (shapeCast S1x1x128x512 v shapeCasts_S128x512_S1x1x128x512)
    refine (congrArg (fun g : FVec F S1x1x128x512 .f32 => shapeCast S128x512 g shapeCasts_S1x1x128x512_S128x512) h).trans ?_
    exact shapeCast_shapeCast _ _ _
  iexact H

/-- Loading a column block of a made partial product. -/
theorem run_load_ps (c : Dev nD) (j : Fin 32) (i : Fin 4) (J : Fin 32 → Prop) (hj : J j) (hl : A₀.sp.view.LoadsAt (psR j i)) (k : ((psR j i).shape.Idx → Elt F .f32) → Pg F) (Q : PUnit → sProp 𝕄) :
    made X Wt c J
      ⊢ iprop((∀ a, (⌜shapeCast S128x512 a shapeCasts_S1x128x512_S128x512 = ps X Wt c j i⌝ ∗ made X Wt c J) -∗ run c (k a) Q)
          -∗ run c (.op (.load A₀.sp (psR j i).toLoadRect hl) k) Q) := by
  unfold made
  iintro ⟨%f, %hf, H⟩ Hk
  iapply (wp_load_rect 𝒱₀ (c : Thread nD τ) none Set.univ (m := A₀.sp) (r := psR j i)
    (S := Finset.univ) (q := fullShare) (f := f) (Finset.subset_univ _)) $$ H
  iintro H
  iapply Hk $$ %((A₀.sp.access (psR j i)).read (Elt F) f)
  isplitr; · ipureintro; exact ps_read X Wt c j i f (hf j hj)
  iexists f
  isplitr; · ipureintro; exact hf
  iexact H

/-- The first slot of a channel takes its first partial product. -/
theorem run_first (c : Dev nD) (i : Fin 4) (J : Fin 32 → Prop) (hj : J (posOf 0 i)) (k : Pg F) (Q : PUnit → sProp 𝕄) :
    iprop(made X Wt c J ∗ slotAny c 0 i)
      ⊢ iprop(((made X Wt c J ∗ slotAt c 0 i (acc X Wt 0 c i)) -∗ run c k Q) -∗ run c (first A₀ i k) Q) := by
  unfold first
  iintro ⟨Hm, Hs⟩ Hk
  iapply (run_load_ps X Wt c (posOf 0 i) i J hj) $$ Hm
  iintro %p ⟨%hp, Hm⟩
  iapply (run_load_any c 0 i) $$ Hs
  iintro %a Hs
  rw [hp]
  iapply (run_store_slot c 0 i (ps X Wt c (posOf 0 i) i)) $$ Hs
  iintro Hs
  iapply Hk
  isplitl [Hm]; · iexact Hm
  iexact Hs

/-- A step's sum: what arrived and the step's partial product. -/
theorem run_accum (c : Dev nD) (s : ℕ) (i : Fin 4) (J : Fin 32 → Prop) (hj : J (posOf (s + 1) i)) (k : Pg F) (Q : PUnit → sProp 𝕄) :
    iprop(made X Wt c J ∗ slotAt c (slot (s + 1)) i (acc X Wt s (us c i) i))
      ⊢ iprop(((made X Wt c J ∗ slotAt c (slot (s + 1)) i (acc X Wt (s + 1) c i)) -∗ run c k Q) -∗ run c (accum A₀ (s + 1) i k) Q) := by
  unfold accum
  iintro ⟨Hm, Hs⟩ Hk
  iapply (run_load_slot c (slot (s + 1)) i (acc X Wt s (us c i) i)) $$ Hs
  iintro %a ⟨%ha, Hs⟩
  iapply (run_load_ps X Wt c (posOf (s + 1) i) i J hj) $$ Hm
  iintro %p ⟨%hp, Hm⟩
  ihave Hs := (slotAt_any c (slot (s + 1)) i _) $$ Hs
  iapply (run_load_any c (slot (s + 1)) i) $$ Hs
  iintro %_ Hs
  rw [ha, hp]
  iapply (run_store_slot c (slot (s + 1)) i (acc X Wt (s + 1) c i)) $$ Hs
  iintro Hs
  iapply Hk
  isplitl [Hm]; · iexact Hm
  iexact Hs

/-- The end of a channel: the last arrival, the last partial product, and the result's column block. -/
def finishAt (A : Ops) (i : Fin 4) (k : Pg F) : Pg F :=
  .op (.load A.buf (bufR 3 i).toLoadRect (View.loadsAt_vmem h_S1x1x128x512)) fun a =>
  .op (.load A.sp (psR 31 i).toLoadRect (View.loadsAt_vmem h_S1x128x512)) fun p =>
  .op (.load A.out (outR i).toLoadRect (View.loadsAt_vmem h_S128x512)) fun _ =>
  .op (.store A.out (outR i)
    (gelu (addf (shapeCast S128x512 a shapeCasts_S1x1x128x512_S128x512) (shapeCast S128x512 p shapeCasts_S1x128x512_S128x512)))
    Finset.univ (View.stores_vmem_bits_univ h_S128x512 rfl) (.inl rfl)) fun _ => k

/-- The end of a channel: the last arrival is awaited, then the result's column block is written. -/
theorem finish_eq (i : Fin 4) (k : Pg F) : finish A₀ i k = await A₀ 30 i (finishAt A₀ i k) := rfl

/-- Writing column block `i` of the result from the last arrival and the device's own partial product. -/
theorem run_finishAt (c : Dev nD) (i : Fin 4) (J : Fin 32 → Prop) (hj : J 31) (k : Pg F) (Q : PUnit → sProp 𝕄) :
    iprop(made X Wt c J ∗ slotAt c 3 i (acc X Wt 30 (us c i) i) ∗ wrote X Wt c i.val)
      ⊢ iprop(((made X Wt c J ∗ slotAny c 3 i ∗ wrote X Wt c (i.val + 1)) -∗ run c k Q) -∗ run c (finishAt A₀ i k) Q) := by
  unfold finishAt wrote
  iintro ⟨Hm, Hs, ⟨%f, %hf, Ho⟩⟩ Hk
  iapply (run_load_slot c 3 i (acc X Wt 30 (us c i) i)) $$ Hs
  iintro %a ⟨%ha, Hs⟩
  iapply (run_load_ps X Wt c 31 i J hj) $$ Hm
  iintro %p ⟨%hp, Hm⟩
  ihave Hs := (slotAt_any c 3 i _) $$ Hs
  iapply (wp_load_rect 𝒱₀ (c : Thread nD τ) none Set.univ (m := A₀.out) (r := outR i)
    (S := Finset.univ) (q := fullShare) (f := f) (Finset.subset_univ _)) $$ Ho
  iintro Ho
  rw [ha, hp]
  iapply (wp_store 𝒱₀ (c : Thread nD τ) none Set.univ (m := A₀.out) (r := outR i) (w := res X Wt c i) (Mk := Finset.univ)
    (S := Finset.univ) (f := f) (Finset.subset_univ _)) $$ Ho
  iintro Ho
  iapply Hk
  isplitl [Hm]; · iexact Hm
  isplitl [Hs]; · iexact Hs
  iexists (A₀.out.access (outR i)).write (Elt F) f (res X Wt c i) Finset.univ
  isplitr
  · ipureintro
    intro i' hi' k'
    by_cases e : i' = i
    · subst e
      exact out_write_same i' f (res X Wt c i') k'
    · exact (out_write_other i i' e f (res X Wt c i) k').trans
        (hf i' (lt_of_le_of_ne (Nat.lt_succ_iff.mp hi') (fun e' => e (Fin.ext e'))) k')
  iexact Ho

end Cert.KernelIdeal.Ring

end
-- ==== Proof.Steps.lean ====
/-
  The RUN of the ring's body on one device: one step of one channel, one round, all rounds by induction, and the end.
-/
module

public import proofs.«01_k».proof.Proof.Local

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S4096x128.Idx → Elt F .f32) (Wt : Dev nD → S128x2048.Idx → Elt F .f32)
variable (K : GSem nD τ sig → ℕ) (κ : Key → ℕ)

/-! ## What a step consumes -/

/-- Does step `s` give a credit? -/
abbrev Gives (s : ℕ) : Prop := 1 ≤ s ∧ s ≤ 28

/-- For the credit given at step `s`. -/
def giveFuel (c : Dev nD) (i : Fin 4) (s : ℕ) : sProp 𝕄 :=
  if Gives s then iprop(Release.readerAt EQ (c, i, s + 2) 0 ∗ dutyTok ER (crCell (us c i) (dir i)) 0 (crNo i (s + 2))) else iprop(emp)
/-- For the credit taken at step `s`. -/
def takeFuel (c : Dev nD) (i : Fin 4) (s : ℕ) : sProp 𝕄 :=
  if 3 ≤ s then iprop(Release.writeTok EQ (dn c i, i, s) 1 ∗ cred (tallyAt (crCell c (dir i)) (crNo i s) 1)) else iprop(emp)
/-- For the transfer of step `s`, and the waits on it. -/
def sendFuel (c : Dev nD) (i : Fin 4) (s : ℕ) : sProp 𝕄 :=
  iprop(dutyTok ER (sndCell c (slot s) i) (s / 4) 0 ∗ dutyTok ER (rcvCell (dn c i) (slot (s + 1)) i) (s / 4) 0
    ∗ cred (tallyAt (rcvCell c (slot (s + 1)) i) s N))
/-- All that is dealt at launch for step `s` of channel `i`. -/
def fuel (c : Dev nD) (i : Fin 4) (s : ℕ) : sProp 𝕄 := iprop(giveFuel c i s ∗ takeFuel c i s ∗ sendFuel c i s)
/-- The slot the barrier hands over for step `s`. -/
def giftIf (c : Dev nD) (i : Fin 4) (s : ℕ) : sProp 𝕄 := if s < 3 then gift (dn c i) i s else iprop(emp)

/-- What step `s` of channel `i` pays. -/
def sendOwe (c : Dev nD) (i : Fin 4) (s : ℕ) : CellTallies nD τ sig ℕ := tallyAt (rcvCell (dn c i) (slot (s + 1)) i) s N
/-- The credit step `s` of channel `i` pays, if it gives one. -/
def giveOwe (c : Dev nD) (i : Fin 4) (s : ℕ) : CellTallies nD τ sig ℕ :=
  if Gives s then tallyAt (crCell (us c i) (dir i)) (crNo i (s + 2)) 1 else 0
/-- All that step `s` of channel `i` pays. -/
def owe (c : Dev nD) (i : Fin 4) (s : ℕ) : CellTallies nD τ sig ℕ := sendOwe c i s + giveOwe c i s

/-- The arrival a step pays is above level `2 s + 1`. -/
theorem sendOwe_above (c : Dev nD) (i : Fin 4) (s : ℕ) (hs : s ≤ 30) : Above (2 * s + 1) (sendOwe c i s) :=
  Above.tally _ _ _ _ (by omega) (by rw [lv_rcv]; omega)
/-- The credit a step pays is above level `2 s`. -/
theorem giveOwe_above (c : Dev nD) (i : Fin 4) (s : ℕ) : Above (2 * s) (giveOwe c i s) := by
  unfold giveOwe
  split
  · rename_i h; exact Above.tally _ _ _ _ (by unfold crNo; omega) (by rw [lv_cr]; unfold crNo; omega)
  · exact Above.zero _
/-- All that a step pays is above level `2 s`. -/
theorem owe_above (c : Dev nD) (i : Fin 4) (s : ℕ) (hs : s ≤ 30) : Above (2 * s) (owe c i s) :=
  ((sendOwe_above c i s hs).mono (by omega)).add (giveOwe_above c i s)

/-! ## The states -/

/-- The credits of a direction given, and taken, before step `s` of its channel of parity `p`. -/
def gN (s p : ℕ) : ℕ := if s = 0 then 0 else min (2 * (s - 1) + p) 56
/-- The credits of a direction taken before step `s` of its channel of parity `p`. -/
def tN (s p : ℕ) : ℕ := if s < 3 then 0 else 2 * (s - 3) + p

/-- The credits of a direction before step `s` of its channel of parity `p`. -/
def dirAt (c : Dev nD) (b : Bool) (s p : ℕ) : sProp 𝕄 := iprop(given c b (gN s p) ∗ taken c b (tN s p))
/-- After it. -/
def dirAfter (c : Dev nD) (b : Bool) (s p : ℕ) : sProp 𝕄 :=
  iprop(given c b (if Gives s then gN s p + 1 else gN s p) ∗ taken c b (if 3 ≤ s then tN s p + 1 else tN s p))

/-- After the step of a direction's first channel its credits are as before the step of its second. -/
theorem dirAfter_zero (c : Dev nD) (b : Bool) (s : ℕ) : dirAfter c b s 0 = (dirAt c b s 1 : sProp 𝕄) := by
  unfold dirAfter dirAt
  rw [show (if Gives s then gN s 0 + 1 else gN s 0) = gN s 1 by unfold gN Gives; split <;> split <;> omega,
    show (if 3 ≤ s then tN s 0 + 1 else tN s 0) = tN s 1 by unfold tN; split <;> split <;> omega]
/-- After the step of its second channel they are as before the next step of its first. -/
theorem dirAfter_one (c : Dev nD) (b : Bool) (s : ℕ) : dirAfter c b s 1 = (dirAt c b (s + 1) 0 : sProp 𝕄) := by
  unfold dirAfter dirAt
  rw [show (if Gives s then gN s 1 + 1 else gN s 1) = gN (s + 1) 0 by unfold gN Gives; (repeat' split) <;> omega,
    show (if 3 ≤ s then tN s 1 + 1 else tN s 1) = tN (s + 1) 0 by unfold tN; (repeat' split) <;> omega]

/-- A transfer in flight: what its two waits are made with. -/
def pend (c : Dev nD) (i : Fin 4) (s : ℕ) : sProp 𝕄 :=
  iprop(cred (tallyAt (sndCell c (slot s) i) 0 N) ∗ cred (tallyAt (rcvCell c (slot (s + 1)) i) s N))
/-- The slots that no later transfer fills. -/
def left (c : Dev nD) (i : Fin 4) (s : ℕ) : sProp 𝕄 := bigSep (Finset.Ico 29 s) fun s' => slotAny c (slot (s' + 3)) i

/-- Channel `i` before step `s`. -/
def chan (c : Dev nD) (i : Fin 4) : ℕ → sProp 𝕄
  | 0 => iprop(seatsS c i 0 ∗ seatsR c i 0 ∗ slotAt c 0 i (acc X Wt 0 c i))
  | s + 1 => iprop(seatsS c i s ∗ seatsR c i s ∗ pend c i s ∗ left c i (s + 1))

/-- A channel before step 0. -/
theorem chan_zero (c : Dev nD) (i : Fin 4) : chan X Wt c i 0 = iprop(seatsS c i 0 ∗ seatsR c i 0 ∗ slotAt c 0 i (acc X Wt 0 c i)) := rfl
/-- A channel before a later step. -/
theorem chan_succ (c : Dev nD) (i : Fin 4) (s : ℕ) :
    chan X Wt c i (s + 1) = iprop(seatsS c i s ∗ seatsR c i s ∗ pend c i s ∗ left c i (s + 1)) := rfl
/-- Before step 1 no slot is left over. -/
theorem left_zero (c : Dev nD) (i : Fin 4) : iprop(emp) ⊢ (left c i (0 + 1) : sProp 𝕄) := by
  unfold left
  rw [Finset.Ico_eq_empty_of_le (by decide), bigSep_empty]
  exact BI.Entails.refl _

/-- The credit cells of the upstream devices are open. -/
def links (c : Dev nD) : sProp 𝕄 := iprop(reached ER (crCell (pv c) false) 0 ∗ reached ER (crCell (nx c) true) 0)
/-- That the upstream credit cells are open may be used any number of times. -/
instance links_persistent (c : Dev nD) : BI.Persistent (links (F := F) c) := by unfold links; infer_instance
/-- The upstream device's credit cell is open for every channel. -/
theorem links_us (c : Dev nD) (i : Fin 4) : links c ⊢ (reached ER (crCell (us c i) (dir i)) 0 : sProp 𝕄) := by
  unfold links us up dir
  by_cases h : i.val < 2
  · rw [if_pos h, decide_eq_false (by omega)]; iintro ⟨H, -⟩; iexact H
  · rw [if_neg h, decide_eq_true (by omega)]; iintro ⟨-, H⟩; iexact H

/-! ## One step of one channel -/

/-- The slots that stay, with step `s`'s. -/
def leftAt (c : Dev nD) (i : Fin 4) (s : ℕ) : sProp 𝕄 := if 29 ≤ s then slotAny c (slot (s + 3)) i else iprop(emp)
/-- The slots left over, with step `s`'s, are those left over before step `s + 1`. -/
theorem left_succ (c : Dev nD) (i : Fin 4) (s : ℕ) : iprop(left c i s ∗ leftAt c i s) ⊢ (left c i (s + 1) : sProp 𝕄) := by
  unfold left leftAt
  by_cases h : 29 ≤ s
  · rw [if_pos h, bigSep_Ico_succ_top h]
    iintro ⟨Ha, Hb⟩
    first
      | (isplitl [Ha]; · iexact Ha
         iexact Hb)
      | (isplitl [Hb]; · iexact Hb
         iexact Ha)
  · rw [if_neg h, Finset.Ico_eq_empty_of_le (by omega : s + 1 ≤ 29), Finset.Ico_eq_empty_of_le (by omega : s ≤ 29)]
    iintro ⟨Ha, -⟩; iexact Ha

/-- The credit a step gives is numbered by the credits given before it. -/
theorem crNo_gN (i : Fin 4) (s : ℕ) (h : Gives s) : crNo i (s + 2) = gN s (i.val % 2) := by
  unfold crNo gN; unfold Gives at h; rw [if_neg (by omega)]; omega
/-- The credit a step takes is numbered by the credits taken before it. -/
theorem crNo_tN (i : Fin 4) (s : ℕ) (h : 3 ≤ s) : crNo i s = tN s (i.val % 2) := by
  unfold crNo tN; rw [if_neg (by omega)]

/-- Step `s ≥ 1` gives its credit where it has one to give; where it has none, the slot is left over. -/
theorem run_giveIf (c : Dev nD) (s : ℕ) (h1 : 1 ≤ s) (i : Fin 4) (O : CellTallies nD τ sig ℕ) (k : Pg F) (Q : PUnit → sProp 𝕄) :
    iprop(Ctx X Wt K κ ∗ links c ∗ seatsR c i s ∗ slotAny c (slot (s + 3)) i ∗ giveFuel c i s ∗ given c (dir i) (gN s (i.val % 2)) ∗ due c (O + giveOwe c i s))
      ⊢ iprop(((seatsR c i s ∗ given c (dir i) (if Gives s then gN s (i.val % 2) + 1 else gN s (i.val % 2)) ∗ leftAt c i s ∗ due c O) -∗ run c k Q)
          -∗ run c ((if s ≤ 28 then give (credit A₀ i) (us c i) else id) k) Q) := by
  unfold giveFuel giveOwe leftAt
  by_cases h : s ≤ 28
  · have hg : Gives s := ⟨h1, h⟩
    rw [if_pos hg, if_pos hg, if_pos h, if_pos hg, if_neg (by omega), ← crNo_gN i s hg]
    iintro ⟨#HC, #Hl, HR, Hs, ⟨Hrd, Ht⟩, Hg, HO⟩ Hk
    iapply (run_give X Wt K κ c s h1 h i O k Q) $$ [HR Hs Hrd Ht Hg HO]
    · isplitr; · iexact HC
      isplitl [HR]; · iexact HR
      isplitl [Hs]; · iexact Hs
      isplitl [Hrd]; · iexact Hrd
      isplitl [Hg]; · iexact Hg
      isplitl [Ht]; · iexact Ht
      isplitr; · iapply (links_us c i); iexact Hl
      iexact HO
    iintro ⟨HR, Hg, HO⟩
    iapply Hk
    isplitl [HR]; · iexact HR
    isplitl [Hg]; · iexact Hg
    isplitr; · iempintro
    iexact HO
  · have hg : ¬ Gives s := fun hg => h hg.2
    rw [if_neg hg, if_neg hg, if_neg h, if_neg hg, if_pos (by omega), add_zero]
    iintro ⟨-, -, HR, Hs, -, Hg, HO⟩ Hk
    iapply Hk
    isplitl [HR]; · iexact HR
    isplitl [Hg]; · iexact Hg
    isplitl [Hs]; · iexact Hs
    iexact HO

/-- Getting the slot downstream for step `s`: from the credit taken where the step takes one, else from what the barrier handed over. -/
theorem run_takeIf (c : Dev nD) (s : ℕ) (hs : s ≤ 30) (i : Fin 4) (O : CellTallies nD τ sig ℕ) (hO : Above (2 * s) O) (k : Pg F) (Q : PUnit → sProp 𝕄) :
    iprop(Ctx X Wt K κ ∗ takeFuel c i s ∗ giftIf c i s ∗ taken c (dir i) (tN s (i.val % 2)) ∗ due c O)
      ⊢ iprop(((slotAny (dn c i) (slot (s + 1)) i ∗ reached ER (rcvCell (dn c i) (slot (s + 1)) i) (s / 4)
            ∗ taken c (dir i) (if 3 ≤ s then tN s (i.val % 2) + 1 else tN s (i.val % 2)) ∗ due c O) -∗ run c k Q)
          -∗ run c ((if 3 ≤ s then take (credit A₀ i) else id) k) Q) := by
  unfold takeFuel giftIf
  by_cases h : 3 ≤ s
  · rw [if_pos h, if_neg (by omega), if_pos h, if_pos h, ← crNo_tN i s h]
    iintro ⟨#HC, ⟨Hw, Hc⟩, -, Ht, HO⟩ Hk
    iapply (run_take X Wt K κ c s h hs i O hO k Q) $$ [Hc Ht HO]
    · isplitr; · iexact HC
      isplitl [Ht]; · iexact Ht
      isplitl [Hc]; · iexact Hc
      iexact HO
    iintro ⟨Ht, Hf, HO⟩
    iapply fupd_wp
    imod (take_slot X Wt K κ (dn c i) i s h hs) $$ [Hw Hf] with ⟨Hs, Hr⟩
    · isplitr; · iexact HC
      isplitl [Hf]; · iexact Hf
      iexact Hw
    imodintro
    iapply Hk
    isplitl [Hs]; · iexact Hs
    isplitl [Hr]; · iexact Hr
    isplitl [Ht]; · iexact Ht
    iexact HO
  · rw [if_neg h, if_pos (by omega), if_neg h, if_neg h, show s / 4 = 0 by omega]
    unfold gift
    iintro ⟨-, -, ⟨Hs, Hr⟩, Ht, HO⟩ Hk
    iapply Hk
    isplitl [Hs]; · iexact Hs
    isplitl [Hr]; · iexact Hr
    isplitl [Ht]; · iexact Ht
    iexact HO

/-- Step 0 of a channel. -/
theorem run_step_zero (c : Dev nD) (i : Fin 4) (O : CellTallies nD τ sig ℕ) (hO : Above 0 O) (k : Pg F) (Q : PUnit → sProp 𝕄) :
    iprop(Ctx X Wt K κ ∗ chan X Wt c i 0 ∗ dirAt c (dir i) 0 (i.val % 2) ∗ fuel c i 0 ∗ giftIf c i 0 ∗ due c (O + owe c i 0))
      ⊢ iprop(((chan X Wt c i 1 ∗ dirAfter c (dir i) 0 (i.val % 2) ∗ due c O) -∗ run c k Q)
          -∗ run c (step A₀ (nx c) (pv c) 0 (by decide) i k) Q) := by
  rw [chan_zero, show (1 : ℕ) = 0 + 1 from rfl, chan_succ]
  unfold step fuel sendFuel dirAt dirAfter owe giveOwe giftIf gift pend
  rw [if_neg (show ¬ Gives 0 by decide), if_neg (show ¬ 1 ≤ 0 by decide), if_neg (show ¬ 3 ≤ 0 by decide),
    if_neg (show ¬ Gives 0 by decide), if_pos (show 0 < 3 by decide), add_zero]
  iintro ⟨#HC, ⟨HS, HR, Hs⟩, ⟨Hg, Ht⟩, ⟨-, Htf, HtS, HtR, Hcr⟩, ⟨Hd, Hrd⟩, HO⟩ Hk
  iapply (run_start X Wt K κ c 0 (by decide) i O k Q) $$ [HS Hs Hd Hrd HtS HtR HO]
  · isplitr; · iexact HC
    isplitl [HS]; · iexact HS
    isplitl [Hs]; · iexact Hs
    isplitl [Hd]; · iexact Hd
    isplitl [Hrd]; · iexact Hrd
    isplitl [HtS]; · iexact HtS
    isplitl [HtR]; · iexact HtR
    iexact HO
  iintro ⟨HS, Hc, HO⟩
  iapply Hk
  isplitl [HS HR Hc Hcr]
  · isplitl [HS]; · iexact HS
    isplitl [HR]; · iexact HR
    isplitl [Hc Hcr]
    · isplitl [Hc]; · iexact Hc
      iexact Hcr
    iapply (left_zero c i)
    iempintro
  isplitl [Hg Ht]
  · isplitl [Hg]; · iexact Hg
    iexact Ht
  iexact HO

/-- A later step of a channel. -/
theorem run_step_succ (c : Dev nD) (i : Fin 4) (s : ℕ) (hs : s + 1 ≤ 30) (h32 : s + 1 < 32) (O : CellTallies nD τ sig ℕ) (hO : Above (2 * (s + 1)) O) (J : Fin 32 → Prop)
    (hJ : J (posOf (s + 1) i)) (k : Pg F) (Q : PUnit → sProp 𝕄) :
    iprop(Ctx X Wt K κ ∗ links c ∗ chan X Wt c i (s + 1) ∗ dirAt c (dir i) (s + 1) (i.val % 2) ∗ made X Wt c J ∗ fuel c i (s + 1) ∗ giftIf c i (s + 1)
        ∗ due c (O + owe c i (s + 1)))
      ⊢ iprop(((chan X Wt c i (s + 1 + 1) ∗ dirAfter c (dir i) (s + 1) (i.val % 2) ∗ made X Wt c J ∗ due c O) -∗ run c k Q)
          -∗ run c (step A₀ (nx c) (pv c) (s + 1) h32 i k) Q) := by
  rw [chan_succ, chan_succ]
  unfold step fuel sendFuel dirAt dirAfter owe pend
  rw [if_pos (show 1 ≤ s + 1 by omega), ← add_assoc]
  iintro ⟨#HC, #Hl, ⟨HS, HR, ⟨HcS, HcR⟩, Hleft⟩, ⟨Hg, Ht⟩, Hm, ⟨Hgf, Htf, HtS, HtR, Hcr⟩, Hgift, HO⟩ Hk
  have ha : Above (2 * (s + 1)) (O + sendOwe c i (s + 1)) := hO.add ((sendOwe_above c i (s + 1) hs).mono (by omega))
  iapply (run_await X Wt K κ c s (by omega) i (O + sendOwe c i (s + 1) + giveOwe c i (s + 1)) (ha.add (giveOwe_above c i (s + 1)))) $$ [HS HR HcS HcR HO]
  · isplitr; · iexact HC
    isplitl [HS]; · iexact HS
    isplitl [HR]; · iexact HR
    isplitl [HcS]; · iexact HcS
    isplitl [HcR]; · iexact HcR
    iexact HO
  iintro ⟨HS, HR, Hold, Hs, HO⟩
  have hold : slot s = slot (s + 1 + 3) := Fin.ext (by show s % 4 = (s + 1 + 3) % 4; omega)
  iapply (run_giveIf X Wt K κ c (s + 1) (by omega) i (O + sendOwe c i (s + 1))) $$ [HR Hold Hgf Hg HO]
  · isplitr; · iexact HC
    isplitr; · iexact Hl
    isplitl [HR]; · iexact HR
    isplitl [Hold]; · rw [hold]; iexact Hold
    isplitl [Hgf]; · iexact Hgf
    isplitl [Hg]; · iexact Hg
    iexact HO
  iintro ⟨HR, Hg, Hla, HO⟩
  iapply (run_accum X Wt c s i J hJ) $$ [Hm Hs]
  · isplitl [Hm]; · iexact Hm
    iexact Hs
  iintro ⟨Hm, Hs⟩
  iapply (run_takeIf X Wt K κ c (s + 1) hs i (O + sendOwe c i (s + 1)) ha) $$ [Htf Hgift Ht HO]
  · isplitr; · iexact HC
    isplitl [Htf]; · iexact Htf
    isplitl [Hgift]; · iexact Hgift
    isplitl [Ht]; · iexact Ht
    iexact HO
  iintro ⟨Hd, Hrd, Ht, HO⟩
  iapply (run_start X Wt K κ c (s + 1) hs i O k Q) $$ [HS Hs Hd Hrd HtS HtR HO]
  · isplitr; · iexact HC
    isplitl [HS]; · iexact HS
    isplitl [Hs]; · iexact Hs
    isplitl [Hd]; · iexact Hd
    isplitl [Hrd]; · iexact Hrd
    isplitl [HtS]; · iexact HtS
    isplitl [HtR]; · iexact HtR
    iexact HO
  iintro ⟨HS, Hc, HO⟩
  iapply Hk
  isplitl [HS HR Hc Hcr Hleft Hla]
  · isplitl [HS]; · iexact HS
    isplitl [HR]; · iexact HR
    isplitl [Hc Hcr]
    · isplitl [Hc]; · iexact Hc
      iexact Hcr
    iapply (left_succ c i (s + 1))
    isplitl [Hleft]; · iexact Hleft
    iexact Hla
  isplitl [Hg Ht]
  · isplitl [Hg]; · iexact Hg
    iexact Ht
  isplitl [Hm]; · iexact Hm
  iexact HO

/-- Any step. -/
theorem run_step (c : Dev nD) (i : Fin 4) (s : ℕ) (hs : s ≤ 30) (h32 : s < 32) (O : CellTallies nD τ sig ℕ) (hO : Above (2 * s) O) (J : Fin 32 → Prop)
    (hJ : J (posOf s i)) (k : Pg F) (Q : PUnit → sProp 𝕄) :
    iprop(Ctx X Wt K κ ∗ links c ∗ chan X Wt c i s ∗ dirAt c (dir i) s (i.val % 2) ∗ made X Wt c J ∗ fuel c i s ∗ giftIf c i s
        ∗ due c (O + owe c i s))
      ⊢ iprop(((chan X Wt c i (s + 1) ∗ dirAfter c (dir i) s (i.val % 2) ∗ made X Wt c J ∗ due c O) -∗ run c k Q)
          -∗ run c (step A₀ (nx c) (pv c) s h32 i k) Q) := by
  cases s with
  | succ s => exact run_step_succ X Wt K κ c i s hs h32 O hO J hJ k Q
  | zero =>
    iintro ⟨#HC, -, Hch, Hd, Hm, Hf, Hg, HO⟩ Hk
    iapply (run_step_zero X Wt K κ c i O hO k Q) $$ [Hch Hd Hf Hg HO]
    · isplitr; · iexact HC
      isplitl [Hch]; · iexact Hch
      isplitl [Hd]; · iexact Hd
      isplitl [Hf]; · iexact Hf
      isplitl [Hg]; · iexact Hg
      iexact HO
    iintro ⟨Hch, Hd, HO⟩
    iapply Hk
    isplitl [Hch]; · iexact Hch
    isplitl [Hd]; · iexact Hd
    isplitl [Hm]; · iexact Hm
    iexact HO

/-! ## One round -/

/-- The four channels. -/
def all4 (Φ : Fin 4 → sProp 𝕄) : sProp 𝕄 := iprop(Φ 0 ∗ Φ 1 ∗ Φ 2 ∗ Φ 3)

/-- The positions made before step `s`. -/
def doneAt (s : ℕ) (j : Fin 32) : Prop := j.val ≤ s + 1 ∨ 29 - s ≤ j.val

/-- The partial products step `s` adds are made before it. -/
theorem doneAt_pos (s : ℕ) (hs : s ≤ 30) (i : Fin 4) : doneAt s (posOf s i) := by
  unfold doneAt posOf
  split
  · left; show s % 32 ≤ s + 1; omega
  · right; show 29 - s ≤ 30 - s; omega
/-- Position 31, the device's own row block, is made before every step. -/
theorem doneAt_last (s : ℕ) : doneAt s 31 := Or.inr (by show 29 - s ≤ 31; omega)

/-- The multiplications of round `s` make the partial products of round `s + 1`. -/
theorem run_dots (c : Dev nD) (s : ℕ) (h32 : s < 32) (k : Pg F) (Q : PUnit → sProp 𝕄) :
    iprop(ins X Wt c ∗ made X Wt c (doneAt s))
      ⊢ iprop(((ins X Wt c ∗ made X Wt c (doneAt (s + 1))) -∗ run c k Q) -∗ run c (dots A₀ s h32 k) Q) := by
  unfold dots
  split
  · rename_i h
    split
    · rename_i h'
      exact run_dot X Wt c ⟨s + 2, by omega⟩ (doneAt s) (doneAt (s + 1)) (fun j hj => by
        unfold doneAt at *
        rcases Nat.lt_trichotomy j.val (s + 2) with h1 | h1 | h1
        · right; omega
        · left; exact Fin.ext h1
        · right; omega) k Q
    · rename_i h'
      iintro ⟨Hi, Hm⟩ Hk
      iapply (run_dot X Wt c ⟨s + 2, _⟩ (doneAt s) (fun j => j.val = s + 2 ∨ doneAt s j) (fun j hj => hj.imp (fun e => Fin.ext e) id)) $$ [Hi Hm]
      · isplitl [Hi]; · iexact Hi
        iexact Hm
      iintro ⟨Hi, Hm⟩
      iapply (run_dot X Wt c ⟨28 - s, _⟩ (fun j => j.val = s + 2 ∨ doneAt s j) (doneAt (s + 1)) (fun j hj => by
        unfold doneAt at *
        by_cases e : j.val = 28 - s
        · left; exact Fin.ext e
        · right
          omega)) $$ [Hi Hm]
      · isplitl [Hi]; · iexact Hi
        iexact Hm
      iexact Hk
  · rename_i h
    iintro ⟨Hi, Hm⟩ Hk
    iapply Hk
    isplitl [Hi]; · iexact Hi
    unfold made
    icases Hm with ⟨%f, %hf, Hm⟩
    iexists f
    isplitr
    · ipureintro
      intro j _
      exact hf j (by unfold doneAt; omega)
    iexact Hm

/-- What the four channels of step `s` pay, in the order of the program. -/
def owe4 (c : Dev nD) (s : ℕ) (O : CellTallies nD τ sig ℕ) : CellTallies nD τ sig ℕ :=
  O + owe c 3 s + owe c 2 s + owe c 1 s + owe c 0 s

/-- The state before step `s`, but for what is owed and dealt. -/
def stAt (c : Dev nD) (s : ℕ) : sProp 𝕄 :=
  iprop(all4 (fun i => chan X Wt c i s) ∗ dirAt c false s 0 ∗ dirAt c true s 0 ∗ ins X Wt c ∗ made X Wt c (doneAt s))

/-- Round `s`: a step of each of the four channels, and the multiplications between. -/
theorem run_round (c : Dev nD) (s : ℕ) (hs : s ≤ 30) (h32 : s < 32) (O : CellTallies nD τ sig ℕ) (hO : Above (2 * s) O) (k : Pg F) (Q : PUnit → sProp 𝕄) :
    iprop(Ctx X Wt K κ ∗ links c ∗ stAt X Wt c s ∗ all4 (fun i => fuel c i s) ∗ all4 (fun i => giftIf c i s) ∗ due c (owe4 c s O))
      ⊢ iprop(((stAt X Wt c (s + 1) ∗ due c O) -∗ run c k Q) -∗ run c (round A₀ (nx c) (pv c) s h32 k) Q) := by
  unfold stAt all4 owe4 round
  iintro ⟨#HC, #Hl, ⟨⟨C0, C1, C2, C3⟩, Hf, Hb, Hi, Hm⟩, ⟨F0, F1, F2, F3⟩, ⟨G0, G1, G2, G3⟩, HO⟩ Hk
  have a3 := hO.add (owe_above c 3 s hs)
  have a2 := a3.add (owe_above c 2 s hs)
  have a1 := a2.add (owe_above c 1 s hs)
  iapply (run_step X Wt K κ c 0 s hs h32 _ a1 (doneAt s) (doneAt_pos s hs 0)) $$ [C0 Hf Hm F0 G0 HO]
  · isplitr; · iexact HC
    isplitr; · iexact Hl
    isplitl [C0]; · iexact C0
    isplitl [Hf]; · iexact Hf
    isplitl [Hm]; · iexact Hm
    isplitl [F0]; · iexact F0
    isplitl [G0]; · iexact G0
    iexact HO
  iintro ⟨C0, Hf, Hm, HO⟩
  ihave Hf := (show dirAfter c (dir 0) s (((0 : Fin 4) : ℕ) % 2) ⊢ (dirAt c false s 1 : sProp 𝕄) from Entails.of_eq (dirAfter_zero c false s)) $$ Hf
  iapply (run_step X Wt K κ c 1 s hs h32 _ a2 (doneAt s) (doneAt_pos s hs 1)) $$ [C1 Hf Hm F1 G1 HO]
  · isplitr; · iexact HC
    isplitr; · iexact Hl
    isplitl [C1]; · iexact C1
    isplitl [Hf]; · iexact Hf
    isplitl [Hm]; · iexact Hm
    isplitl [F1]; · iexact F1
    isplitl [G1]; · iexact G1
    iexact HO
  iintro ⟨C1, Hf, Hm, HO⟩
  ihave Hf := (show dirAfter c (dir 1) s (((1 : Fin 4) : ℕ) % 2) ⊢ (dirAt c false (s + 1) 0 : sProp 𝕄) from Entails.of_eq (dirAfter_one c false s)) $$ Hf
  iapply (run_step X Wt K κ c 2 s hs h32 _ a3 (doneAt s) (doneAt_pos s hs 2)) $$ [C2 Hb Hm F2 G2 HO]
  · isplitr; · iexact HC
    isplitr; · iexact Hl
    isplitl [C2]; · iexact C2
    isplitl [Hb]; · iexact Hb
    isplitl [Hm]; · iexact Hm
    isplitl [F2]; · iexact F2
    isplitl [G2]; · iexact G2
    iexact HO
  iintro ⟨C2, Hb, Hm, HO⟩
  ihave Hb := (show dirAfter c (dir 2) s (((2 : Fin 4) : ℕ) % 2) ⊢ (dirAt c true s 1 : sProp 𝕄) from Entails.of_eq (dirAfter_zero c true s)) $$ Hb
  iapply (run_step X Wt K κ c 3 s hs h32 _ hO (doneAt s) (doneAt_pos s hs 3)) $$ [C3 Hb Hm F3 G3 HO]
  · isplitr; · iexact HC
    isplitr; · iexact Hl
    isplitl [C3]; · iexact C3
    isplitl [Hb]; · iexact Hb
    isplitl [Hm]; · iexact Hm
    isplitl [F3]; · iexact F3
    isplitl [G3]; · iexact G3
    iexact HO
  iintro ⟨C3, Hb, Hm, HO⟩
  ihave Hb := (show dirAfter c (dir 3) s (((3 : Fin 4) : ℕ) % 2) ⊢ (dirAt c true (s + 1) 0 : sProp 𝕄) from Entails.of_eq (dirAfter_one c true s)) $$ Hb
  iapply (run_dots X Wt c s h32) $$ [Hi Hm]
  · isplitl [Hi]; · iexact Hi
    iexact Hm
  iintro ⟨Hi, Hm⟩
  iapply Hk
  isplitr [HO]
  · isplitl [C0 C1 C2 C3]
    · isplitl [C0]; · iexact C0
      isplitl [C1]; · iexact C1
      isplitl [C2]; · iexact C2
      iexact C3
    isplitl [Hf]; · iexact Hf
    isplitl [Hb]; · iexact Hb
    isplitl [Hi]; · iexact Hi
    iexact Hm
  iexact HO

/-! ## All rounds -/

/-- What the last `n` rounds pay. -/
def oweN (c : Dev nD) : ℕ → CellTallies nD τ sig ℕ
  | 0 => 0
  | n + 1 => owe4 c (30 - n) (oweN c n)
/-- What the last `n` rounds consume. -/
def fuelN (c : Dev nD) : ℕ → sProp 𝕄
  | 0 => iprop(emp)
  | n + 1 => iprop((all4 (fun i => fuel c i (30 - n)) ∗ all4 (fun i => giftIf c i (30 - n))) ∗ fuelN c n)

/-- What the last `n` rounds pay is above level `2 (31 - n)`. -/
theorem oweN_above (c : Dev nD) (n : ℕ) (hn : n ≤ 31) : Above (2 * (31 - n)) (oweN c n) := by
  induction n with
  | zero => exact Above.zero _
  | succ n ih =>
    have e : ∀ i, Above (2 * (31 - (n + 1))) (owe c i (30 - n)) := fun i => (owe_above c i (30 - n) (by omega)).mono (by omega)
    exact (((((ih (by omega)).mono (by omega)).add (e 3)).add (e 2)).add (e 1)).add (e 0)

/-- The last `n` rounds, one after the other. -/
theorem run_rounds (c : Dev nD) (n : ℕ) (hn : n ≤ 31) (k : Pg F) (Q : PUnit → sProp 𝕄) :
    iprop(Ctx X Wt K κ ∗ links c ∗ stAt X Wt c (31 - n) ∗ fuelN c n ∗ due c (oweN c n))
      ⊢ iprop(((stAt X Wt c 31 ∗ due c 0) -∗ run c k Q) -∗ run c (rounds A₀ (nx c) (pv c) n hn k) Q) := by
  induction n with
  | zero =>
    unfold rounds
    iintro ⟨-, -, Hs, -, HO⟩ Hk
    iapply Hk
    isplitl [Hs]; · iexact Hs
    iexact HO
  | succ n ih =>
    have e1 : 31 - (n + 1) = 30 - n := by omega
    have e2 : 30 - n + 1 = 31 - n := by omega
    rw [e1]
    unfold rounds fuelN oweN
    iintro ⟨#HC, #Hl, Hs, ⟨⟨Hf, Hg⟩, Hr⟩, HO⟩ Hk
    iapply (run_round X Wt K κ c (30 - n) (by omega) _ (oweN c n) ((oweN_above c n (by omega)).mono (by omega))) $$ [Hs Hf Hg HO]
    · isplitr; · iexact HC
      isplitr; · iexact Hl
      isplitl [Hs]; · iexact Hs
      isplitl [Hf]; · iexact Hf
      isplitl [Hg]; · iexact Hg
      iexact HO
    iintro ⟨Hs, HO⟩
    iapply (ih _) $$ [Hs Hr HO]
    · isplitr; · iexact HC
      isplitr; · iexact Hl
      isplitl [Hs]; · rw [← e2]; iexact Hs
      isplitl [Hr]; · iexact Hr
      iexact HO
    iexact Hk

/-- What all rounds pay is above level 1, the barrier's. -/
theorem oweN_above_one (c : Dev nD) : Above 1 (oweN c 31) := by
  have e : ∀ i, Above 1 (owe c i 0) := fun i => by
    unfold owe giveOwe
    rw [if_neg (show ¬ Gives 0 by decide), add_zero]
    exact (sendOwe_above c i 0 (by decide)).mono (by decide)
  exact ((((((oweN_above c 30 (by decide)).mono (by decide))).add (e 3)).add (e 2)).add (e 1)).add (e 0)

/-! ## Before the rounds -/

/-- The multiplications before the first round: slot 0 of each channel holds the first partial sum. -/
theorem run_before (c : Dev nD) (k : Pg F) (Q : PUnit → sProp 𝕄) :
    iprop(ins X Wt c ∗ made X Wt c (fun _ => False) ∗ all4 (fun i => slotAny c 0 i))
      ⊢ iprop(((ins X Wt c ∗ made X Wt c (doneAt 0) ∗ all4 (fun i => slotAt c 0 i (acc X Wt 0 c i))) -∗ run c k Q) -∗ run c (before A₀ k) Q) := by
  unfold before all4
  iintro ⟨Hi, Hm, S0, S1, S2, S3⟩ Hk
  iapply (run_dot X Wt c 0 (fun _ => False) (fun j => j = 0) (fun _ h => .inl h)) $$ [Hi Hm]
  · isplitl [Hi]; · iexact Hi
    iexact Hm
  iintro ⟨Hi, Hm⟩
  iapply (run_dot X Wt c 30 (fun j => j = 0) (fun j => j = 30 ∨ j = 0) (fun _ h => h)) $$ [Hi Hm]
  · isplitl [Hi]; · iexact Hi
    iexact Hm
  iintro ⟨Hi, Hm⟩
  iapply (run_first X Wt c 0 (fun j => j = 30 ∨ j = 0) (Or.inr (by decide))) $$ [Hm S0]
  · isplitl [Hm]; · iexact Hm
    iexact S0
  iintro ⟨Hm, S0⟩
  iapply (run_first X Wt c 1 (fun j => j = 30 ∨ j = 0) (Or.inr (by decide))) $$ [Hm S1]
  · isplitl [Hm]; · iexact Hm
    iexact S1
  iintro ⟨Hm, S1⟩
  iapply (run_first X Wt c 2 (fun j => j = 30 ∨ j = 0) (Or.inl (by decide))) $$ [Hm S2]
  · isplitl [Hm]; · iexact Hm
    iexact S2
  iintro ⟨Hm, S2⟩
  iapply (run_first X Wt c 3 (fun j => j = 30 ∨ j = 0) (Or.inl (by decide))) $$ [Hm S3]
  · isplitl [Hm]; · iexact Hm
    iexact S3
  iintro ⟨Hm, S3⟩
  iapply (run_dot X Wt c 1 (fun j => j = 30 ∨ j = 0) (fun j => j = 1 ∨ j = 30 ∨ j = 0) (fun _ h => h)) $$ [Hi Hm]
  · isplitl [Hi]; · iexact Hi
    iexact Hm
  iintro ⟨Hi, Hm⟩
  iapply (run_dot X Wt c 29 (fun j => j = 1 ∨ j = 30 ∨ j = 0) (fun j => j = 29 ∨ j = 1 ∨ j = 30 ∨ j = 0) (fun _ h => h)) $$ [Hi Hm]
  · isplitl [Hi]; · iexact Hi
    iexact Hm
  iintro ⟨Hi, Hm⟩
  iapply (run_dot X Wt c 31 (fun j => j = 29 ∨ j = 1 ∨ j = 30 ∨ j = 0) (doneAt 0) (fun j h => by
    unfold doneAt at h
    simp only [Fin.ext_iff] at *
    rcases h with h | h
    · rcases (by omega : j.val = 0 ∨ j.val = 1) with e | e
      · right; right; right; right; exact e
      · right; right; left; exact e
    · rcases (by omega : j.val = 29 ∨ j.val = 30 ∨ j.val = 31) with e | e | e
      · right; left; exact e
      · right; right; right; left; exact e
      · left; exact e)) $$ [Hi Hm]
  · isplitl [Hi]; · iexact Hi
    iexact Hm
  iintro ⟨Hi, Hm⟩
  iapply Hk
  isplitl [Hi]; · iexact Hi
  isplitl [Hm]; · iexact Hm
  isplitl [S0]; · iexact S0
  isplitl [S1]; · iexact S1
  isplitl [S2]; · iexact S2
  iexact S3

/-! ## After the rounds -/

/-- A channel at the end: every position past its last round, every slot back. -/
def endCh (c : Dev nD) (i : Fin 4) : sProp 𝕄 :=
  iprop((seatsS c i 31 ∗ seatsR c i 31) ∗ slotAny c 0 i ∗ slotAny c 1 i ∗ slotAny c 2 i ∗ slotAny c 3 i)

/-- At the end the slots left over on a channel are 0 and 1. -/
theorem left_end (c : Dev nD) (i : Fin 4) : (left c i 31 : sProp 𝕄) ⊢ iprop(slotAny c 0 i ∗ slotAny c 1 i) := by
  unfold left
  rw [bigSep_Ico_succ_bot (by decide), bigSep_Ico_succ_bot (by decide), Finset.Ico_eq_empty_of_le (by decide), bigSep_empty]
  show iprop(slotAny c 0 i ∗ slotAny c 1 i ∗ emp) ⊢ _
  iintro ⟨Ha, Hb, -⟩
  isplitl [Ha]; · iexact Ha
  iexact Hb

/-- The end of channel `i`: its last arrival is awaited and column block `i` of the result written. -/
theorem run_finish (c : Dev nD) (i : Fin 4) (k : Pg F) (Q : PUnit → sProp 𝕄) :
    iprop(Ctx X Wt K κ ∗ chan X Wt c i 31 ∗ made X Wt c (doneAt 31) ∗ wrote X Wt c i.val ∗ due c 0)
      ⊢ iprop(((endCh c i ∗ made X Wt c (doneAt 31) ∗ wrote X Wt c (i.val + 1) ∗ due c 0) -∗ run c k Q) -∗ run c (finish A₀ i k) Q) := by
  rw [finish_eq, show (31 : ℕ) = 30 + 1 from rfl, chan_succ]
  unfold pend endCh
  iintro ⟨#HC, ⟨HS, HR, ⟨HcS, HcR⟩, Hl⟩, Hm, Hw, HO⟩ Hk
  iapply (run_await X Wt K κ c 30 (by decide) i 0 (Above.zero _)) $$ [HS HR HcS HcR HO]
  · isplitr; · iexact HC
    isplitl [HS]; · iexact HS
    isplitl [HR]; · iexact HR
    isplitl [HcS]; · iexact HcS
    isplitl [HcR]; · iexact HcR
    iexact HO
  iintro ⟨HS, HR, S2, S3, HO⟩
  iapply (run_finishAt X Wt c i (doneAt (30 + 1)) (doneAt_last 31)) $$ [Hm S3 Hw]
  · isplitl [Hm]; · iexact Hm
    isplitl [S3]; · iexact S3
    iexact Hw
  iintro ⟨Hm, S3, Hw⟩
  ihave Hl := (left_end c i) $$ Hl
  icases Hl with ⟨S0, S1⟩
  iapply Hk
  isplitl [HS HR S0 S1 S2 S3]
  · isplitl [HS HR]
    · isplitl [HS]; · iexact HS
      iexact HR
    isplitl [S0]; · iexact S0
    isplitl [S1]; · iexact S1
    isplitl [S2]; · iexact S2
    iexact S3
  isplitl [Hm]; · iexact Hm
  isplitl [Hw]; · iexact Hw
  iexact HO

/-- A program that has ended leaves what it ends with. -/
theorem run_ret (c : Dev nD) (Q : PUnit → sProp 𝕄) : iprop(|={Set.univ}=> Q ⟨⟩) ⊢ run c (.ret ⟨⟩) Q := by
  unfold run
  rw [wp_ret]

/-- After the rounds: the four channels end one after the other, and the result is written. -/
theorem run_after (c : Dev nD) (Q : PUnit → sProp 𝕄) :
    iprop(Ctx X Wt K κ ∗ all4 (fun i => chan X Wt c i 31) ∗ made X Wt c (doneAt 31) ∗ wrote X Wt c 0 ∗ due c 0)
      ⊢ iprop(((all4 (fun i => endCh c i) ∗ made X Wt c (doneAt 31) ∗ wrote X Wt c 4 ∗ due c 0) -∗ |={Set.univ}=> Q ⟨⟩) -∗ run c (after A₀) Q) := by
  unfold after all4
  iintro ⟨#HC, ⟨C0, C1, C2, C3⟩, Hm, Hw, HO⟩ Hk
  iapply (run_finish X Wt K κ c 0) $$ [C0 Hm Hw HO]
  · isplitr; · iexact HC
    isplitl [C0]; · iexact C0
    isplitl [Hm]; · iexact Hm
    isplitl [Hw]; · iexact Hw
    iexact HO
  iintro ⟨C0, Hm, Hw, HO⟩
  iapply (run_finish X Wt K κ c 1) $$ [C1 Hm Hw HO]
  · isplitr; · iexact HC
    isplitl [C1]; · iexact C1
    isplitl [Hm]; · iexact Hm
    isplitl [Hw]; · iexact Hw
    iexact HO
  iintro ⟨C1, Hm, Hw, HO⟩
  iapply (run_finish X Wt K κ c 2) $$ [C2 Hm Hw HO]
  · isplitr; · iexact HC
    isplitl [C2]; · iexact C2
    isplitl [Hm]; · iexact Hm
    isplitl [Hw]; · iexact Hw
    iexact HO
  iintro ⟨C2, Hm, Hw, HO⟩
  iapply (run_finish X Wt K κ c 3) $$ [C3 Hm Hw HO]
  · isplitr; · iexact HC
    isplitl [C3]; · iexact C3
    isplitl [Hm]; · iexact Hm
    isplitl [Hw]; · iexact Hw
    iexact HO
  iintro ⟨C3, Hm, Hw, HO⟩
  iapply (run_ret c Q)
  iapply Hk
  isplitl [C0 C1 C2 C3]
  · isplitl [C0]; · iexact C0
    isplitl [C1]; · iexact C1
    isplitl [C2]; · iexact C2
    iexact C3
  isplitl [Hm]; · iexact Hm
  isplitl [Hw]; · iexact Hw
  iexact HO

end Cert.KernelIdeal.Ring

end
-- ==== Proof.Body.lean ====
/-
  The BODY on one device, from its sixteen-slot buffer, its counters and what the launch deals, to the written result,
  the slots, and every counter back at zero.
-/
module

public import proofs.«01_k».proof.Proof.Steps
public import Idealize.ShloMosaic.Lib.Ring

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S4096x128.Idx → Elt F .f32) (Wt : Dev nD → S128x2048.Idx → Elt F .f32)
variable (K : GSem nD τ sig → ℕ) (κ : Key → ℕ)

/-! ## The neighbours' words -/

/-- A device number passes the body's check of the first neighbour's word. -/
theorem chk1_word (q : Fin 32) : k0_chk1 (BitVec.ofNat 32 q.val) := by revert q; decide
/-- A device number passes the body's check of the second neighbour's word. -/
theorem chk2_word (q : Fin 32) : k0_chk2 (BitVec.ofNat 32 q.val) := by revert q; decide
/-- The first neighbour's word names the device it encodes. -/
theorem dev1_word (q : Fin 32) : k0_dev1 (BitVec.ofNat 32 q.val) = q.val := by revert q; decide
/-- The second neighbour's word names the device it encodes. -/
theorem dev2_word (q : Fin 32) : k0_dev2 (BitVec.ofNat 32 q.val) = q.val := by revert q; decide

/-! ## Sixteen slots -/

/-- A family over the four channels is its four members side by side. -/
theorem all4_eq (Φ : Fin 4 → sProp 𝕄) : bigSep Finset.univ Φ = all4 Φ := by
  unfold all4
  rw [show (Finset.univ : Finset (Fin 4)) = {0, 1, 2, 3} from by decide, bigSep_insert (by decide), bigSep_insert (by decide), bigSep_insert (by decide), bigSep_singleton]
  rfl

/-- The elements of a slot. -/
def slotI (b : Fin 4 × Fin 4) : Finset S4x4x128x512.Idx := (slotM A₀ b.2 b.1).view.set

/-- An index of the transfer buffer lies in slot `b.2` of channel `b.1` exactly when its first two coordinates are these. -/
theorem mem_slotI (b : Fin 4 × Fin 4) (z : S4x4x128x512.Idx) : z ∈ slotI b ↔ (z 0).val = b.2.val ∧ (z 1).val = b.1.val := by
  unfold slotI
  rw [slot_set]
  constructor
  · intro h
    obtain ⟨k, -, hk⟩ := Finset.mem_map.mp h
    have e0 : b.2.val + 1 * (k 0).val = (z 0).val := congrArg Fin.val (congrFun hk (0 : Fin 4))
    have e1 : b.1.val + 1 * (k 1).val = (z 1).val := congrArg Fin.val (congrFun hk (1 : Fin 4))
    have h0 : (k 0).val < 1 := (k 0).isLt
    have h1 : (k 1).val < 1 := (k 1).isLt
    omega
  · rintro ⟨h0, h1⟩
    have hk : ∀ a : Fin 4, (if a.val < 2 then 0 else (z a).val) < S1x1x128x512.size a := fun a => by
      have hz := (z a).isLt
      revert hz
      fin_cases a <;> intro hz
      · exact Nat.one_pos
      · exact Nat.one_pos
      · exact hz
      · exact hz
    refine Finset.mem_map.mpr ⟨fun a => ⟨if a.val < 2 then 0 else (z a).val, hk a⟩, Finset.mem_univ _, ?_⟩
    funext a
    apply Fin.ext
    show (![b.2.val, b.1.val, 0, 0] : Fin 4 → ℕ) a + 1 * (if a.val < 2 then 0 else (z a).val) = (z a).val
    revert a
    intro (a : Fin 4)
    fin_cases a
    · exact h0.symm
    · exact h1.symm
    · show 0 + 1 * (z 2).val = (z 2).val; omega
    · show 0 + 1 * (z 3).val = (z 3).val; omega

/-- Different slots share no index. -/
theorem slotI_disjoint (b b' : Fin 4 × Fin 4) (h : b ≠ b') : Disjoint (slotI b) (slotI b') := by
  rw [Finset.disjoint_left]
  intro z hz hz'
  rw [mem_slotI] at hz hz'
  exact h (Prod.ext (Fin.ext (hz.2.symm.trans hz'.2)) (Fin.ext (hz.1.symm.trans hz'.1)))

/-- The slots cover the transfer buffer. -/
theorem slotI_cover : Finset.univ.biUnion slotI = (Finset.univ : Finset S4x4x128x512.Idx) := by
  ext z
  simp only [Finset.mem_biUnion, Finset.mem_univ, true_and, iff_true]
  exact ⟨(z 1, z 0), (mem_slotI _ z).mpr ⟨rfl, rfl⟩⟩

/-- The slots of a channel. -/
def chanSlots (c : Dev nD) (i : Fin 4) : sProp 𝕄 := iprop(slotAny c 0 i ∗ slotAny c 1 i ∗ slotAny c 2 i ∗ slotAny c 3 i)

/-- All slots of a device are the slots of its four channels. -/
theorem slots_eq (c : Dev nD) :
    bigSep Finset.univ (fun b : Fin 4 × Fin 4 => (slotAny c b.2 b.1 : sProp 𝕄)) = all4 (chanSlots c) := by
  rw [bigSep_univ_prod, all4_eq]
  have e : ∀ i : Fin 4, bigSep Finset.univ (fun t : Fin 4 => (slotAny c t i : sProp 𝕄)) = chanSlots c i := fun i => all4_eq _
  unfold all4
  simp only [e]

/-- The transfer buffer, held whole, is its slots at some contents. -/
theorem slots_split (c : Dev nD) (f : cc0_scratch0.ty.Contents (Elt F)) : pt c cc0_scratch0 f ⊢ (all4 (chanSlots c) : sProp 𝕄) := by
  rw [← slots_eq]
  refine (Entails.of_eq (Idealize.ShloMosaic.Ring.pointsTo_blocks (ℓ := (Memref.whole cc0_scratch0).view.loc (c : Thread nD τ)) slotI slotI_disjoint slotI_cover f)).trans (bigSep_mono fun b _ => ?_)
  have h : ((Memref.whole cc0_scratch0).view.loc (c : Thread nD τ) ↦[slotI b]{fullShare} f : sProp 𝕄) ⊢ slotAny c b.2 b.1 := by
    unfold slotAny Release.slot
    iintro H; iexists f; iexact H
  exact h

/-- The slots of a device together are the transfer buffer at some contents. -/
theorem slots_join (c : Dev nD) (f₀ : cc0_scratch0.ty.Contents (Elt F)) : all4 (chanSlots c) ⊢ (iprop(∃ f, pt c cc0_scratch0 f) : sProp 𝕄) := by
  rw [← slots_eq]
  exact Idealize.ShloMosaic.Ring.pointsTo_blocks_join_exists (ℓ := (Memref.whole cc0_scratch0).view.loc (c : Thread nD τ)) slotI slotI_disjoint slotI_cover f₀

/-! ## Opening and closing -/

/-- The rights to open a channel's transfer semaphores. -/
def openS (c : Dev nD) (i : Fin 4) : sProp 𝕄 := bigSep Finset.univ fun t : Fin 4 => openTok ER (sndCell c t i)
/-- The rights to open a channel's arrival semaphores. -/
def openR (c : Dev nD) (i : Fin 4) : sProp 𝕄 := bigSep Finset.univ fun t : Fin 4 => openTok ER (rcvCell c t i)
/-- Their counters at zero. -/
def zeroS (c : Dev nD) (i : Fin 4) : sProp 𝕄 := bigSep Finset.univ fun t : Fin 4 => semVal (sndCell c t i) 0
/-- A channel's arrival counters at zero. -/
def zeroR (c : Dev nD) (i : Fin 4) : sProp 𝕄 := bigSep Finset.univ fun t : Fin 4 => semVal (rcvCell c t i) 0

/-- A persistent fact, with an update of every member of a family. -/
theorem each_fupd {I : Type} [DecidableEq I] (S : Finset I) (P : sProp 𝕄) [BI.Persistent P] (Φ Ψ : I → sProp 𝕄)
    (h : ∀ i ∈ S, iprop(P ∗ Φ i) ⊢ |={Set.univ}=> Ψ i) : iprop(P ∗ bigSep S Φ) ⊢ |={Set.univ}=> bigSep S Ψ := by
  have h1 : iprop(P ∗ bigSep S Φ) ⊢ bigSep S fun i => iprop(P ∗ Φ i) := by
    rw [bigSep_sep']
    iintro ⟨#HP, H⟩
    isplitr
    · iapply (bigSep_of_persistent S P); iexact HP
    iexact H
  exact h1.trans ((bigSep_mono h).trans (bigSep_fupd S Ψ))

/-- A semaphore of the protocol, at zero and not yet opened, becomes a position at round 0. -/
theorem open_cell (c : Dev nD) (sm : SemLoc sig) (h : role sm ≠ .other) :
    iprop(Ctx X Wt K κ ∗ openTok ER ((c : Thread nD τ), sm) ∗ semVal ((c : Thread nD τ), sm) 0)
      ⊢ (|={Set.univ}=> seat ((c : Thread nD τ), sm) 0 : sProp 𝕄) := by
  unfold seat
  iintro ⟨#HC, Ho, Hv⟩
  iapply (Rounds.cell_open ER (Rd X Wt) (g := ((c : Thread nD τ), sm)) (Set.mem_univ (K ((c : Thread nD τ), sm))))
  isplitr; · iapply (Ctx_cell X Wt K κ c sm h); iexact HC
  isplitl [Ho]; · iexact Ho
  iexact Hv

/-- A position from which no round has any duty left gives the semaphore back at zero. -/
theorem close_cell (c : Dev nD) (sm : SemLoc sig) (h : role sm ≠ .other) (R : ℕ) (hR : ∀ r, R ≤ r → dutiesOf (role sm) r = ∅) :
    iprop(Ctx X Wt K κ ∗ atPos ER ((c : Thread nD τ), sm) R ∅ 0) ⊢ (|={Set.univ}=> semVal ((c : Thread nD τ), sm) 0 : sProp 𝕄) := by
  iintro ⟨#HC, Ha⟩
  iapply (Rounds.cell_close ER (Rd X Wt) (g := ((c : Thread nD τ), sm)) (Set.mem_univ (K ((c : Thread nD τ), sm))) id
    (fun r hr => (duties_eq X Wt c sm r).trans (hR r hr)))
  isplitr; · iapply (Ctx_cell X Wt K κ c sm h); iexact HC
  iexact Ha

/-- A channel's send semaphores are opened. -/
theorem open_S (c : Dev nD) (i : Fin 4) : iprop(Ctx X Wt K κ ∗ openS c i ∗ zeroS c i) ⊢ (|={Set.univ}=> seatsS c i 0 : sProp 𝕄) := by
  unfold openS zeroS seatsS
  rw [← bigSep_sep']
  exact each_fupd _ _ _ _ fun t _ => by
    rw [show cnt t 0 = 0 by unfold cnt; omega]
    exact open_cell X Wt K κ c _ (by rw [role_snd]; nofun)
/-- A channel's arrival semaphores are opened. -/
theorem open_R (c : Dev nD) (i : Fin 4) : iprop(Ctx X Wt K κ ∗ openR c i ∗ zeroR c i) ⊢ (|={Set.univ}=> seatsR c i 0 : sProp 𝕄) := by
  unfold openR zeroR seatsR
  rw [← bigSep_sep']
  exact each_fupd _ _ _ _ fun t _ => by
    rw [show cnt (before' t) 0 = 0 by unfold cnt before'; dsimp only; omega]
    exact open_cell X Wt K κ c _ (by rw [role_rcv]; nofun)

/-- After 31 steps a channel's send semaphores are back at zero. -/
theorem close_S (c : Dev nD) (i : Fin 4) : iprop(Ctx X Wt K κ ∗ seatsS c i 31) ⊢ (|={Set.univ}=> zeroS c i : sProp 𝕄) := by
  unfold zeroS seatsS
  exact each_fupd _ _ _ _ fun t _ => by
    unfold seat
    iintro ⟨#HC, Ha, -⟩
    iapply (close_cell X Wt K κ c (.dma (semAt A₀.snd t i)) (by rw [role_snd]; nofun) (cnt t 31) (fun r hr => by
      rw [role_snd]; unfold cnt at hr; exact if_neg (by have := t.isLt; omega)))
    isplitr; · iexact HC
    iexact Ha
/-- After 31 steps a channel's arrival semaphores are back at zero. -/
theorem close_R (c : Dev nD) (i : Fin 4) : iprop(Ctx X Wt K κ ∗ seatsR c i 31) ⊢ (|={Set.univ}=> zeroR c i : sProp 𝕄) := by
  unfold zeroR seatsR
  exact each_fupd _ _ _ _ fun t _ => by
    unfold seat
    iintro ⟨#HC, Ha, -⟩
    iapply (close_cell X Wt K κ c (.dma (semAt A₀.rcv t i)) (by rw [role_rcv]; nofun) (cnt (before' t) 31) (fun r hr => by
      rw [role_rcv]; unfold cnt before' at hr; dsimp only at hr; exact if_neg (by unfold rcvStep; have := t.isLt; omega)))
    isplitr; · iexact HC
    iexact Ha

/-- At the start no credit is taken. -/
theorem taken_zero (c : Dev nD) (b : Bool) : atPos ER (crCell c b) 0 ∅ 0 ⊢ (taken c b 0 : sProp 𝕄) := by
  unfold taken
  iintro H
  iexists (∅ : Finset ℕ)
  isplitr
  · ipureintro
    exact ⟨Finset.empty_subset _, by rw [Finset.sdiff_empty, Finset.card_range]⟩
  isplitl [H]; · iexact H
  rw [bigSep_empty]; iempintro

/-- At the start no credit is given. -/
theorem given_zero (c : Dev nD) (b : Bool) : iprop(emp) ⊢ (given c b 0 : sProp 𝕄) := by
  unfold given
  rw [Finset.range_zero, bigSep_empty]
  exact BI.Entails.refl _

/-- With all 56 credits taken, the credit semaphore is back at zero. -/
theorem close_cr (c : Dev nD) (b : Bool) : iprop(Ctx X Wt K κ ∗ taken c b 56) ⊢ (|={Set.univ}=> semVal (crCell c b) 0 : sProp 𝕄) := by
  unfold taken
  iintro ⟨#HC, ⟨%T, %hT, Ha, -⟩⟩
  have hsub : Finset.range 56 ⊆ T := by
    rw [← Finset.sdiff_eq_empty_iff_subset, ← Finset.card_eq_zero]; omega
  imod (Rounds.fupd_skip ER (Rd X Wt) (g := crCell c b) (R := 0) (m := 56) (T := T) (by rw [duties_cr]; exact hsub) (expect_cr X Wt c b).symm
    (Set.mem_univ (K (crCell c b)))) $$ [Ha] with ⟨Ha, -⟩
  · isplitr; · iapply (Ctx_cell X Wt K κ c _ (by rw [role_cr]; nofun)); iexact HC
    iexact Ha
  iapply (close_cell X Wt K κ c (.reg (crA b).sem) (by rw [role_cr]; nofun) 1 (fun r hr => by
    rw [role_cr]; exact if_neg (by omega)))
  isplitr; · iexact HC
  iexact Ha

/-- After its one round, the barrier is back at zero. -/
theorem close_bar (c : Dev nD) : iprop(Ctx X Wt K κ ∗ atPos ER (barCell c) 1 ∅ 0) ⊢ (|={Set.univ}=> semVal (barCell c) 0 : sProp 𝕄) :=
  close_cell X Wt K κ c (.reg barS) (by rw [role_bar]; nofun) 1 (fun r hr => by rw [role_bar]; exact if_neg (by omega))

/-! ## The gifts -/

/-- A channel's slots but the first are its gifts, its arrival semaphores open. -/
theorem gifts_intro (c : Dev nD) (i : Fin 4) :
    iprop(chanSlots c i ∗ seatsR c i 0) ⊢ (iprop((slotAny c 0 i ∗ seatsR c i 0) ∗ gifts c i) : sProp 𝕄) := by
  unfold chanSlots seatsR gifts gift seat
  rw [all4_eq, show (Finset.range 3) = {0, 1, 2} from rfl, bigSep_insert (by decide), bigSep_insert (by decide), bigSep_singleton]
  show iprop((slotAny c 0 i ∗ slotAny c 1 i ∗ slotAny c 2 i ∗ slotAny c 3 i)
      ∗ ((atPos ER (rcvCell c 0 i) 0 ∅ 0 ∗ reached ER (rcvCell c 0 i) 0) ∗ (atPos ER (rcvCell c 1 i) 0 ∅ 0 ∗ reached ER (rcvCell c 1 i) 0)
        ∗ (atPos ER (rcvCell c 2 i) 0 ∅ 0 ∗ reached ER (rcvCell c 2 i) 0) ∗ (atPos ER (rcvCell c 3 i) 0 ∅ 0 ∗ reached ER (rcvCell c 3 i) 0)))
    ⊢ iprop((slotAny c 0 i
      ∗ ((atPos ER (rcvCell c 0 i) 0 ∅ 0 ∗ reached ER (rcvCell c 0 i) 0) ∗ (atPos ER (rcvCell c 1 i) 0 ∅ 0 ∗ reached ER (rcvCell c 1 i) 0)
        ∗ (atPos ER (rcvCell c 2 i) 0 ∅ 0 ∗ reached ER (rcvCell c 2 i) 0) ∗ (atPos ER (rcvCell c 3 i) 0 ∅ 0 ∗ reached ER (rcvCell c 3 i) 0)))
      ∗ (slotAny c 1 i ∗ reached ER (rcvCell c 1 i) 0) ∗ (slotAny c 2 i ∗ reached ER (rcvCell c 2 i) 0) ∗ (slotAny c 3 i ∗ reached ER (rcvCell c 3 i) 0))
  iintro ⟨⟨S0, S1, S2, S3⟩, ⟨A0, #R0⟩, ⟨A1, #R1⟩, ⟨A2, #R2⟩, ⟨A3, #R3⟩⟩
  isplitl [S0 A0 A1 A2 A3]
  · isplitl [S0]; · iexact S0
    isplitl [A0]; · isplitl [A0]; · iexact A0
                    iexact R0
    isplitl [A1]; · isplitl [A1]; · iexact A1
                    iexact R1
    isplitl [A2]; · isplitl [A2]; · iexact A2
                    iexact R2
    isplitl [A3]; · iexact A3
    iexact R3
  isplitl [S1]; · isplitl [S1]; · iexact S1
                  iexact R1
  isplitl [S2]; · isplitl [S2]; · iexact S2
                  iexact R2
  isplitl [S3]; · iexact S3
  iexact R3

/-- The gifts are what the first three steps use. -/
theorem gifts_steps (c : Dev nD) (i : Fin 4) : gifts (dn c i) i ⊢ (bigSep (Finset.range 31) (giftIf c i) : sProp 𝕄) := by
  have e1 : bigSep (Finset.range 3) (giftIf c i) = (bigSep (Finset.range 3) (gift (dn c i) i) : sProp 𝕄) :=
    bigSep_congr fun s hs => if_pos (Finset.mem_range.mp hs)
  have e2 : bigSep (Finset.range 31 \ Finset.range 3) (giftIf c i) = (iprop(emp) : sProp 𝕄) :=
    (bigSep_congr fun s hs => if_neg fun h => (Finset.mem_sdiff.mp hs).2 (Finset.mem_range.mpr h)).trans (bigSep_emp_const _)
  have e3 : bigSep (Finset.range 31) (giftIf c i) = (iprop(gifts (dn c i) i ∗ emp) : sProp 𝕄) := by
    rw [bigSep_sdiff_split (Finset.range_subset_range.mpr (by decide : 3 ≤ 31)), e1, e2]; rfl
  rw [e3]
  iintro H
  isplitl [H]; · iexact H
  iempintro

/-- What a channel uses in its steps. -/
def fuelC (c : Dev nD) (i : Fin 4) : sProp 𝕄 := bigSep (Finset.range 31) (fuel c i)

/-- What the last `n` rounds consume, gathered channel by channel, is what they consume round by round. -/
theorem fuelN_intro (c : Dev nD) (n : ℕ) (hn : n ≤ 31) :
    iprop(all4 (fun i => bigSep (Finset.Ico (31 - n) 31) (fuel c i)) ∗ all4 (fun i => bigSep (Finset.Ico (31 - n) 31) (giftIf c i)))
      ⊢ (fuelN c n : sProp 𝕄) := by
  induction n with
  | zero => unfold fuelN; iintro -; iempintro
  | succ n ih =>
    have e : 31 - (n + 1) = 30 - n := by omega
    have e' : 30 - n + 1 = 31 - n := by omega
    have h : ∀ Φ : ℕ → sProp 𝕄, bigSep (Finset.Ico (31 - (n + 1)) 31) Φ = iprop(Φ (30 - n) ∗ bigSep (Finset.Ico (31 - n) 31) Φ) := fun Φ => by
      rw [e, bigSep_Ico_succ_bot (by omega), e']
    have ih := ih (by omega)
    unfold fuelN
    unfold all4 at ih ⊢
    simp only [h]
    iintro ⟨⟨⟨F0, f0⟩, ⟨F1, f1⟩, ⟨F2, f2⟩, ⟨F3, f3⟩⟩, ⟨⟨G0, g0⟩, ⟨G1, g1⟩, ⟨G2, g2⟩, ⟨G3, g3⟩⟩⟩
    isplitl [F0 F1 F2 F3 G0 G1 G2 G3]
    · isplitl [F0 F1 F2 F3]
      · isplitl [F0]; · iexact F0
        isplitl [F1]; · iexact F1
        isplitl [F2]; · iexact F2
        iexact F3
      isplitl [G0]; · iexact G0
      isplitl [G1]; · iexact G1
      isplitl [G2]; · iexact G2
      iexact G3
    iapply ih
    isplitl [f0 f1 f2 f3]
    · isplitl [f0]; · iexact f0
      isplitl [f1]; · iexact f1
      isplitl [f2]; · iexact f2
      iexact f3
    isplitl [g0]; · iexact g0
    isplitl [g1]; · iexact g1
    isplitl [g2]; · iexact g2
    iexact g3

/-- What the channels are dealt at launch, with the slots the neighbours hand over, is what all 31 rounds consume. -/
theorem fuel_all (c : Dev nD) :
    iprop(all4 (fuelC c) ∗ gifts (nx c) 0 ∗ gifts (nx c) 1 ∗ gifts (pv c) 2 ∗ gifts (pv c) 3) ⊢ (fuelN c 31 : sProp 𝕄) := by
  refine (show iprop(all4 (fuelC c) ∗ gifts (nx c) 0 ∗ gifts (nx c) 1 ∗ gifts (pv c) 2 ∗ gifts (pv c) 3)
    ⊢ iprop(all4 (fuelC c) ∗ all4 (fun i => bigSep (Finset.range 31) (giftIf c i))) from ?_).trans
    ((Entails.of_eq (by unfold fuelC; rw [Finset.range_eq_Ico])).trans (fuelN_intro c 31 (le_refl _)))
  unfold all4
  iintro ⟨H, G0, G1, G2, G3⟩
  isplitl [H]; · iexact H
  isplitl [G0]; · iapply (gifts_steps c 0); iexact G0
  isplitl [G1]; · iapply (gifts_steps c 1); iexact G1
  isplitl [G2]; · iapply (gifts_steps c 2); iexact G2
  iapply (gifts_steps c 3); iexact G3

/-! ## The run -/

/-- What the handshake uses. -/
def talkIn (c : Dev nD) : sProp 𝕄 :=
  iprop(dutyTok ER (barCell (nx c)) 0 1 ∗ dutyTok ER (barCell (pv c)) 0 0 ∗ reached ER (barCell (nx c)) 0 ∗ reached ER (barCell (pv c)) 0
    ∗ atPos ER (barCell c) 0 ∅ 0 ∗ cred (tallyAt (barCell c) 0 2))
/-- All a device owes at the start. -/
def owed₀ (c : Dev nD) : CellTallies nD τ sig ℕ := (oweN c 31 + tallyAt (barCell (pv c)) 0 1) + tallyAt (barCell (nx c)) 0 1
/-- The counters of the transfers and credits at zero. -/
def zeros (c : Dev nD) : sProp 𝕄 := iprop(all4 (zeroS c) ∗ all4 (zeroR c) ∗ semVal (crCell c false) 0 ∗ semVal (crCell c true) 0)
/-- The same open. -/
def seats (c : Dev nD) : sProp 𝕄 :=
  iprop(all4 (fun i => seatsS c i 0) ∗ all4 (fun i => seatsR c i 0) ∗ seat (crCell c false) 0 ∗ seat (crCell c true) 0)
/-- The rights to open them. -/
def opens (c : Dev nD) : sProp 𝕄 := iprop(all4 (openS c) ∗ all4 (openR c) ∗ openTok ER (crCell c false) ∗ openTok ER (crCell c true))

/-- All transfer and credit semaphores of a device are opened. -/
theorem open_all (c : Dev nD) : iprop(Ctx X Wt K κ ∗ opens c ∗ zeros c) ⊢ (|={Set.univ}=> seats c : sProp 𝕄) := by
  unfold opens zeros seats
  rw [← all4_eq, ← all4_eq, ← all4_eq, ← all4_eq, ← all4_eq, ← all4_eq]
  iintro ⟨#HC, ⟨HoS, HoR, Hof, Hob⟩, HzS, HzR, Hzf, Hzb⟩
  imod (each_fupd Finset.univ (Ctx X Wt K κ) (fun i => iprop(openS c i ∗ zeroS c i)) _ fun i _ => open_S X Wt K κ c i) $$ [HoS HzS] with HS
  · isplitr; · iexact HC
    rw [bigSep_sep']
    isplitl [HoS]; · iexact HoS
    iexact HzS
  imod (each_fupd Finset.univ (Ctx X Wt K κ) (fun i => iprop(openR c i ∗ zeroR c i)) _ fun i _ => open_R X Wt K κ c i) $$ [HoR HzR] with HR
  · isplitr; · iexact HC
    rw [bigSep_sep']
    isplitl [HoR]; · iexact HoR
    iexact HzR
  imod (open_cell X Wt K κ c _ (by rw [role_cr]; nofun : role (.reg (crA false).sem) ≠ .other)) $$ [Hof Hzf] with Hf
  · isplitr; · iexact HC
    isplitl [Hof]; · iexact Hof
    iexact Hzf
  imod (open_cell X Wt K κ c _ (by rw [role_cr]; nofun : role (.reg (crA true).sem) ≠ .other)) $$ [Hob Hzb] with Hb
  · isplitr; · iexact HC
    isplitl [Hob]; · iexact Hob
    iexact Hzb
  imodintro
  isplitl [HS]; · iexact HS
  isplitl [HR]; · iexact HR
  isplitl [Hf]; · iexact Hf
  iexact Hb

/-- Positions past the last round are closed. -/
theorem close_all (c : Dev nD) :
    iprop(Ctx X Wt K κ ∗ all4 (fun i => seatsS c i 31) ∗ all4 (fun i => seatsR c i 31) ∗ taken c false 56 ∗ taken c true 56 ∗ atPos ER (barCell c) 1 ∅ 0)
      ⊢ (|={Set.univ}=> (semVal (barCell c) 0 ∗ zeros c) : sProp 𝕄) := by
  unfold zeros
  rw [← all4_eq, ← all4_eq, ← all4_eq, ← all4_eq]
  iintro ⟨#HC, HS, HR, Hf, Hb, Ha⟩
  imod (each_fupd Finset.univ (Ctx X Wt K κ) _ _ fun i _ => close_S X Wt K κ c i) $$ [HS] with HS
  · isplitr; · iexact HC
    iexact HS
  imod (each_fupd Finset.univ (Ctx X Wt K κ) _ _ fun i _ => close_R X Wt K κ c i) $$ [HR] with HR
  · isplitr; · iexact HC
    iexact HR
  imod (close_cr X Wt K κ c false) $$ [Hf] with Hf
  · isplitr; · iexact HC
    iexact Hf
  imod (close_cr X Wt K κ c true) $$ [Hb] with Hb
  · isplitr; · iexact HC
    iexact Hb
  imod (close_bar X Wt K κ c) $$ [Ha] with Ha
  · isplitr; · iexact HC
    iexact Ha
  imodintro
  isplitl [Ha]; · iexact Ha
  isplitl [HS]; · iexact HS
  isplitl [HR]; · iexact HR
  isplitl [Hf]; · iexact Hf
  iexact Hb

/-- Of its slots a device keeps slot 0 of each channel and hands the other three to the devices upstream. -/
theorem all4_gifts (c : Dev nD) :
    iprop(all4 (chanSlots c) ∗ all4 (fun i => seatsR c i 0))
      ⊢ (iprop(all4 (fun i => slotAny c 0 i) ∗ all4 (fun i => seatsR c i 0) ∗ (gifts c 0 ∗ gifts c 1 ∗ gifts c 2 ∗ gifts c 3)) : sProp 𝕄) := by
  have h : (iprop(bigSep Finset.univ (chanSlots c) ∗ bigSep Finset.univ (fun i => seatsR c i 0)) : sProp 𝕄)
      ⊢ iprop((bigSep Finset.univ (fun i => slotAny c 0 i) ∗ bigSep Finset.univ (fun i => seatsR c i 0)) ∗ bigSep Finset.univ (fun i => gifts c i)) := by
    rw [← bigSep_sep', ← bigSep_sep', ← bigSep_sep']
    exact bigSep_mono fun i _ => gifts_intro c i
  rw [all4_eq, all4_eq, all4_eq, all4_eq] at h
  refine h.trans ?_
  unfold all4
  iintro ⟨⟨H1, H2⟩, H3⟩
  isplitl [H1]; · iexact H1
  isplitl [H2]; · iexact H2
  iexact H3

/-- The positions at round 0 and slot 0 holding the first partial sum are the channels before step 0. -/
theorem chan_start (c : Dev nD) :
    iprop(all4 (fun i => seatsS c i 0) ∗ all4 (fun i => seatsR c i 0) ∗ all4 (fun i => slotAt c 0 i (acc X Wt 0 c i)))
      ⊢ all4 (fun i => chan X Wt c i 0) := by
  simp only [← all4_eq, chan_zero]
  rw [bigSep_sep', bigSep_sep']

/-- The channels at the end are their positions past the last round and all their slots. -/
theorem chan_end (c : Dev nD) :
    all4 (fun i => endCh c i)
      ⊢ (iprop((all4 (fun i => seatsS c i 31) ∗ all4 (fun i => seatsR c i 31)) ∗ all4 (chanSlots c)) : sProp 𝕄) := by
  simp only [← all4_eq]
  rw [← bigSep_sep', ← bigSep_sep']
  exact bigSep_mono fun i _ => by unfold endCh chanSlots; exact BI.Entails.refl _

/-- The body after the neighbours are read: the handshake, all rounds and the end, whatever is computed from `X` and `Wt` on the way. -/
theorem run_main' (c : Dev nD) (Q : PUnit → sProp 𝕄) :
    iprop(Ctx X Wt K κ ∗ talkIn c ∗ seats c ∗ all4 (fuelC c) ∗ all4 (chanSlots c) ∗ ins X Wt c ∗ made X Wt c (fun _ => False) ∗ wrote X Wt c 0 ∗ due c (owed₀ c))
      ⊢ iprop(((semVal (barCell c) 0 ∗ zeros c ∗ all4 (chanSlots c) ∗ ins X Wt c ∗ made X Wt c (doneAt 31) ∗ wrote X Wt c 4 ∗ due c 0) -∗ |={Set.univ}=> Q ⟨⟩)
          -∗ run c (main' A₀ (nx c) (pv c)) Q) := by
  unfold main' talkIn seats
  unfold seat
  iintro ⟨#HC, ⟨HtN, HtP, #HrN, #HrP, HaB, HcB⟩, ⟨HS, HR, ⟨Haf, #Hrf⟩, ⟨Hab, #Hrb⟩⟩, Hfuel, Hslots, Hi, Hm, Hw, HO⟩ Hk
  ihave Hg := (all4_gifts c) $$ [Hslots HR]
  · isplitl [Hslots]; · iexact Hslots
    iexact HR
  icases Hg with ⟨Hs0, HR, Hg⟩
  iapply (run_greet X Wt K κ c (oweN c 31) (oweN_above_one c)) $$ [Hg HtN HtP HaB HcB HO]
  · isplitr; · iexact HC
    isplitl [Hg]; · iexact Hg
    isplitr; · iexact Hrb
    isplitr; · iexact Hrf
    isplitl [HtN]; · iexact HtN
    isplitl [HtP]; · iexact HtP
    isplitr; · iexact HrN
    isplitr; · iexact HrP
    isplitl [HaB]; · iexact HaB
    isplitl [HcB]; · iexact HcB
    iexact HO
  iintro ⟨G0, G1, G2, G3, #HlN, #HlP, HaB, HO⟩
  iapply (run_before X Wt c) $$ [Hi Hm Hs0]
  · isplitl [Hi]; · iexact Hi
    isplitl [Hm]; · iexact Hm
    iexact Hs0
  iintro ⟨Hi, Hm, Hs0⟩
  ihave Hfu := (fuel_all c) $$ [Hfuel G0 G1 G2 G3]
  · isplitl [Hfuel]; · iexact Hfuel
    isplitl [G0]; · iexact G0
    isplitl [G1]; · iexact G1
    isplitl [G2]; · iexact G2
    iexact G3
  ihave Hch := (chan_start X Wt c) $$ [HS HR Hs0]
  · isplitl [HS]; · iexact HS
    isplitl [HR]; · iexact HR
    iexact Hs0
  ihave Htf := (taken_zero c false) $$ Haf
  ihave Htb := (taken_zero c true) $$ Hab
  iapply (run_rounds X Wt K κ c 31 (le_refl _)) $$ [Hch Htf Htb Hi Hm Hfu HO]
  · isplitr; · iexact HC
    isplitr
    · unfold links
      isplitr; · iexact HlP
      iexact HlN
    isplitl [Hch Htf Htb Hi Hm]
    · unfold stAt dirAt
      isplitl [Hch]; · iexact Hch
      isplitl [Htf]
      · isplitr; · iapply (given_zero c false); iempintro
        iexact Htf
      isplitl [Htb]
      · isplitr; · iapply (given_zero c true); iempintro
        iexact Htb
      isplitl [Hi]; · iexact Hi
      iexact Hm
    isplitl [Hfu]; · iexact Hfu
    iexact HO
  unfold stAt dirAt
  iintro ⟨⟨Hch, ⟨-, Htf⟩, ⟨-, Htb⟩, Hi, Hm⟩, HO⟩
  iapply (run_after X Wt K κ c Q) $$ [Hch Hm Hw HO]
  · isplitr; · iexact HC
    isplitl [Hch]; · iexact Hch
    isplitl [Hm]; · iexact Hm
    isplitl [Hw]; · iexact Hw
    iexact HO
  iintro ⟨He, Hm, Hw, HO⟩
  ihave He := (chan_end c) $$ He
  icases He with ⟨⟨HS, HR⟩, Hslots⟩
  imod (close_all X Wt K κ c) $$ [HS HR Htf Htb HaB] with ⟨Hz, Hzs⟩
  · isplitr; · iexact HC
    isplitl [HS]; · iexact HS
    isplitl [HR]; · iexact HR
    isplitl [Htf]; · iexact Htf
    isplitl [Htb]; · iexact Htb
    iexact HaB
  iapply Hk
  isplitl [Hz]; · iexact Hz
  isplitl [Hzs]; · iexact Hzs
  isplitl [Hslots]; · iexact Hslots
  isplitl [Hi]; · iexact Hi
  isplitl [Hm]; · iexact Hm
  isplitl [Hw]; · iexact Hw
  iexact HO

/-- The neighbours' words, as the body reads them. -/
theorem nb_read (c : Dev nD) (o : Fin 2) (h : ∀ a, ((![o.val] : Fin 1 → ℕ) a) + S1.size a ≤ S2.size a) :
    (A₀.nb.access (Rect.unit (s := S2) ![o.val] S1.size h)).read (Elt F) (nbW c) (Shape.Idx.first (numel1_S1.symm ▸ Nat.one_pos))
      = BitVec.ofNat 32 (if o.val = 0 then (nx c).val else (pv c).val) := by
  show BitVec.ofNat 32 (if ((Rect.unit (s := S2) ![o.val] S1.size h).emb (Shape.Idx.first _) (0 : Fin 1)).val = 0 then (nx c).val else (pv c).val) = _
  have hl : ((Shape.Idx.first (s := (Rect.unit (s := S2) ![o.val] S1.size h).shape) (numel1_S1.symm ▸ Nat.one_pos)) (0 : Fin 1)).val < 1 := Fin.isLt _
  have e : ((Rect.unit (s := S2) ![o.val] S1.size h).emb (Shape.Idx.first (numel1_S1.symm ▸ Nat.one_pos)) (0 : Fin 1)).val = o.val := by
    show o.val + 1 * ((Shape.Idx.first (s := (Rect.unit (s := S2) ![o.val] S1.size h).shape) (numel1_S1.symm ▸ Nat.one_pos)) (0 : Fin 1)).val = o.val
    omega
  rw [e]

/-- The body once both neighbours' words are read, the first one checked. -/
def bodySnd (v0 : BitVec 32) (h0 : k0_chk1 v0) (v1 : BitVec 32) : Pg F :=
  .op (.assume (k0_chk2 v1) (k0_chk2.dec v1)) fun h1 => main' A₀ ⟨k0_dev1 v0, k0_dev1_lt v0 h0⟩ ⟨k0_dev2 v1, k0_dev2_lt v1 h1.down⟩
/-- The body once the first neighbour's word is read. -/
def bodyFst (v0 : BitVec 32) : Pg F :=
  .op (.assume (k0_chk1 v0) (k0_chk1.dec v0)) fun h0 =>
  (smemLoad A₀.nb (Rect.unit (s := S2) ![1] S1.size inb_S2_S1_1) numel1_S1 rfl).bind fun v1 => bodySnd v0 h0.down v1

/-- Where the two words read are the neighbours', the rest of the body is run with these neighbours. -/
theorem run_bodySnd (c : Dev nD) (v0 v1 : BitVec 32) (h0 : k0_chk1 v0) (e0 : v0 = BitVec.ofNat 32 (nx c).val) (e1 : v1 = BitVec.ofNat 32 (pv c).val)
    (Q : PUnit → sProp 𝕄) : run c (main' A₀ (nx c) (pv c)) Q ⊢ run c (bodySnd v0 h0 v1) Q := by
  subst e0 e1
  have c1 : k0_chk2 (BitVec.ofNat 32 (pv c).val) := chk2_word (pv c)
  have d0 : (⟨k0_dev1 (BitVec.ofNat 32 (nx c).val), k0_dev1_lt _ h0⟩ : Dev nD) = nx c := Fin.ext (dev1_word (nx c))
  have d1 : (⟨k0_dev2 (BitVec.ofNat 32 (pv c).val), k0_dev2_lt _ c1⟩ : Dev nD) = pv c := Fin.ext (dev2_word (pv c))
  unfold bodySnd
  iintro H
  iapply (wp_assume 𝒱₀ (c : Thread nD τ) none Set.univ c1)
  rw [d0, d1]
  iexact H

/-- The same where only the first word is read: the second is read from the table of neighbours. -/
theorem run_bodyFst (c : Dev nD) (v0 : BitVec 32) (e0 : v0 = BitVec.ofNat 32 (nx c).val) (Q : PUnit → sProp 𝕄) :
    pt c cc0_stg4_0 (nbW c) ⊢ iprop((pt c cc0_stg4_0 (nbW c) -∗ run c (main' A₀ (nx c) (pv c)) Q) -∗ run c (bodyFst v0) Q) := by
  have c0 : k0_chk1 v0 := e0 ▸ chk1_word (nx c)
  unfold bodyFst
  iintro Hn Hk
  iapply (wp_assume 𝒱₀ (c : Thread nD τ) none Set.univ c0)
  iapply (wp_load_rect 𝒱₀ (c : Thread nD τ) none Set.univ (m := A₀.nb) (r := Rect.unit (s := S2) ![1] S1.size inb_S2_S1_1)
    (S := Finset.univ) (q := fullShare) (f := nbW c) (Finset.subset_univ _)) $$ Hn
  iintro Hn
  iapply (run_bodySnd c v0 _ c0 e0 (nb_read c 1 inb_S2_S1_1) Q)
  iapply Hk
  iexact Hn

/-- The body's start: the neighbours are read. -/
theorem run_body_start (c : Dev nD) (Q : PUnit → sProp 𝕄) :
    pt c cc0_stg4_0 (nbW c) ⊢ iprop((pt c cc0_stg4_0 (nbW c) -∗ run c (main' A₀ (nx c) (pv c)) Q) -∗ run c (body A₀) Q) := by
  unfold body
  iintro Hn Hk
  iapply (wp_load_rect 𝒱₀ (c : Thread nD τ) none Set.univ (m := A₀.nb) (r := Rect.unit (s := S2) ![0] S1.size inb_S2_S1_0)
    (S := Finset.univ) (q := fullShare) (f := nbW c) (Finset.subset_univ _)) $$ Hn
  iintro Hn
  iapply (run_bodyFst c _ (nb_read c 0 inb_S2_S1_0) Q) $$ Hn
  iexact Hk

/-! ## The result -/

/-- Where an element of the result lies in its column block. -/
def inBlock (z : S128x2048.Idx) : S128x512.Idx := fun a => ⟨if a.val = 0 then (z 0).val else (z 1).val % 512, by
  have h0 : (z 0).val < 128 := (z 0).isLt
  revert a; intro (a : Fin 2)
  fin_cases a
  · exact h0
  · exact Nat.mod_lt _ (by decide)⟩
/-- The column block an element of the result lies in. -/
def blockOf (z : S128x2048.Idx) : Fin 4 := ⟨(z 1).val / 512, by have h : (z 1).val < 2048 := (z 1).isLt; omega⟩
/-- Device `c`'s result. -/
def outF (c : Dev nD) : S128x2048.Idx → Elt F .f32 := fun z => res X Wt c (blockOf z) (inBlock z)

/-- An element of the result is the element of its column block at its place there. -/
theorem inBlock_emb (z : S128x2048.Idx) : (outR (blockOf z)).emb (inBlock z) = z := by
  funext a
  apply Fin.ext
  show (![0, 512 * ((z 1).val / 512)] : Fin 2 → ℕ) a + 1 * (if a.val = 0 then (z 0).val else (z 1).val % 512) = (z a).val
  revert a; intro (a : Fin 2)
  fin_cases a
  · show 0 + 1 * (z 0).val = (z 0).val; omega
  · show 512 * ((z 1).val / 512) + 1 * ((z 1).val % 512) = (z 1).val; omega

/-- With all four column blocks written, the result's buffer holds the device's result. -/
theorem wrote_all (c : Dev nD) : wrote X Wt c 4 ⊢ pt c cc0_stg5_0 (outF X Wt c) := by
  unfold wrote
  iintro ⟨%f, %hf, H⟩
  have e : f = outF X Wt c := funext fun z => by
    have h := hf (blockOf z) (blockOf z).isLt (inBlock z)
    rw [inBlock_emb] at h
    exact h
  rw [← e]
  iexact H

/-- The operands of the launch at their contents, the result's at `f`. -/
def held5 (c : Dev nD) (f : S128x2048.Idx → Elt F .f32) : sProp 𝕄 :=
  iprop(ins X Wt c ∗ pt c cc0_stg4_0 (nbW c) ∗ pt c cc0_stg5_0 f)
/-- The scratch at any contents. -/
def scratch (c : Dev nD) : sProp 𝕄 := iprop((∃ f, pt c cc0_scratch0 f) ∗ ∃ f, pt c cc0_scratch1 f)

/-- The whole run. -/
theorem run_body (c : Dev nD) (f : S128x2048.Idx → Elt F .f32) (Q : PUnit → sProp 𝕄) :
    iprop(Ctx X Wt K κ ∗ talkIn c ∗ seats c ∗ all4 (fuelC c) ∗ scratch c ∗ held5 X Wt c f ∗ due c (owed₀ c))
      ⊢ iprop(((semVal (barCell c) 0 ∗ zeros c ∗ scratch c ∗ held5 X Wt c (outF X Wt c) ∗ due c 0) -∗ |={Set.univ}=> Q ⟨⟩)
          -∗ run c (body A₀) Q) := by
  unfold scratch held5
  iintro ⟨#HC, Ht, Hse, Hfu, ⟨⟨%f0, Hb⟩, ⟨%f1, Hs⟩⟩, ⟨Hi, Hn, Ho⟩, HO⟩ Hk
  iapply (run_body_start c Q) $$ Hn
  iintro Hn
  ihave Hb := (slots_split c f0) $$ Hb
  iapply (run_main' X Wt K κ c Q) $$ [Ht Hse Hfu Hb Hs Hi Ho HO]
  · isplitr; · iexact HC
    isplitl [Ht]; · iexact Ht
    isplitl [Hse]; · iexact Hse
    isplitl [Hfu]; · iexact Hfu
    isplitl [Hb]; · iexact Hb
    isplitl [Hi]; · iexact Hi
    isplitl [Hs]
    · unfold made
      iexists f1
      isplitr; · ipureintro; exact fun _ h => h.elim
      iexact Hs
    isplitl [Ho]
    · unfold wrote
      iexists f
      isplitr; · ipureintro; exact fun _ h => absurd h (Nat.not_lt_zero _)
      iexact Ho
    iexact HO
  iintro ⟨Hz, Hzs, Hb, Hi, Hm, Hw, HO⟩
  iapply Hk
  isplitl [Hz]; · iexact Hz
  isplitl [Hzs]; · iexact Hzs
  isplitl [Hb Hm]
  · isplitl [Hb]
    · iapply (slots_join c f0); iexact Hb
    unfold made
    icases Hm with ⟨%g, -, Hm⟩
    iexists g; iexact Hm
  isplitl [Hi Hn Hw]
  · isplitl [Hi]; · iexact Hi
    isplitl [Hn]; · iexact Hn
    iapply (wrote_all X Wt c); iexact Hw
  iexact HO

end Cert.KernelIdeal.Ring

end
-- ==== Proof.Host.lean ====
/-
  The TABLES the host hands to the kernel: which row block each device multiplies at each position, and the device's two
  neighbours on the ring, read off the host operations before the launch.
-/
module

public import proofs.«01_k».proof.Proof.Local
public import proofs.«01_k».proof.Proof.Gen.KernelIdeal.Regions
public import Idealize.ShloMosaic.Lib.StableHlo.Run

@[expose] public section

set_option maxRecDepth 20000

noncomputable section

namespace Cert.KernelIdeal.Ring

open Cert.KernelIdeal Cert.KernelIdeal.Gen
open Idealize.ShloMosaic
open Idealize.ShloMosaic.TcCoe
open Idealize.SL Idealize.SL.Sem

variable {F : FTy → Type} [FloatOps F]

/-! ## One word at a time -/

/-- A ring position as a word. -/
def posW (c : Dev nD) : BitVec 32 := BitVec.ofNat 32 (ringP c).val

/-- The remainder of one word by another, of the divisor's sign. -/
def remW (x y : BitVec 32) : BitVec 32 :=
  let d := Scalar.select (IntOp.cmpi .eq y 0#32) 1#32 y
  let r := IntOp.remsi .host x d
  Scalar.select (IntOp.andi (IntOp.cmpi .ne (IntOp.cmpi .slt r 0#32) (IntOp.cmpi .slt d 0#32)) (IntOp.cmpi .ne r 0#32)) (IntOp.addi r d) r

/-- The stretch that computes a table of remainders. -/
theorem rem_tab (V : Valuation τ sig (Elt F)) (h : V (Proc.devRef .tc main_c_8) = fun _ : S_.Idx => 32#32) :
    StableHlo.after hostOps0_1 V (Proc.devRef .tc main_v23) = fun z : S32.Idx => remW (V (Proc.devRef .tc main_v22) z) 32#32 := by
  after_results
  simp only [StableHlo.TRef.toBuf, StableHlo.TRef.ofBuf, cast_cast, cast_eq]
  rw [h]
  rfl

/-- An index counted from the end where it is negative. -/
def wrapW (x : BitVec 32) : BitVec 32 := Scalar.select (IntOp.cmpi .slt x 0#32) (IntOp.addi x 32#32) x

/-- The word of a table at an index. -/
def pickT (tab : S32.Idx → BitVec 32) (w : BitVec 32) : S_.Idx → BitVec 32 :=
  shapeCast S_ (Host.dynamicSlice S1 tab (fun _ => w.toInt) sliceFits_S32_S1) shapeCasts_S1_S_

/-- The ring's order, as the program writes it down. -/
def ordT : S32.Idx → BitVec 32 := fun i => lit0 (S32.rowMajor i)

/-- The positions: each one written at its device's place. -/
def posT : S32.Idx → BitVec 32 :=
  Host.scatter scatter_S32_S32x1_S32_n_0_0_1 (fun _ b => b) (fun _ => 0#32) (broadcastInDim S32x1 ![0] bcast_S32_S32x1_0 fun z => wrapW (ordT z)) (iotaInDim S32 32 0)

/-- A device's own place. -/
def ownW (c : Dev nD) : BitVec 32 := wrapW (IntOp.remui .host (IntOp.divui .host (Dev.word c) 1#32) 32#32)

/-- A device's own entry in the table of positions is its ring position. -/
theorem pick_pos : ∀ c : Dev nD, ∀ i : S_.Idx, pickT posT (ownW c) i = posW c := by decide +kernel

/-- The ring's order at the position after a device's is the next device. -/
theorem pick_nx : ∀ c : Dev nD, ∀ i : S_.Idx, pickT ordT (wrapW (remW (IntOp.addi (posW c) 1#32) 32#32)) i = BitVec.ofNat 32 (nx c).val := by decide +kernel

/-- The ring's order at the position before a device's is the previous device. -/
theorem pick_pv : ∀ c : Dev nD, ∀ i : S_.Idx, pickT ordT (wrapW (remW (IntOp.subi (posW c) 1#32) 32#32)) i = BitVec.ofNat 32 (pv c).val := by decide +kernel

/-- The ring's order at the positions going back from a device's is the table of row blocks the kernel multiplies. -/
theorem pick_tab : ∀ c : Dev nD, ∀ z : S32.Idx, Host.gather gather_S32_S32x1_S32_n_0_n_n_0_1_1 ordT (broadcastInDim S32x1 ![0] bcast_S32_S32x1_0 fun z : S32.Idx =>
      wrapW (remW (IntOp.subi (IntOp.subi (posW c) 1#32) (BitVec.ofNat 32 (z 0).val)) 32#32)) z = word c (z 0) := by decide +kernel

/-- Two words put one after the other. -/
theorem conc_nb (a b : BitVec 32) : concatenate S2 0 [⟨S1, fun _ => a⟩, ⟨S1, fun _ => b⟩] concatenates_S1_S1_S2_d0
    = fun z : S2.Idx => if (z 0).val = 0 then a else b := by
  funext z
  have h : ∀ z : S2.Idx, z = (fun a => ⟨0, by revert a; decide⟩) ∨ z = (fun a => ⟨1, by revert a; decide⟩) := by decide
  rcases h z with rfl | rfl <;> rfl

/-- Two single words side by side, read. -/
theorem conc_read (u v : S_.Idx → BitVec 32) :
    concatenate S2 0 [⟨S1, broadcastInDim S1 ![] bcast_S_S1 u⟩, ⟨S1, broadcastInDim S1 ![] bcast_S_S1 v⟩] concatenates_S1_S1_S2_d0
      = concatenate S2 0 [⟨S1, fun _ => u (Shape.Idx.first h_S_)⟩, ⟨S1, fun _ => v (Shape.Idx.first h_S_)⟩] concatenates_S1_S1_S2_d0 := by
  have e : ∀ w : S_.Idx → BitVec 32, broadcastInDim S1 ![] bcast_S_S1 w = fun _ => w (Shape.Idx.first h_S_) := fun w => by
    funext z
    exact congrArg w ((show ∀ i j : S_.Idx, i = j from fun i j => funext fun k => k.elim0) _ _)
  rw [e u, e v]

variable (V : Valuation τ sig (Elt F))

/-- The two remainders of one word. -/
theorem rem_nx : StableHlo.after hostOps0_5 V (Proc.devRef .tc main_v43)
      = fun z : S_.Idx => remW (V (Proc.devRef .tc main_v42) z) (V (Proc.devRef .tc main_c_16) z) := by
  after_results
  simp only [StableHlo.TRef.toBuf, StableHlo.TRef.ofBuf, cast_cast, cast_eq]
  rfl
/-- The stretch that computes the previous position's remainder. -/
theorem rem_pv : StableHlo.after hostOps0_7 V (Proc.devRef .tc main_v50)
      = fun z : S_.Idx => remW (V (Proc.devRef .tc main_v49) z) (V (Proc.devRef .tc main_c_20) z) := by
  after_results
  simp only [StableHlo.TRef.toBuf, StableHlo.TRef.ofBuf, cast_cast, cast_eq]
  rfl

/-- The device's position, over what the earlier operations left. -/
theorem pos_tail (c : Dev nD) : StableHlo.after (List.drop 24 (hostOps0 c)) V (Proc.devRef .tc main_v18)
      = pickT (V (Proc.devRef .tc main_v9)) (V (Proc.devRef .tc main_v16) (Shape.Idx.first h_S_)) := by
  simp only [List.drop_succ_cons, List.drop_zero]
  after_results
  funext i
  refine congrFun (congrArg (fun s => shapeCast S_ (Host.dynamicSlice S1 (V (Proc.devRef .tc main_v9)) s sliceFits_S32_S1) shapeCasts_S1_S_) ?_) i
  funext k; fin_cases k; rfl
/-- The first 24 operations compute the device's own place. -/
theorem pos_own (c : Dev nD) : StableHlo.after (List.take 24 (hostOps0 c)) V (Proc.devRef .tc main_v16) = fun _ : S_.Idx => ownW c := by
  simp only [List.take_succ_cons, List.take_zero]
  after_results
  rfl
/-- They also compute the table of positions. -/
theorem pos_tab (c : Dev nD) : StableHlo.after (List.take 24 (hostOps0 c)) V (Proc.devRef .tc main_v9) = posT := by
  simp only [List.take_succ_cons, List.take_zero]
  after_results
  rfl
/-- The first stretch computes the device's ring position. -/
theorem pos_after (c : Dev nD) : StableHlo.after (hostOps0 c) V (Proc.devRef .tc main_v18) = fun _ : S_.Idx => posW c := by
  refine (show _ = StableHlo.after (List.drop 24 (hostOps0 c)) (StableHlo.after (List.take 24 (hostOps0 c)) V) (Proc.devRef .tc main_v18) from rfl).trans ?_
  rw [pos_tail, pos_own, pos_tab]
  funext i; exact pick_pos c i

/-- The first stretch writes down the ring's order. -/
theorem ord_after (c : Dev nD) : StableHlo.after (hostOps0 c) V (Proc.devRef .tc main_c) = ordT := by
  after_results
  rfl
/-- The first stretch writes down the number 32. -/
theorem c8_after (c : Dev nD) : StableHlo.after (hostOps0 c) V (Proc.devRef .tc main_c_8) = fun _ : S_.Idx => 32#32 := by
  after_results
  rfl

/-- The last operations of the first stretch count back from a position in the ring. -/
theorem idx_tail (c : Dev nD) (w : BitVec 32) (h : V (Proc.devRef .tc main_v18) = fun _ : S_.Idx => w) :
    StableHlo.after (List.drop 26 (hostOps0 c)) V (Proc.devRef .tc main_v22) = fun z : S32.Idx =>
      IntOp.subi (IntOp.subi w 1#32) (BitVec.ofNat 32 (z 0).val) := by
  simp only [List.drop_succ_cons, List.drop_zero]
  after_results
  rw [h]
  rfl
/-- They leave the ring position as it was. -/
theorem pos_keep (c : Dev nD) : StableHlo.after (List.drop 26 (hostOps0 c)) V (Proc.devRef .tc main_v18) = V (Proc.devRef .tc main_v18) := by
  simp only [List.drop_succ_cons, List.drop_zero]
  after_results
/-- So the first stretch leaves the positions counted back from the device's own, not yet reduced to the ring's length. -/
theorem idx_after (c : Dev nD) : StableHlo.after (hostOps0 c) V (Proc.devRef .tc main_v22) = fun z : S32.Idx =>
      IntOp.subi (IntOp.subi (posW c) 1#32) (BitVec.ofNat 32 (z 0).val) := by
  have h := pos_after V c
  rw [show StableHlo.after (hostOps0 c) V = StableHlo.after (List.drop 26 (hostOps0 c)) (StableHlo.after (List.take 26 (hostOps0 c)) V) from rfl] at h ⊢
  rw [pos_keep] at h
  exact idx_tail _ c _ h

/-- The table of row blocks. -/
theorem tab_after : StableHlo.after hostOps0_2 V (Proc.devRef .tc main_v30)
      = Host.gather gather_S32_S32x1_S32_n_0_n_n_0_1_1 (V (Proc.devRef .tc main_c))
          (broadcastInDim S32x1 ![0] bcast_S32_S32x1_0 fun z : S32.Idx => wrapW (V (Proc.devRef .tc main_v23) z)) := by
  after_results
  rfl
/-- One more than the ring position, not yet reduced to the ring's length. -/
theorem up_after : StableHlo.after hostOps0_4 V (Proc.devRef .tc main_v42) = fun z : S_.Idx => IntOp.addi (V (Proc.devRef .tc main_v18) z) 1#32 := by
  after_results
  rfl
/-- The number 32 by which it is reduced. -/
theorem c16_after : StableHlo.after hostOps0_4 V (Proc.devRef .tc main_c_16) = fun _ : S_.Idx => 32#32 := by
  after_results
  rfl
/-- The last operations of the stretch look up the ring's order at an index. -/
theorem nx_tail : StableHlo.after (List.drop 5 hostOps0_6) V (Proc.devRef .tc main_v48)
      = pickT (V (Proc.devRef .tc main_c)) (V (Proc.devRef .tc main_v46) (Shape.Idx.first h_S_)) := by
  simp only [List.drop_succ_cons, List.drop_zero]
  after_results
  funext i
  refine congrFun (congrArg (fun s => shapeCast S_ (Host.dynamicSlice S1 (V (Proc.devRef .tc main_c)) s sliceFits_S32_S1) shapeCasts_S1_S_) ?_) i
  funext k; fin_cases k; rfl
/-- The operations before compute that index. -/
theorem nx_idx : StableHlo.after (List.take 5 hostOps0_6) V (Proc.devRef .tc main_v46) = fun z : S_.Idx => wrapW (V (Proc.devRef .tc main_v43) z) := by
  simp only [List.take_succ_cons, List.take_zero]
  after_results
  rfl
/-- They leave the ring's order as it was. -/
theorem nx_ord : StableHlo.after (List.take 5 hostOps0_6) V (Proc.devRef .tc main_c) = V (Proc.devRef .tc main_c) := by
  simp only [List.take_succ_cons, List.take_zero]
  after_results
/-- So the stretch looks up the ring's order at the next position. -/
theorem nx_after : StableHlo.after hostOps0_6 V (Proc.devRef .tc main_v48)
      = pickT (V (Proc.devRef .tc main_c)) (wrapW (V (Proc.devRef .tc main_v43) (Shape.Idx.first h_S_))) := by
  refine (show _ = StableHlo.after (List.drop 5 hostOps0_6) (StableHlo.after (List.take 5 hostOps0_6) V) (Proc.devRef .tc main_v48) from rfl).trans ?_
  rw [nx_tail, nx_idx, nx_ord]
/-- One less than the ring position, not yet reduced to the ring's length. -/
theorem down_after : StableHlo.after hostOps0_6 V (Proc.devRef .tc main_v49) = fun z : S_.Idx => IntOp.subi (V (Proc.devRef .tc main_v18) z) 1#32 := by
  after_results
  rfl
/-- The number 32 by which that is reduced. -/
theorem c20_after : StableHlo.after hostOps0_6 V (Proc.devRef .tc main_c_20) = fun _ : S_.Idx => 32#32 := by
  after_results
  rfl
/-- The two neighbours side by side. -/
theorem nb_tail : StableHlo.after (List.drop 5 hostOps0_8) V (Proc.devRef .tc main_v58)
      = concatenate S2 0 [⟨S1, fun _ => V (Proc.devRef .tc main_v48) (Shape.Idx.first h_S_)⟩,
          ⟨S1, fun _ => pickT (V (Proc.devRef .tc main_c)) (V (Proc.devRef .tc main_v53) (Shape.Idx.first h_S_)) (Shape.Idx.first h_S_)⟩] concatenates_S1_S1_S2_d0 := by
  simp only [List.drop_succ_cons, List.drop_zero]
  after_results
  refine (conc_read _ _).trans ?_
  refine congrArg (fun s : Fin 1 → Int => concatenate S2 0 [⟨S1, fun _ => V (Proc.devRef .tc main_v48) (Shape.Idx.first h_S_)⟩,
    ⟨S1, fun _ => shapeCast S_ (Host.dynamicSlice S1 (V (Proc.devRef .tc main_c)) s sliceFits_S32_S1) shapeCasts_S1_S_ (Shape.Idx.first h_S_)⟩]
      concatenates_S1_S1_S2_d0) ?_
  funext k; fin_cases k; rfl
/-- The index of the previous device in the ring's order. -/
theorem nb_idx : StableHlo.after (List.take 5 hostOps0_8) V (Proc.devRef .tc main_v53) = fun z : S_.Idx => wrapW (V (Proc.devRef .tc main_v50) z) := by
  simp only [List.take_succ_cons, List.take_zero]
  after_results
  rfl
/-- Computing it leaves the ring's order as it was. -/
theorem nb_ord : StableHlo.after (List.take 5 hostOps0_8) V (Proc.devRef .tc main_c) = V (Proc.devRef .tc main_c) := by
  simp only [List.take_succ_cons, List.take_zero]
  after_results
/-- It also leaves the next device as it was. -/
theorem nb_nx : StableHlo.after (List.take 5 hostOps0_8) V (Proc.devRef .tc main_v48) = V (Proc.devRef .tc main_v48) := by
  simp only [List.take_succ_cons, List.take_zero]
  after_results
/-- So the last stretch leaves the next device's word and the previous device's word side by side. -/
theorem nb_after : StableHlo.after hostOps0_8 V (Proc.devRef .tc main_v58)
      = fun z : S2.Idx => if (z 0).val = 0 then V (Proc.devRef .tc main_v48) (Shape.Idx.first h_S_)
          else pickT (V (Proc.devRef .tc main_c)) (wrapW (V (Proc.devRef .tc main_v50) (Shape.Idx.first h_S_))) (Shape.Idx.first h_S_) := by
  refine (show _ = StableHlo.after (List.drop 5 hostOps0_8) (StableHlo.after (List.take 5 hostOps0_8) V) (Proc.devRef .tc main_v58) from rfl).trans ?_
  rw [nb_tail, nb_idx, nb_ord, nb_nx, conc_nb]

/-! ## What the launch finds -/

variable (m : (ℓ : Loc nD τ sig) → Buf (Elt F) ℓ)

/-- The ring's order is in its buffer after the first stretch. -/
theorem V1_ord (c : Dev nD) : V1 m c main_c = ordT := ord_after (V0 m c) c
/-- The positions counted back from the device's own, reduced to the ring's length. -/
theorem V2_tab (c : Dev nD) : V2 m c main_v23 = fun z : S32.Idx => remW (IntOp.subi (IntOp.subi (posW c) 1#32) (BitVec.ofNat 32 (z 0).val)) 32#32 := by
  refine (rem_tab (V1 m c) (c8_after (V0 m c) c)).trans ?_
  rw [show V1 m c (Proc.devRef .tc main_v22) = _ from idx_after (V0 m c) c]

/-- The table of row blocks, as the kernel finds it. -/
theorem V9_tab (c : Dev nD) : V9 m c main_v30 = tabW (F := F) c := by
  rw [V9_of m c main_v30 (by decide), V8_of m c main_v30 (by decide), V7_of m c main_v30 (by decide), V6_of m c main_v30 (by decide),
    V5_of m c main_v30 (by decide), V4_of m c main_v30 (by decide)]
  refine (tab_after (V2 m c)).trans ?_
  rw [V2_of m c main_c (by decide), V1_ord, V2_tab]
  funext z; exact pick_tab c z

/-- The device's ring position is still there after four stretches. -/
theorem V4_pos (c : Dev nD) : V4 m c main_v18 = fun _ : S_.Idx => posW c := by
  rw [V4_of m c main_v18 (by decide), V3_of m c main_v18 (by decide), V2_of m c main_v18 (by decide)]
  exact pos_after (V0 m c) c
/-- So is the ring's order. -/
theorem V4_ord (c : Dev nD) : V4 m c main_c = ordT := by
  rw [V4_of m c main_c (by decide), V3_of m c main_c (by decide), V2_of m c main_c (by decide), V1_ord]
/-- The next device's word, as the host computes it. -/
theorem V7_nx (c : Dev nD) : V7 m c main_v48 = fun _ : S_.Idx => BitVec.ofNat 32 (nx c).val := by
  refine (nx_after (V6 m c)).trans ?_
  rw [V6_of m c main_c (by decide), V5_of m c main_c (by decide), V4_ord]
  rw [show V6 m c (Proc.devRef .tc main_v43) = _ from rem_nx (V5 m c), show V5 m c (Proc.devRef .tc main_v42) = _ from up_after (V4 m c),
    show V5 m c (Proc.devRef .tc main_c_16) = _ from c16_after (V4 m c), V4_pos]
  funext i; exact pick_nx c i
/-- The previous position, as the host computes it. -/
theorem V8_pv (c : Dev nD) : V8 m c main_v50 = fun _ : S_.Idx => remW (IntOp.subi (posW c) 1#32) 32#32 := by
  refine (rem_pv (V7 m c)).trans ?_
  rw [show V7 m c (Proc.devRef .tc main_v49) = _ from down_after (V6 m c), show V7 m c (Proc.devRef .tc main_c_20) = _ from c20_after (V6 m c),
    V6_of m c main_v18 (by decide), V5_of m c main_v18 (by decide), V4_pos]

/-- The two neighbours, as the kernel finds them. -/
theorem V9_nb (c : Dev nD) : V9 m c main_v58 = nbW (F := F) c := by
  refine (nb_after (V8 m c)).trans ?_
  rw [V8_of m c main_v48 (by decide), V7_nx, V8_pv, V8_of m c main_c (by decide), V7_of m c main_c (by decide), V6_of m c main_c (by decide),
    V5_of m c main_c (by decide), V4_ord]
  funext z
  show (if (z 0).val = 0 then BitVec.ofNat 32 (nx c).val else _) = BitVec.ofNat 32 (if (z 0).val = 0 then (nx c).val else (pv c).val)
  rw [pick_pv]
  split <;> rfl

/-- The two arguments, as the kernel finds them. -/
theorem V9_arg0 (c : Dev nD) : V9 m c main_arg0 = m ((c : Thread nD τ).loc main_arg0) :=
  (V10_of m (fun _ r c => m ((c : Thread nD τ).loc r)) c main_arg0 (by decide)).symm.trans (V10_main_arg0 m _ c)
/-- The second argument, as the kernel finds it. -/
theorem V9_arg1 (c : Dev nD) : V9 m c main_arg1 = m ((c : Thread nD τ).loc main_arg1) :=
  (V10_of m (fun _ r c => m ((c : Thread nD τ).loc r)) c main_arg1 (by decide)).symm.trans (V10_main_arg1 m _ c)

end Cert.KernelIdeal.Ring

end
-- ==== Proof.Region.lean ====
module

public import proofs.«01_k».proof.Proof.Body
public import proofs.«01_k».proof.Proof.Host
public import proofs.«01_k».proof.Proof.Gen.KernelIdeal.Points
public import Idealize.ShloMosaic.Lib.Pipeline.RegionTalk

@[expose] public section

set_option maxRecDepth 20000

/-!
# The kernel region, as one segment of the program

The kernel is entered from the arrays the host made (the operands, the table and the neighbours) and leaves the
result's array at the values of `outF`. Its own semaphores are opened on entry and are at zero again at the end.
-/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## The kernel's own semaphores -/

/-- The kernel's own semaphores: of each channel and slot the one of the departure and the one of the arrival, and of each direction the credits. -/
abbrev Own : Type := (Fin 4 × Fin 4) ⊕ ((Fin 4 × Fin 4) ⊕ Bool)

/-- Each one's place. -/
def osem : Own → SemLoc sig
  | .inl (i, t) => .dma (semAt A₀.snd t i)
  | .inr (.inl (i, t)) => .dma (semAt A₀.rcv t i)
  | .inr (.inr b) => .reg (crA b).sem

/-- They are scoped, distinct, and none is a staging buffer's. -/
theorem osem_facts : Pipeline.OwnSemFacts spec0 osem := by decide

/-- A family over all of them, told apart by what they are for. -/
theorem own_split (Φ : SemLoc sig → sProp 𝕄) :
    bigSep Finset.univ (fun k : Own => Φ (osem k))
      = iprop(all4 (fun i => bigSep Finset.univ fun t : Fin 4 => Φ (.dma (semAt A₀.snd t i)))
        ∗ all4 (fun i => bigSep Finset.univ fun t : Fin 4 => Φ (.dma (semAt A₀.rcv t i)))
        ∗ Φ (.reg (crA false).sem) ∗ Φ (.reg (crA true).sem)) := by
  rw [bigSep_univ_sum, bigSep_univ_sum, bigSep_univ_prod, bigSep_univ_prod, all4_eq, all4_eq,
    bigSep_univ_eq_bigSepL [false, true] (by decide) (by decide)]
  rfl

/-- All at zero. -/
theorem ownSems_eq (c : Dev nD) : (Pipeline.ownSems0 osem c : sProp 𝕄) = zeros c :=
  own_split fun sm => semVal ((c : Thread nD τ), sm) 0

/-- All a device owes at the start is owed at places of a positive level. -/
theorem owed_above (c : Dev nD) : Above 0 (owed₀ c) := by
  unfold owed₀
  exact (((oweN_above_one c).mono (Nat.zero_le 1)).add (Above.tally _ _ _ _ (by decide) (by rw [lv_bar]; decide))).add (Above.tally _ _ _ _ (by decide) (by rw [lv_bar]; decide))

/-! ## The proof data -/

section Data

variable (V : Dev nD → Valuation τ sig (Elt F)) (X : Dev nD → S4096x128.Idx → Elt F .f32) (Wt : Dev nD → S128x2048.Idx → Elt F .f32)

/-- The arrays the kernel is entered from: the operands, and what the host made. -/
structure Fits : Prop where
  x : ∀ c, V c main_arg0 = X c
  w : ∀ c, V c main_arg1 = Wt c
  tab : ∀ c, V c main_v30 = tabW (F := F) c
  nb : ∀ c, V c main_v58 = nbW (F := F) c

/-- What the launch keeps for a device's kernel. -/
def Tk (c : Dev nD) : sProp 𝕄 :=
  iprop(∃ (K : GSem nD τ sig → ℕ) (κ : Key → ℕ), Ctx X Wt K κ ∗ opens c ∗ talkIn c ∗ all4 (fuelC c))
/-- The same with the kernel's own semaphores open. -/
def Xk (c : Dev nD) : sProp 𝕄 :=
  iprop(∃ (K : GSem nD τ sig → ℕ) (κ : Key → ℕ), Ctx X Wt K κ ∗ seats c ∗ talkIn c ∗ all4 (fuelC c))
/-- What it leaves. -/
def Yk (c : Dev nD) : sProp 𝕄 := semVal (barCell c) 0

/-- The kernel's proof data. -/
def dat0 (c : Dev nD) : Dat τ (Elt F) ℕ ℕ UU ℕ cfg0 c where
  A w := V c (Pipeline.arrRef spec0 w)
  after w _ := match w with
    | ⟨0, _⟩ => X c
    | ⟨1, _⟩ => Wt c
    | ⟨2, _⟩ => tabW c
    | ⟨3, _⟩ => V c main_v41
    | ⟨4, _⟩ => nbW c
    | ⟨5, _⟩ => outF X Wt c
    | ⟨_ + 6, h⟩ => absurd h (Nat.not_lt.2 (Nat.le_add_left _ _))
  Φ t := if t.val = 0 then iprop(Xk X Wt c ∗ scratch c ∗ ∃ r, prngReg c r)
    else iprop(Yk c ∗ zeros c ∗ scratch c ∗ ∃ r, prngReg c r)
  q _ := fullShare
  owed t := if t.val = 0 then owed₀ c else 0

/-- The family of the program's one region. -/
def pdats (p : Fin 1) (c : Dev nD) : Dat τ (Elt F) ℕ ℕ UU ℕ (cfgs p) c := match p with
  | ⟨0, _⟩ => dat0 V X Wt c
  | ⟨_ + 1, h⟩ => absurd h (Nat.not_lt.2 (Nat.le_add_left _ _))

/-- Before the region a device owes all it pays in the run. -/
theorem owed_zero (c : Dev nD) : (pdats V X Wt 0 c).owed 0 = owed₀ c := by
  show (if ((0 : Fin (cfg0.N + 1)).val = 0) then owed₀ c else 0) = owed₀ c; exact if_pos rfl
/-- So it does before the region's one point. -/
theorem owed_first (c : Dev nD) : (dat0 V X Wt c).owed t0_0.castSucc = owed₀ c := by
  show (if (t0_0.castSucc : Fin (cfg0.N + 1)).val = 0 then owed₀ c else 0) = owed₀ c; exact if_pos rfl
/-- After the region it owes nothing. -/
theorem owed_last (c : Dev nD) : (pdats V X Wt 0 c).owed (Fin.last _) = 0 := by
  show (if (Fin.last cfg0.N).val = 0 then owed₀ c else 0) = 0
  rw [Fin.val_last, if_neg (by rw [show cfg0.N = 1 from N_0]; decide)]
/-- Nor after the region's one point. -/
theorem owed_succ (c : Dev nD) : (dat0 V X Wt c).owed t0_0.succ = 0 := by
  show (if (t0_0.succ : Fin (cfg0.N + 1)).val = 0 then owed₀ c else 0) = 0; exact if_neg (Nat.succ_ne_zero _)
/-- The region's invariant before its one point. -/
theorem inv_first (c : Dev nD) : (dat0 V X Wt c).Φ t0_0.castSucc = iprop(Xk X Wt c ∗ scratch c ∗ ∃ r, prngReg c r) := by
  show (if (t0_0.castSucc : Fin (cfg0.N + 1)).val = 0 then iprop(Xk X Wt c ∗ scratch c ∗ ∃ r, prngReg c r)
    else iprop(Yk c ∗ zeros c ∗ scratch c ∗ ∃ r, prngReg c r)) = _
  exact if_pos rfl
/-- The region's invariant after its one point. -/
theorem inv_succ (c : Dev nD) : (dat0 V X Wt c).Φ t0_0.succ = iprop(Yk c ∗ zeros c ∗ scratch c ∗ ∃ r, prngReg c r) := by
  show (if (t0_0.succ : Fin (cfg0.N + 1)).val = 0 then iprop(Xk X Wt c ∗ scratch c ∗ ∃ r, prngReg c r)
    else iprop(Yk c ∗ zeros c ∗ scratch c ∗ ∃ r, prngReg c r)) = _
  exact if_neg (Nat.succ_ne_zero _)
/-- The region's invariant on entry. -/
theorem inv_zero (c : Dev nD) : (pdats V X Wt 0 c).Φ 0 = iprop(Xk X Wt c ∗ scratch c ∗ ∃ r, prngReg c r) := by
  show (if (0 : Fin (cfg0.N + 1)).val = 0 then iprop(Xk X Wt c ∗ scratch c ∗ ∃ r, prngReg c r)
    else iprop(Yk c ∗ zeros c ∗ scratch c ∗ ∃ r, prngReg c r)) = _
  exact if_pos rfl
/-- The region's invariant on exit. -/
theorem inv_last (c : Dev nD) : (pdats V X Wt 0 c).Φ (Fin.last (Pipeline.pin (pcfgs (F := F)) adm 0).N) = iprop(Yk c ∗ zeros c ∗ scratch c ∗ ∃ r, prngReg c r) := by
  show (if (Fin.last cfg0.N).val = 0 then iprop(Xk X Wt c ∗ scratch c ∗ ∃ r, prngReg c r)
    else iprop(Yk c ∗ zeros c ∗ scratch c ∗ ∃ r, prngReg c r)) = _
  rw [Fin.val_last, if_neg (by rw [show cfg0.N = 1 from N_0]; decide)]

/-- A window on a whole array reads the array. -/
theorem blk_arg0 (f : main_arg0.ty.Contents (Elt F)) : (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f
/-- The second operand's window is the whole array. -/
theorem blk_arg1 (f : main_arg1.ty.Contents (Elt F)) : (win0_1.blk t0_0).view.read (Elt F) f = f :=
  Memref.read_access_unit_zero (Elt F) main_arg1
    (show (fun a => (win0_1.index t0_0) a * main_arg1.ty.shape.size a) = fun _ => 0 from
      funext fun a => by fin_cases a <;> decide) (fun a => by fin_cases a <;> decide) f
/-- The window of the table of row blocks is the whole array. -/
theorem blk_v30 (f : main_v30.ty.Contents (Elt F)) : (win0_2.blk t0_0).view.read (Elt F) f = f :=
  Memref.read_access_unit_zero (Elt F) main_v30
    (show (fun a => (win0_2.index t0_0) a * main_v30.ty.shape.size a) = fun _ => 0 from
      funext fun a => by fin_cases a <;> decide) (fun a => by fin_cases a <;> decide) f
/-- The window of the second table is the whole array. -/
theorem blk_v41 (f : main_v41.ty.Contents (Elt F)) : (win0_3.blk t0_0).view.read (Elt F) f = f :=
  Memref.read_access_unit_zero (Elt F) main_v41
    (show (fun a => (win0_3.index t0_0) a * main_v41.ty.shape.size a) = fun _ => 0 from
      funext fun a => by fin_cases a <;> decide) (fun a => by fin_cases a <;> decide) f
/-- The window of the neighbours is the whole array. -/
theorem blk_v58 (f : main_v58.ty.Contents (Elt F)) : (win0_4.blk t0_0).view.read (Elt F) f = f :=
  Memref.read_access_unit_zero (Elt F) main_v58
    (show (fun a => (win0_4.index t0_0) a * main_v58.ty.shape.size a) = fun _ => 0 from
      funext fun a => by fin_cases a <;> decide) (fun a => by fin_cases a <;> decide) f
/-- The result's window is the whole array. -/
theorem blk_v59 (f : main_v59.ty.Contents (Elt F)) : (win0_5.blk t0_0).view.read (Elt F) f = f :=
  Memref.read_access_unit_zero (Elt F) main_v59
    (show (fun a => (win0_5.index t0_0) a * main_v59.ty.shape.size a) = fun _ => 0 from
      funext fun a => by fin_cases a <;> decide) (fun a => by fin_cases a <;> decide) f

/-- What the body finds staged. -/
theorem before0 (hV : Fits V X Wt) (c : Dev nD) (d) : (dat0 V X Wt c).before (0 : Fin 6) t0_0 d = X c := by
  unfold Dat.before; rw [if_pos (fetch0_0 t0_0)]
  exact (blk_arg0 (V c main_arg0)).trans (hV.x c)
/-- What is staged for the second operand before the body. -/
theorem before1 (hV : Fits V X Wt) (c : Dev nD) (d) : (dat0 V X Wt c).before (1 : Fin 6) t0_0 d = Wt c := by
  unfold Dat.before; rw [if_pos (fetch0_1 t0_0)]
  exact (blk_arg1 (V c main_arg1)).trans (hV.w c)
/-- What is staged for the table of row blocks before the body. -/
theorem before2 (hV : Fits V X Wt) (c : Dev nD) (d) : (dat0 V X Wt c).before (2 : Fin 6) t0_0 d = tabW c := by
  unfold Dat.before; rw [if_pos (fetch0_2 t0_0)]
  exact (blk_v30 (V c main_v30)).trans (hV.tab c)
/-- What is staged for the second table before the body. -/
theorem before3 (c : Dev nD) (d) : (dat0 V X Wt c).before (3 : Fin 6) t0_0 d = V c main_v41 := by
  unfold Dat.before; rw [if_pos (fetch0_3 t0_0)]
  exact blk_v41 (V c main_v41)
/-- What is staged for the neighbours before the body. -/
theorem before4 (hV : Fits V X Wt) (c : Dev nD) (d) : (dat0 V X Wt c).before (4 : Fin 6) t0_0 d = nbW c := by
  unfold Dat.before; rw [if_pos (fetch0_4 t0_0)]
  exact (blk_v58 (V c main_v58)).trans (hV.nb c)

/-- A whole buffer owned at named contents. -/
theorem owns_whole_eq (c : Dev nD) (b : Ref sig .tc) (f : b.ty.Contents (Elt F)) :
    (owns (c : Thread nD τ) (Memref.whole b) fullShare f : sProp 𝕄) = iprop(∃ g : b.ty.Contents (Elt F), ⌜g = f⌝ ∗ pt c b g) := by
  unfold owns; simp only [Memref.view_whole, View.read_whole, View.set_whole]

/-- The record of what is owed, into and out of the proof data's form. -/
theorem owesAt_of_due (c : Dev nD) (t : Fin (cfg0.N + 1)) (O : CellTallies nD τ sig ℕ) (h0 : (dat0 V X Wt c).owed t = O) :
    due c O ⊢ ((dat0 V X Wt c).owesAt 0 t : sProp 𝕄) := by
  unfold Dat.owesAt Pipeline.owesWithin Dat.bound due
  rw [h0, show (dat0 V X Wt c).recorded t = Set.univ from rfl]
  iintro ⟨%W, HO⟩; iexists W; isplitr
  · ipureintro; exact fun _ _ => Or.inl trivial
  iexact HO
/-- The record of what is owed, out of the proof data's form. -/
theorem due_of_owesAt (c : Dev nD) (t : Fin (cfg0.N + 1)) (O : CellTallies nD τ sig ℕ) (h0 : (dat0 V X Wt c).owed t = O) :
    ((dat0 V X Wt c).owesAt 0 t : sProp 𝕄) ⊢ due c O := by
  unfold Dat.owesAt Pipeline.owesWithin due
  rw [h0]
  iintro ⟨%W, -, HO⟩; iexists W; iexact HO

/-- A staging buffer at named contents. -/
def stg (c : Dev nD) (b : Ref sig .tc) (f : b.ty.Contents (Elt F)) : sProp 𝕄 := iprop(∃ g : b.ty.Contents (Elt F), ⌜g = f⌝ ∗ pt c b g)
/-- A staging buffer at named contents holds these contents. -/
theorem stg_elim (c : Dev nD) (b : Ref sig .tc) (f : b.ty.Contents (Elt F)) : stg c b f ⊢ (pt c b f : sProp 𝕄) := by
  unfold stg; iintro ⟨%g, %hg, H⟩; subst hg; iexact H
/-- A buffer that holds named contents is a staging buffer at these contents. -/
theorem stg_intro (c : Dev nD) (b : Ref sig .tc) (f : b.ty.Contents (Elt F)) : (pt c b f : sProp 𝕄) ⊢ stg c b f := by
  unfold stg; iintro H; iexists f; isplitr
  · ipureintro; rfl
  iexact H

/-- What the body is called with. -/
def bodyPre (c : Dev nD) : sProp 𝕄 :=
  iprop((dat0 V X Wt c).Φ t0_0.castSucc ∗ (dat0 V X Wt c).owesAt 0 t0_0.castSucc
    ∗ (∃ d, stg c cc0_stg0_0 ((dat0 V X Wt c).before (0 : Fin 6) t0_0 d))
    ∗ (∃ d, stg c cc0_stg1_0 ((dat0 V X Wt c).before (1 : Fin 6) t0_0 d))
    ∗ (∃ d, stg c cc0_stg2_0 ((dat0 V X Wt c).before (2 : Fin 6) t0_0 d))
    ∗ (∃ d, stg c cc0_stg3_0 ((dat0 V X Wt c).before (3 : Fin 6) t0_0 d))
    ∗ (∃ d, stg c cc0_stg4_0 ((dat0 V X Wt c).before (4 : Fin 6) t0_0 d))
    ∗ (∃ d, stg c cc0_stg5_0 ((dat0 V X Wt c).before (5 : Fin 6) t0_0 d)))
/-- What it returns. -/
def bodyPost (c : Dev nD) : sProp 𝕄 :=
  iprop((dat0 V X Wt c).Φ t0_0.succ ∗ (dat0 V X Wt c).owesAt 0 t0_0.succ
    ∗ stg c cc0_stg0_0 ((dat0 V X Wt c).after (0 : Fin 6) t0_0) ∗ stg c cc0_stg1_0 ((dat0 V X Wt c).after (1 : Fin 6) t0_0)
    ∗ stg c cc0_stg2_0 ((dat0 V X Wt c).after (2 : Fin 6) t0_0) ∗ stg c cc0_stg3_0 ((dat0 V X Wt c).after (3 : Fin 6) t0_0)
    ∗ stg c cc0_stg4_0 ((dat0 V X Wt c).after (4 : Fin 6) t0_0) ∗ stg c cc0_stg5_0 ((dat0 V X Wt c).after (5 : Fin 6) t0_0))

/-- What the body leaves staged. -/
theorem after0 (c : Dev nD) : (dat0 V X Wt c).after (0 : Fin 6) t0_0 = X c := rfl
/-- The body leaves the second operand staged as it was. -/
theorem after1 (c : Dev nD) : (dat0 V X Wt c).after (1 : Fin 6) t0_0 = Wt c := rfl
/-- The body leaves the table of row blocks staged as it was. -/
theorem after2 (c : Dev nD) : (dat0 V X Wt c).after (2 : Fin 6) t0_0 = tabW c := rfl
/-- The body leaves the second table staged as it was. -/
theorem after3 (c : Dev nD) : (dat0 V X Wt c).after (3 : Fin 6) t0_0 = V c main_v41 := rfl
/-- The body leaves the neighbours staged as they were. -/
theorem after4 (c : Dev nD) : (dat0 V X Wt c).after (4 : Fin 6) t0_0 = nbW c := rfl
/-- The body leaves the device's result staged. -/
theorem after5 (c : Dev nD) : (dat0 V X Wt c).after (5 : Fin 6) t0_0 = outF X Wt c := rfl

/-- The body's run, between the two. -/
theorem body_run (hV : Fits V X Wt) (c : Dev nD) : bodyPre V X Wt c ⊢ (run c (body A₀) (fun _ => bodyPost V X Wt c) : sProp 𝕄) := by
  unfold bodyPre bodyPost
  simp only [before0 V X Wt hV, before1 V X Wt hV, before2 V X Wt hV, before3, before4 V X Wt hV, after0, after1, after2, after3, after4, after5]
  rw [inv_first, inv_succ]
  unfold Xk Yk
  iintro ⟨⟨⟨%K, %κ, #HC, HS, HT, HF⟩, Hsc, Hp⟩, HO, ⟨%d0, H0⟩, ⟨%d1, H1⟩, ⟨%d2, H2⟩, ⟨%d3, H3⟩, ⟨%d4, H4⟩, ⟨%d5, H5⟩⟩
  ihave HO := (due_of_owesAt V X Wt c _ _ (owed_first V X Wt c)) $$ HO
  ihave H0 := (stg_elim c _ _) $$ H0
  ihave H1 := (stg_elim c _ _) $$ H1
  ihave H2 := (stg_elim c _ _) $$ H2
  ihave H4 := (stg_elim c _ _) $$ H4
  ihave H5 := (stg_elim c _ _) $$ H5
  iapply (run_body X Wt K κ c ((dat0 V X Wt c).before (5 : Fin 6) t0_0 d5) _) $$ [HS HT HF Hsc HO H0 H1 H2 H4 H5]
  · isplitr; · iexact HC
    isplitl [HT]; · iexact HT
    isplitl [HS]; · iexact HS
    isplitl [HF]; · iexact HF
    isplitl [Hsc]; · iexact Hsc
    isplitr [HO]
    · unfold held5 ins
      isplitl [H0 H1 H2]
      · isplitl [H0]; · iexact H0
        isplitl [H1]; · iexact H1
        iexact H2
      isplitl [H4]; · iexact H4
      iexact H5
    iexact HO
  unfold held5 ins
  iintro ⟨Hb, Hz, Hsc, ⟨⟨H0, H1, H2⟩, H4, H5⟩, HO⟩
  imodintro
  isplitl [Hb Hz Hsc Hp]
  · isplitl [Hb]; · iexact Hb
    isplitl [Hz]; · iexact Hz
    isplitl [Hsc]; · iexact Hsc
    iexact Hp
  isplitl [HO]
  · iapply (owesAt_of_due V X Wt c _ _ (owed_succ V X Wt c)); iexact HO
  isplitl [H0]; · iapply (stg_intro c _ _); iexact H0
  isplitl [H1]; · iapply (stg_intro c _ _); iexact H1
  isplitl [H2]; · iapply (stg_intro c _ _); iexact H2
  isplitl [H3]; · iexact H3
  isplitl [H4]; · iapply (stg_intro c _ _); iexact H4
  iapply (stg_intro c _ _); iexact H5

/-- The region's body obligation. -/
theorem body_obligation (hV : Fits V X Wt) (c : Dev nD) : BodyObligation (dat0 V X Wt c) (defs₀ (F := F)) 𝒱₀ 0 Set.univ := fun t => by
  rw [fin_N0 t]
  rw [bigSep_W0, bigSep_W0]
  simp only [owns_whole_eq]
  have e : cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5 = body A₀ :=
    body_eq A₀ (Memref.isWhole_whole _) (Memref.isWhole_whole _) (Memref.isWhole_whole _) (Memref.isWhole_whole _)
      (Memref.isWhole_whole _) (Memref.isWhole_whole _) (Memref.isWhole_whole _) (Memref.isWhole_whole _)
  have h := body_run V X Wt hV c
  unfold run bodyPre bodyPost stg at h
  have e' : defs₀ (F := F) Proc.tc 0 (t0_0, cfg0.slots t0_0) = body A₀ := e
  rw [e']
  generalize body (F := F) A₀ = P at h ⊢
  refine h.trans ?_
  exact BI.Entails.refl _

/-! ## The segment -/

/-- What the library needs of the region's layout. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Every window is held at the full share. -/
theorem share_eq (c : Dev nD) (w) : (pdats V X Wt 0 c).share w = fullShare := by unfold Dat.share; split <;> rfl

/-- Opening the kernel's own semaphores. -/
theorem hopen (c : Dev nD) : iprop(Tk X Wt c ∗ Pipeline.ownSems0 osem c ∗ levAts L lv) ⊢ (|={Set.univ}=> Xk X Wt c : sProp 𝕄) := by
  rw [ownSems_eq]
  unfold Tk Xk
  iintro ⟨⟨%K, %κ, #HC, Ho, HT, HF⟩, Hz, -⟩
  imod (open_all X Wt K κ c) $$ [Ho Hz] with HS
  · isplitr; · iexact HC
    isplitl [Ho]; · iexact Ho
    iexact Hz
  imodintro
  iexists K; iexists κ
  isplitr; · iexact HC
  isplitl [HS]; · iexact HS
  isplitl [HT]; · iexact HT
  iexact HF

/-- The kernel's remaining scratch is its two scratch buffers. -/
theorem scopedRest_eq (c : Dev nD) :
    (Pipeline.scopedRest (Pipeline.pin (pcfgs (F := F)) adm 0).spec c : sProp 𝕄) = scratch c := by
  exact scopedRest0_eq c

/-- Into the region's first state. -/
theorem hin (c : Dev nD) : iprop(Pipeline.scopedRest (Pipeline.pin (pcfgs (F := F)) adm 0).spec c ∗ (∃ r, prngReg c r)
      ∗ StableHlo.held (c.tc : Thread nD τ) ∅ (V c) ∗ Xk X Wt c) ⊢ ((pdats V X Wt 0 c).Φ 0 : sProp 𝕄) := by
  rw [inv_zero, scopedRest_eq]
  iintro ⟨Hs, Hp, -, HX⟩
  isplitl [HX]; · iexact HX
  isplitl [Hs]; · iexact Hs
  iexact Hp

/-- Out of its last. -/
theorem hout (V' : Dev nD → Valuation τ sig (Elt F)) (c : Dev nD) : ((pdats V X Wt 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V' c) ∗ Pipeline.ownSems0 osem c ∗ Yk c) := by
  rw [inv_last, scopedRest_eq, ownSems_eq]
  unfold StableHlo.held
  rw [bigSep_empty]
  iintro ⟨HY, Hz, Hs, Hp⟩
  isplitl [Hs]; · iexact Hs
  isplitl [Hp]; · iexact Hp
  isplitr; · iempintro
  isplitl [Hz]; · iexact Hz
  iexact HY

/-- All a device owes is owed at places above the staging buffers'. -/
theorem cut (c : Dev nD) (t : Fin ((Pipeline.pin (pcfgs (F := F)) adm 0).N + 1)) (g : GSem nD τ sig) (i : ℕ) (h : 0 < (pdats V X Wt 0 c).owed t g i) :
    i ∈ L g ∧ 0 < lv g i := by
  have e : (pdats V X Wt 0 c).owed t = if t.val = 0 then owed₀ c else 0 := rfl
  rw [e] at h
  split at h
  · exact owed_above c g i h
  · exact absurd h (Nat.lt_irrefl 0)

/-- The arrays at the end. -/
theorem arrAt_out (c : Dev nD) : (dat0 V X Wt c).arrAt (5 : Fin 6) cfg0.N = outF X Wt c := by
  have hw : ((cfg0.win 5).blk t0_0).view.read (Elt F) ((dat0 V X Wt c).arrAt 5 cfg0.N) = (dat0 V X Wt c).flushed 5 t0_0 := by
    rw [show cfg0.N = t0_0.val + 1 from rfl, (dat0 V X Wt c).arrAt_succ (5 : Fin 6) t0_0, flush0_5, if_pos rfl]
    exact View.read_write_univ _ _
  exact (blk_v59 _).symm.trans (hw.trans (funext fun _ => rfl))

/-- Every array at the end: the inputs' as they were, the result's as computed. -/
theorem arr_out (V' : Valuation τ sig (Elt F)) (c : Dev nD) (h5 : V' main_v59 = outF X Wt c)
    (hne : ∀ b : DevRef τ sig, b ≠ Proc.devRef .tc main_v59 → V' b = V c b) (w : Fin 6) :
    (dat0 V X Wt c).arrAt w cfg0.N = V' (Proc.devRef .tc (Pipeline.arrRef spec0 w)) := by
  match w with
  | ⟨0, _⟩ => exact ((dat0 V X Wt c).arrAt_in (0 : Fin 6) rfl _).trans (hne (Proc.devRef .tc main_arg0) (by decide)).symm
  | ⟨1, _⟩ => exact ((dat0 V X Wt c).arrAt_in (1 : Fin 6) rfl _).trans (hne (Proc.devRef .tc main_arg1) (by decide)).symm
  | ⟨2, _⟩ => exact ((dat0 V X Wt c).arrAt_in (2 : Fin 6) rfl _).trans (hne (Proc.devRef .tc main_v30) (by decide)).symm
  | ⟨3, _⟩ => exact ((dat0 V X Wt c).arrAt_in (3 : Fin 6) rfl _).trans (hne (Proc.devRef .tc main_v41) (by decide)).symm
  | ⟨4, _⟩ => exact ((dat0 V X Wt c).arrAt_in (4 : Fin 6) rfl _).trans (hne (Proc.devRef .tc main_v58) (by decide)).symm
  | ⟨5, _⟩ => exact (arrAt_out V X Wt c).trans h5.symm
  | ⟨_ + 6, h⟩ => exact absurd h (Nat.not_lt.2 (Nat.le_add_left _ _))

end Data

/-! ## The program's segments -/

variable (m : (ℓ : Loc nD τ sig) → Buf (Elt F) ℓ)

/-- The operands at launch. -/
def Xm (c : Dev nD) : S4096x128.Idx → Elt F .f32 := m ((c : Thread nD τ).loc main_arg0)
/-- The second operand at launch. -/
def Wm (c : Dev nD) : S128x2048.Idx → Elt F .f32 := m ((c : Thread nD τ).loc main_arg1)

/-- What the host hands to the kernel. -/
theorem fits : Fits (V9 m) (Xm m) (Wm m) := ⟨V9_arg0 m, V9_arg1 m, V9_tab m, V9_nb m⟩

/-- The proof data over the launch's contents. -/
abbrev pd := pdats (V9 m) (Xm m) (Wm m)

/-- What the region leaves in the result's array. -/
def outs : Outs (F := F) := fun _ r c => if h : r = main_v59 then h ▸ (outF (Xm m) (Wm m) c) else V9 m c r

/-- After the region the result's array holds the device's result. -/
theorem out_eq (c : Dev nD) : V10 m (outs m) c main_v59 = outF (Xm m) (Wm m) c := by
  show Function.update (V9 m c) (Proc.devRef .tc main_v59) (outs m 10 main_v59 c) (Proc.devRef .tc main_v59) = _
  rw [Function.update_self]
  exact dif_pos rfl

/-- The region leaves every other buffer as it was. -/
theorem out_ne (c : Dev nD) (b : DevRef τ sig) (h : b ≠ Proc.devRef .tc main_v59) : V10 m (outs m) c b = V9 m c b :=
  Function.update_of_ne h _ _

/-- The buffers that are no window's array. -/
abbrev restRefs : Finset (DevRef τ sig) := Pipeline.ucRefs τ sig \ Pipeline.arrRefs (τ := τ) spec0

/-- The result is a window's array. -/
theorem v59_arr : Proc.devRef .tc main_v59 ∈ Pipeline.arrRefs (τ := τ) spec0 :=
  Finset.mem_map.mpr ⟨main_v59, Finset.mem_image.mpr ⟨(5 : Fin 6), Finset.mem_univ _, rfl⟩, rfl⟩

/-- Unit 0 of every semaphore has a level. -/
theorem L_tc (c : Dev nD) (sm : SemLoc sig) : (0 : ℕ) ∈ L ((c : Thread nD τ), sm) := by
  unfold L; rw [if_pos rfl]; exact Finset.mem_range.mpr (by decide)

/-- The pipeline's own semaphores are at the lowest level. -/
theorem lv_stage (c : Dev nD) (w : Fin 6) (s : Fin (spec0 w).nbuf) : lv ((c : Thread nD τ), .dma ((spec0 w).sem s)) 0 ≤ 0 := by
  have e : role (.dma ((spec0 w).sem s)) = .other := by revert w s; decide
  unfold lv; rw [e]

set_option backward.isDefEq.respectTransparency.types false in
/-- The kernel's region. -/
def reg : Pipeline.RegionSeg (pcfgs (F := F)) adm (pd m) 0 defs₀ 𝒱₀ L lv 0 :=
  Pipeline.RegionSeg.ofTalk (pcfgs (F := F)) adm (pd m) 0 defs₀ 𝒱₀ L lv 0 osem osem_facts
    ∅ restRefs (Finset.empty_subset _) kitP rfl (fun c => (body_obligation (V9 m) (Xm m) (Wm m) (fits m) c).loose)
    (fun _ => 0) owed₀ (fun c => (owed_zero (V9 m) (Xm m) (Wm m) c).trans (zero_add _).symm) (owed_last (V9 m) (Xm m) (Wm m)) (fun _ => rfl)
    (share_eq (V9 m) (Xm m) (Wm m)) (V9 m) (V10 m (outs m))
    (fun c b hb => out_ne m c b fun e => (Finset.mem_sdiff.mp (Finset.mem_sdiff.mp hb).1).2 (e ▸ v59_arr))
    (Tk (Xm m) (Wm m)) Yk (Xk (Xm m) (Wm m)) Yk (hopen (Xm m) (Wm m)) (hin (V9 m) (Xm m) (Wm m)) (hout (V9 m) (Xm m) (Wm m) (V10 m (outs m)))
    (fun c => by iintro H; imodintro; iexact H)
    (fun _ => 0)
    ⟨fun c _ _ => L_tc c _, fun c w s => lv_stage c w s, fun c t g i h => cut (V9 m) (Xm m) (Wm m) c t g i h⟩
    (fun _ => iprop(emp)) (fun _ _ => rfl)
    (fun c => arr_out (V9 m) (Xm m) (Wm m) (V10 m (outs m) c) c (out_eq m c) (out_ne m c))

/-- What rides beside the buffers up to the kernel, -/
def E0 (c : Dev nD) : sProp 𝕄 := iprop(Tk (Xm m) (Wm m) c ∗ (∃ r, prngReg c r) ∗ due c (owed₀ c))
/-- and after it. -/
def E1 (c : Dev nD) : sProp 𝕄 := iprop(semVal (barCell c) 0 ∗ due c 0)
/-- The two, in order. -/
def EE : Fin 2 → Dev nD → sProp 𝕄 := fun | 0 => E0 m | 1 => E1

/-- The windows' arrays are buffers of the host. -/
theorem arr_sub : Pipeline.arrRefs (τ := τ) spec0 ⊆ Pipeline.ucRefs τ sig := Pipeline.arrRefs_sub_ucRefs spec0 winFacts0.arr_unscoped

/-- The host's buffers and what a device starts from are what the region is entered with. -/
theorem reg_pre (c : Dev nD) : iprop(StableHlo.held (c : Thread nD τ) (Pipeline.ucRefs τ sig) (V9 m c) ∗ E0 m c) ⊢ ((reg m).pre c : sProp 𝕄) := by
  show _ ⊢ iprop(StableHlo.held (c.tc : Thread nD τ) (Pipeline.arrRefs (τ := τ) spec0) (V9 m c) ∗ (∃ r, prngReg c r)
    ∗ (StableHlo.held (c.tc : Thread nD τ) restRefs (V9 m c) ∗ emp) ∗ Tk (Xm m) (Wm m) c ∗ ∃ Wd, owes (c : Thread nD τ) (0 + owed₀ c) Wd)
  rw [zero_add, StableHlo.held_sub_split (c : Thread nD τ) arr_sub (V9 m c)]
  unfold E0 due
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the region is left with are the host's buffers, the result among them, and the barrier at zero. -/
theorem reg_post (c : Dev nD) : ((reg m).post c : sProp 𝕄)
    ⊢ iprop(StableHlo.held (c : Thread nD τ) (Pipeline.ucRefs τ sig) (V10 m (outs m) c) ∗ E1 c) := by
  show iprop(StableHlo.held (c.tc : Thread nD τ) (Pipeline.arrRefs (τ := τ) spec0) (V10 m (outs m) c) ∗ (∃ r, prngReg c r)
    ∗ (StableHlo.held (c.tc : Thread nD τ) restRefs (V10 m (outs m) c) ∗ emp) ∗ Yk c ∗ ∃ Wd, owes (c : Thread nD τ) (0 : CellTallies nD τ sig ℕ) Wd) ⊢ _
  rw [StableHlo.held_sub_split (c : Thread nD τ) arr_sub (V10 m (outs m) c)]
  unfold E1 due Yk
  iintro ⟨Ha, -, ⟨Hr, -⟩, Hb, HO⟩
  isplitl [Ha Hr]
  · isplitl [Ha]; · iexact Ha
    iexact Hr
  isplitl [Hb]; · iexact Hb
  iexact HO

end Cert.KernelIdeal.Ring

end
-- ==== Proof.Deal.lean ====
module

public import proofs.«01_k».proof.Proof.Region
public import Mathlib.Algebra.BigOperators.Intervals
public import Mathlib.Tactic.Abel

@[expose] public section

set_option maxRecDepth 20000

/-!
# Dealing out what the launch hands over

Every right, token and credit is made once for the whole mesh, indexed by device, channel and step. Half of them belong
to a neighbour of the device they are indexed by: the families are turned round the ring and dealt.
-/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over devices, channels and steps -/

/-- A family over a product is one of families. -/
theorem over_product {I J : Type} [DecidableEq I] [DecidableEq J] (S : Finset I) (T : Finset J) (Φ : I × J → sProp 𝕄) :
    bigSep (S ×ˢ T) Φ = bigSep S fun i => bigSep T fun j => Φ (i, j) := by
  induction S using Finset.induction_on with
  | empty => rw [Finset.empty_product]; rfl
  | insert a S ha ih =>
    rw [show insert a S ×ˢ T = T.map ⟨fun j => (a, j), fun _ _ h => (Prod.mk.inj h).2⟩ ∪ S ×ˢ T from by
        ext ⟨i, j⟩; simp only [Finset.mem_product, Finset.mem_insert, Finset.mem_union, Finset.mem_map, Function.Embedding.coeFn_mk, Prod.mk.injEq]
        constructor
        · rintro ⟨h | h, hj⟩
          · exact .inl ⟨j, hj, Prod.ext h.symm rfl⟩
          · exact .inr ⟨h, hj⟩
        · rintro (⟨j', hj, h⟩ | ⟨h, hj⟩)
          · exact ⟨.inl (congrArg Prod.fst h).symm, (show j' = j from congrArg Prod.snd h) ▸ hj⟩
          · exact ⟨.inr h, hj⟩,
      bigSep_union, ih, BI.bigSep_insert ha, bigSep_map]
    · rfl
    · rw [Finset.disjoint_left]
      intro x h h'
      obtain ⟨j, -, rfl⟩ := Finset.mem_map.mp h
      exact ha (Finset.mem_product.mp h').1

/-- The order of two families does not matter. -/
theorem over_comm {I J : Type} [DecidableEq I] (S : Finset I) (T : Finset J) (Φ : I → J → sProp 𝕄) :
    (bigSep S fun i => bigSep T fun j => Φ i j) = bigSep T fun j => bigSep S fun i => Φ i j := by
  induction S using Finset.induction_on with
  | empty => simp only [BI.bigSep_empty]; exact (BI.bigSep_emp_const T).symm
  | insert a S ha ih =>
    rw [BI.bigSep_insert ha, ih]
    refine (bigSep_sep' T _ _).symm.trans (bigSep_congr fun j _ => ?_)
    rw [BI.bigSep_insert ha]; rfl

/-- A family over every device and channel, and the steps in `S`. -/
def grid (S : Finset ℕ) (Φ : Dev nD → Fin 4 → ℕ → sProp 𝕄) : sProp 𝕄 :=
  bigSep Finset.univ fun c => bigSep Finset.univ fun i => bigSep S fun s => Φ c i s

/-- A family of pairs is a pair of families. -/
theorem grid_sep (S : Finset ℕ) (Φ Ψ : Dev nD → Fin 4 → ℕ → sProp 𝕄) :
    grid S (fun c i s => iprop(Φ c i s ∗ Ψ c i s)) = iprop(grid S Φ ∗ grid S Ψ) := by
  unfold grid
  rw [← bigSep_sep']
  refine bigSep_congr fun c _ => ?_
  rw [← bigSep_sep']
  exact bigSep_congr fun i _ => bigSep_sep' S _ _

/-- Downstream on channel `i`, as a turn of the ring. -/
def turn (i : Fin 4) : Dev nD ≃ Dev nD := ⟨fun c => dn c i, fun c => us c i, fun c => us_dn c i, fun c => dn_us c i⟩

/-- Indexed by the device downstream, a family over the ring is the same family. -/
theorem grid_dn (S : Finset ℕ) (Φ : Dev nD → Fin 4 → ℕ → sProp 𝕄) : grid S (fun c i s => Φ (dn c i) i s) = grid S Φ := by
  unfold grid
  rw [bigSep_univ_comm, bigSep_univ_comm (fun c i => bigSep S fun s => Φ c i s)]
  exact bigSep_congr fun i _ => (bigSep_univ_equiv (turn i) (fun c => bigSep S fun s => Φ c i s)).symm

/-- And by the one upstream. -/
theorem grid_us (S : Finset ℕ) (Φ : Dev nD → Fin 4 → ℕ → sProp 𝕄) : grid S (fun c i s => Φ (us c i) i s) = grid S Φ := by
  rw [← grid_dn]
  unfold grid
  refine bigSep_congr fun c _ => bigSep_congr fun i _ => bigSep_congr fun s _ => ?_
  show Φ (us (dn c i) i) i s = _
  rw [us_dn]

/-- A family over the hand-backs is one over devices, channels and the steps from 3. -/
theorem over_keys (Φ : Key → sProp 𝕄) : bigSep keys Φ = grid (Finset.Ico 3 31) fun c i s => Φ (c, i, s) := by
  unfold keys grid
  rw [over_product]
  exact bigSep_congr fun c _ => over_product _ _ _

/-- The transfers of the run. -/
def steps : Finset Key := Finset.univ ×ˢ Finset.univ ×ˢ Finset.range 31

/-- A family over the transfers is a family over devices, channels and the 31 steps. -/
theorem over_steps (Φ : Key → sProp 𝕄) : bigSep steps Φ = grid (Finset.range 31) fun c i s => Φ (c, i, s) := by
  unfold steps grid
  rw [over_product]
  exact bigSep_congr fun c _ => over_product _ _ _

/-- The steps that give a credit, counted by the step the credit is for. -/
theorem over_gives (Ψ : ℕ → sProp 𝕄) :
    bigSep (Finset.range 31) (fun s => if Gives s then Ψ (s + 2) else iprop(emp)) = bigSep (Finset.Ico 3 31) Ψ := by
  refine (bigSep_filter (Finset.range 31) Gives fun s => Ψ (s + 2)).symm.trans ?_
  rw [show Finset.Ico 3 31 = ((Finset.range 31).filter Gives).map (addRightEmbedding 2) from by decide, bigSep_map]
  rfl

/-- The steps that take one. -/
theorem over_takes (Ψ : ℕ → sProp 𝕄) :
    bigSep (Finset.range 31) (fun s => if 3 ≤ s then Ψ s else iprop(emp)) = bigSep (Finset.Ico 3 31) Ψ := by
  refine (bigSep_filter (Finset.range 31) (fun s => 3 ≤ s) Ψ).symm.trans ?_
  rw [show Finset.Ico 3 31 = (Finset.range 31).filter (fun s => 3 ≤ s) from by decide]

/-! ## What is dealt -/

/-- The duty of a credit, by the device that takes it. -/
abbrev crDuty (c : Dev nD) (i : Fin 4) (s : ℕ) : sProp 𝕄 := dutyTok ER (crCell c (dir i)) 0 (crNo i s)
/-- The credit itself. -/
abbrev crCred (c : Dev nD) (i : Fin 4) (s : ℕ) : sProp 𝕄 := cred (tallyAt (crCell c (dir i)) (crNo i s) 1)
/-- The duty of a departure. -/
abbrev sndDuty (c : Dev nD) (i : Fin 4) (s : ℕ) : sProp 𝕄 := dutyTok ER (sndCell c (slot s) i) (s / 4) 0
/-- The duty of an arrival, by the device it arrives at. -/
abbrev rcvDuty (c : Dev nD) (i : Fin 4) (s : ℕ) : sProp 𝕄 := dutyTok ER (rcvCell c (slot (s + 1)) i) (s / 4) 0
/-- Its credit. -/
abbrev rcvCred (c : Dev nD) (i : Fin 4) (s : ℕ) : sProp 𝕄 := cred (tallyAt (rcvCell c (slot (s + 1)) i) s N)

/-- What one channel of a device is dealt, kind by kind. -/
theorem fuelC_eq (c : Dev nD) (i : Fin 4) :
    (fuelC c i : sProp 𝕄)
      = iprop(bigSep (Finset.Ico 3 31) (fun s => iprop((Release.readerAt EQ (c, i, s) 0 ∗ crDuty (us c i) i s)
            ∗ (Release.writeTok EQ (dn c i, i, s) 1 ∗ crCred c i s)))
        ∗ bigSep (Finset.range 31) (fun s => iprop(sndDuty c i s ∗ rcvDuty (dn c i) i s ∗ rcvCred c i s))) := by
  unfold fuelC fuel sendFuel
  rw [bigSep_sep', bigSep_sep']
  rw [show bigSep (Finset.range 31) (fun s => (giveFuel c i s : sProp 𝕄))
      = bigSep (Finset.Ico 3 31) (fun s => iprop(Release.readerAt EQ (c, i, s) 0 ∗ crDuty (us c i) i s)) from
      over_gives (fun s => iprop(Release.readerAt EQ (c, i, s) 0 ∗ crDuty (us c i) i s)),
    show bigSep (Finset.range 31) (fun s => (takeFuel c i s : sProp 𝕄))
      = bigSep (Finset.Ico 3 31) (fun s => iprop(Release.writeTok EQ (dn c i, i, s) 1 ∗ crCred c i s)) from
      over_takes (fun s => iprop(Release.writeTok EQ (dn c i, i, s) 1 ∗ crCred c i s)),
    bigSep_sep' (Finset.Ico 3 31) (fun s => iprop(Release.readerAt EQ (c, i, s) 0 ∗ crDuty (us c i) i s))]
  exact (BI.equiv_iff.mp ⟨BI.sep_assoc, BI.sep_assoc'⟩).symm

/-- The whole mesh's rights, tokens and credits, dealt to the devices and channels that use them. -/
theorem deal :
    iprop((grid (Finset.Ico 3 31) (fun c i s => Release.readerAt EQ (c, i, s) 0) ∗ grid (Finset.Ico 3 31) crDuty)
        ∗ (grid (Finset.Ico 3 31) (fun c i s => Release.writeTok EQ (c, i, s) 1) ∗ grid (Finset.Ico 3 31) crCred)
        ∗ grid (Finset.range 31) sndDuty ∗ grid (Finset.range 31) rcvDuty ∗ grid (Finset.range 31) rcvCred)
      ⊢ (bigSep Finset.univ fun c : Dev nD => all4 (fuelC c) : sProp 𝕄) := by
  rw [← grid_us (Finset.Ico 3 31) crDuty, ← grid_dn (Finset.Ico 3 31) (fun c i s => Release.writeTok EQ (c, i, s) 1),
    ← grid_dn (Finset.range 31) rcvDuty, ← grid_sep, ← grid_sep, ← grid_sep, ← grid_sep]
  refine (show _ ⊢ iprop(grid (Finset.Ico 3 31) (fun c i s => iprop((Release.readerAt EQ (c, i, s) 0 ∗ crDuty (us c i) i s)
            ∗ (Release.writeTok EQ (dn c i, i, s) 1 ∗ crCred c i s)))
        ∗ grid (Finset.range 31) (fun c i s => iprop(sndDuty c i s ∗ rcvDuty (dn c i) i s ∗ rcvCred c i s))) from ?_).trans ?_
  · rw [grid_sep (Finset.Ico 3 31) (fun c i s => iprop(Release.readerAt EQ (c, i, s) 0 ∗ crDuty (us c i) i s))]
    iintro ⟨H, G, K⟩
    isplitl [H G]
    · isplitl [H] <;> iassumption
    · iexact K
  · refine Entails.of_eq ?_
    unfold grid
    rw [← bigSep_sep']
    refine bigSep_congr fun c _ => ?_
    rw [← all4_eq, ← bigSep_sep']
    exact bigSep_congr fun i _ => (fuelC_eq c i).symm

/-! ## The credits of the launch -/

/-- Credit for two tallies together is credit for each. -/
theorem cred_two (A B : CellTallies nD τ sig ℕ) : (cred (A + B) : sProp 𝕄) = iprop(cred A ∗ cred B) :=
  BI.Entails.antisymm (cred_add A B).1 (cred_add A B).2

/-- The credit for a sum is the credits for its terms. -/
theorem cred_sum {I : Type} [DecidableEq I] (S : Finset I) (T : I → CellTallies nD τ sig ℕ) :
    (cred (∑ i ∈ S, T i) : sProp 𝕄) = bigSep S fun i => cred (T i) := by
  induction S using Finset.induction_on with
  | empty => rw [Finset.sum_empty, cred_zero, BI.bigSep_empty]; rfl
  | insert a S ha ih => rw [Finset.sum_insert ha, BI.bigSep_insert ha, cred_two, ih]; rfl

/-- What the last `n` rounds pay, step by step. -/
theorem oweN_sum (c : Dev nD) (n : ℕ) (hn : n ≤ 31) : oweN c n = ∑ s ∈ Finset.Ico (31 - n) 31, ∑ i, owe c i s := by
  induction n with
  | zero => rfl
  | succ n ih =>
    rw [Finset.sum_eq_sum_Ico_succ_bot (by omega), show 31 - (n + 1) + 1 = 31 - n by omega, ← ih (by omega),
      show 31 - (n + 1) = 30 - n by omega, Fin.sum_univ_four]
    show owe4 c (30 - n) (oweN c n) = _
    unfold owe4
    abel

/-- The credits for all that the devices owe, by the cell they are for. -/
theorem cred_owed :
    (cred (∑ c, owed₀ c) : sProp 𝕄)
      = iprop(((grid (Finset.range 31) rcvCred ∗ grid (Finset.Ico 3 31) crCred)
          ∗ bigSep Finset.univ fun c : Dev nD => cred (tallyAt (barCell c) 0 1))
        ∗ bigSep Finset.univ fun c : Dev nD => cred (tallyAt (barCell c) 0 1)) := by
  rw [cred_sum]
  unfold owed₀
  simp only [cred_two]
  rw [bigSep_sep', bigSep_sep']
  congr 1
  · congr 1
    · rw [← grid_dn (Finset.range 31) rcvCred, ← grid_us (Finset.Ico 3 31) crCred]
      unfold grid
      rw [← bigSep_sep']
      refine bigSep_congr fun c _ => ?_
      rw [oweN_sum c 31 (by decide), cred_sum, ← bigSep_sep']
      simp only [cred_sum]
      rw [over_comm]
      refine bigSep_congr fun i _ => ?_
      unfold owe
      simp only [cred_two]
      rw [bigSep_sep', ← over_gives]
      congr 1
      refine bigSep_congr fun s _ => ?_
      unfold giveOwe
      split
      · rfl
      · exact cred_zero
    · exact (bigSep_univ_equiv ⟨pv, nx, nx_pv, pv_nx⟩ (fun c : Dev nD => (cred (tallyAt (barCell c) 0 1) : sProp 𝕄))).symm
  · exact (bigSep_univ_equiv ⟨nx, pv, pv_nx, nx_pv⟩ (fun c : Dev nD => (cred (tallyAt (barCell c) 0 1) : sProp 𝕄))).symm

/-- The credits of the launch are those for all that the devices owe. -/
theorem launch_owed : bigSep Finset.univ (fun c : Dev nD => (Pipeline.launchCred owed₀ c : sProp 𝕄)) = cred (∑ c, owed₀ c) := by
  unfold Pipeline.launchCred
  simp only [← cred_sum]
  congr 1
  funext g
  refine Finsupp.ext fun u => ?_
  obtain ⟨⟨d, p⟩, sm⟩ := g
  rw [Finset.sum_apply, Finsupp.finset_sum_apply, Finset.sum_apply, Finsupp.finset_sum_apply]
  by_cases hp : p = .tc
  · subst hp
    rw [Finset.sum_eq_single d (fun c _ hc => by
        rw [Finset.sum_apply, Finsupp.finset_sum_apply]
        refine Finset.sum_eq_zero fun sm' _ => ?_
        rw [tallyOn_ne (fun h => hc (congrArg (fun g : GSem nD τ sig => g.1.1) h).symm)]; rfl) (fun h => absurd (Finset.mem_univ d) h),
      Finset.sum_apply, Finsupp.finset_sum_apply,
      Finset.sum_eq_single sm (fun sm' _ hs => by
        rw [tallyOn_ne (fun h => hs (congrArg Prod.snd h).symm)]; rfl) (fun h => absurd (Finset.mem_univ sm) h)]
    rw [tallyOn_self, Pipeline.launchCredit_owing]
  · rw [Finset.sum_eq_zero (fun c _ => by
        rw [Finset.sum_apply, Finsupp.finset_sum_apply]
        refine Finset.sum_eq_zero fun sm' _ => ?_
        rw [tallyOn_ne (fun h => hp (congrArg (fun g : GSem nD τ sig => g.1.2) h))]; rfl)]
    symm
    refine Finset.sum_eq_zero fun c _ => ?_
    by_contra h
    have := (owed_above c _ _ (Nat.pos_of_ne_zero h)).1
    rw [L, if_neg hp] at this
    exact absurd this (Finset.notMem_empty _)

end Cert.KernelIdeal.Ring

end
-- ==== Proof.Launch.lean ====
module

public import proofs.«01_k».proof.Proof.Deal
public import Idealize.ShloMosaic.Lib.Quiescent

@[expose] public section

set_option maxRecDepth 20000

/-!
# The launch, and the run of the whole mesh

The protocol's cells, hand-backs and tokens are made at once for every device and dealt. From any memory with zero
counters the program then terminates, with its arguments as they were, its result at `outF`, and every counter at zero.
-/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig ℕ (Elt F) ℕ UU ℕ

/-! ## The cells -/

/-- The kernel's own semaphores are distinct, and none is the barrier. -/
theorem osem_inj : Function.Injective osem := by decide
/-- None of the kernel's own semaphores is the barrier. -/
theorem osem_ne_bar : ∀ k, osem k ≠ .reg barS := by decide
/-- With the barrier, they are all that have a role. -/
theorem osem_all : ∀ sm : SemLoc sig, role sm ≠ .other ↔ sm = .reg barS ∨ ∃ k, osem k = sm := by decide

/-- A device's barrier, different for different devices. -/
def barEmb : Dev nD ↪ GSem nD τ sig := ⟨fun c => barCell c, fun _ _ h => congrArg (fun g : GSem nD τ sig => g.1.1) h⟩
/-- A device's own semaphore, different for different devices or semaphores. -/
def ownEmb : Dev nD × Own ↪ GSem nD τ sig :=
  ⟨fun x => ((x.1 : Thread nD τ), osem x.2), fun _ _ h =>
    Prod.ext (congrArg (fun g : GSem nD τ sig => g.1.1) h) (osem_inj (congrArg Prod.snd h))⟩

/-- The barriers. -/
def barCells : Finset (GSem nD τ sig) := Finset.univ.map barEmb
/-- The kernel's own cells. -/
def ownCells : Finset (GSem nD τ sig) := Finset.univ.map ownEmb

/-- No barrier is among the kernel's own cells. -/
theorem cells_disjoint : Disjoint barCells ownCells := by
  rw [Finset.disjoint_left]
  rintro g h h'
  obtain ⟨c, -, rfl⟩ := Finset.mem_map.mp h
  obtain ⟨x, -, e⟩ := Finset.mem_map.mp h'
  exact osem_ne_bar x.2 (congrArg Prod.snd e)

/-- Together they are the cells of the protocol. -/
theorem cells_eq : cells = barCells ∪ ownCells := by
  ext ⟨⟨d, p⟩, sm⟩
  rw [cells, Finset.mem_filter, Finset.mem_union]
  constructor
  · rintro ⟨-, hp, hr⟩
    obtain rfl : p = .tc := hp
    rcases (osem_all sm).mp hr with rfl | ⟨k, rfl⟩
    · exact .inl (Finset.mem_map_of_mem barEmb (Finset.mem_univ d))
    · exact .inr (Finset.mem_map_of_mem ownEmb (Finset.mem_univ (d, k)))
  · rintro (h | h)
    · obtain ⟨c, -, e⟩ := Finset.mem_map.mp h
      refine ⟨Finset.mem_univ _, ?_, ?_⟩
      · exact (congrArg (fun g : GSem nD τ sig => g.1.2) e).symm
      · exact (osem_all _).mpr (.inl (congrArg Prod.snd e).symm)
    · obtain ⟨x, -, e⟩ := Finset.mem_map.mp h
      refine ⟨Finset.mem_univ _, ?_, ?_⟩
      · exact (congrArg (fun g : GSem nD τ sig => g.1.2) e).symm
      · exact (osem_all _).mpr (.inr ⟨x.2, congrArg Prod.snd e⟩)

/-- The rights to open the kernel's own cells, by device. -/
theorem opens_all : bigSep ownCells (fun g => (openTok ER g : sProp 𝕄)) = bigSep Finset.univ fun c : Dev nD => opens c := by
  unfold ownCells
  rw [bigSep_map, bigSep_univ_prod]
  exact bigSep_congr fun c _ => own_split fun sm => openTok ER ((c : Thread nD τ), sm)

/-! ## The tokens -/

/-- A token: a cell, a round and a duty. -/
abbrev Tok : Type := GSem nD τ sig × ℕ × ℕ

/-- The token of a raise of a barrier. -/
def barTok (x : Dev nD × Fin 2) : Tok := (barCell x.1, 0, x.2.val)
/-- The token of the credit for a step. -/
def crTok (k : Key) : Tok := (crCell k.1 (dir k.2.1), 0, crNo k.2.1 k.2.2)
/-- The token of a step's transfer having been sent. -/
def sndTok (k : Key) : Tok := (sndCell k.1 (slot k.2.2) k.2.1, k.2.2 / 4, 0)
/-- The token of a step's transfer having arrived. -/
def rcvTok (k : Key) : Tok := (rcvCell k.1 (slot (k.2.2 + 1)) k.2.1, k.2.2 / 4, 0)

/-- What kind of cell a token is for. -/
def kind (x : Tok) : ℕ := match role x.1.2 with | .bar => 0 | .cred _ => 1 | .snd _ _ => 2 | .rcv _ _ => 3 | .other => 4

/-- A barrier's token is of the barrier kind. -/
theorem kind_bar (x : Dev nD × Fin 2) : kind (barTok x) = 0 := by unfold kind barTok; rw [role_bar]
/-- A credit's token is of the credit kind. -/
theorem kind_cr (k : Key) : kind (crTok k) = 1 := by unfold kind crTok; rw [role_cr]
/-- A send's token is of the send kind. -/
theorem kind_snd (k : Key) : kind (sndTok k) = 2 := by unfold kind sndTok; rw [role_snd]
/-- An arrival's token is of the arrival kind. -/
theorem kind_rcv (k : Key) : kind (rcvTok k) = 3 := by unfold kind rcvTok; rw [role_rcv]

/-- Equal tokens are of the same device. -/
theorem dev_of_tok {x y : Tok} (h : x = y) : x.1.1.1 = y.1.1.1 := congrArg (fun t : Tok => t.1.1.1) h
/-- Equal tokens are of cells of the same role. -/
theorem role_of_tok {x y : Tok} (h : x = y) : role x.1.2 = role y.1.2 := congrArg (fun t : Tok => role t.1.2) h

/-- Different raises of barriers have different tokens. -/
theorem barTok_inj : Function.Injective barTok := fun x y h =>
  Prod.ext (dev_of_tok h) (Fin.ext (congrArg (fun t : Tok => t.2.2) h))

/-- Different credits have different tokens. -/
theorem crTok_inj : Set.InjOn crTok keys := by
  rintro ⟨c, i, s⟩ hx ⟨c', i', s'⟩ hy h
  have hc : c = c' := dev_of_tok h
  have hb : dir i = dir i' := by
    have := role_of_tok h
    unfold crTok at this
    rw [role_cr, role_cr] at this
    exact Role.cred.inj this
  have hn : crNo i s = crNo i' s' := congrArg (fun t : Tok => t.2.2) h
  have hs := (Finset.mem_product.mp (Finset.mem_product.mp (Finset.mem_coe.mp hx)).2).2
  have hs' := (Finset.mem_product.mp (Finset.mem_product.mp (Finset.mem_coe.mp hy)).2).2
  rw [Finset.mem_Ico] at hs hs'
  have hb' : 2 ≤ i.val ↔ 2 ≤ i'.val := decide_eq_decide.mp hb
  unfold crNo at hn
  dsimp only at hs hs'
  have h1 := i.isLt
  have h2 := i'.isLt
  obtain rfl : i = i' := Fin.ext (by omega)
  obtain rfl : s = s' := by omega
  rw [hc]

/-- Different transfers have different tokens of sending. -/
theorem sndTok_inj : Set.InjOn sndTok steps := by
  rintro ⟨c, i, s⟩ - ⟨c', i', s'⟩ - h
  have hc : c = c' := dev_of_tok h
  have hr := role_of_tok h
  unfold sndTok at hr
  rw [role_snd, role_snd] at hr
  obtain ⟨ht, hi⟩ := Role.snd.inj hr
  have hn : s / 4 = s' / 4 := congrArg (fun t : Tok => t.2.1) h
  have ht' : s % 4 = s' % 4 := congrArg Fin.val ht
  obtain rfl : s = s' := by omega
  dsimp only at hi
  rw [hc, hi]

/-- Different transfers have different tokens of arrival. -/
theorem rcvTok_inj : Set.InjOn rcvTok steps := by
  rintro ⟨c, i, s⟩ - ⟨c', i', s'⟩ - h
  have hc : c = c' := dev_of_tok h
  have hr := role_of_tok h
  unfold rcvTok at hr
  rw [role_rcv, role_rcv] at hr
  obtain ⟨ht, hi⟩ := Role.rcv.inj hr
  have hn : s / 4 = s' / 4 := congrArg (fun t : Tok => t.2.1) h
  have ht' : (s + 1) % 4 = (s' + 1) % 4 := congrArg Fin.val ht
  obtain rfl : s = s' := by omega
  dsimp only at hi
  rw [hc, hi]

/-- Every token of the run. -/
def toks : Finset Tok := (Finset.univ.image barTok ∪ keys.image crTok) ∪ (steps.image sndTok ∪ steps.image rcvTok)

/-- Sets of tokens of different kinds are disjoint. -/
theorem kinds_disjoint {S T : Finset Tok} (p : ℕ → Prop) (hS : ∀ x ∈ S, p (kind x)) (hT : ∀ x ∈ T, ¬ p (kind x)) : Disjoint S T := by
  rw [Finset.disjoint_left]
  exact fun x h h' => hT x h' (hS x h)

/-- The tokens, kind by kind. -/
theorem toks_eq : bigSep toks (fun x => (dutyTok ER x.1 x.2.1 x.2.2 : sProp 𝕄))
    = iprop(((bigSep Finset.univ fun c : Dev nD => iprop(dutyTok ER (barCell c) 0 0 ∗ dutyTok ER (barCell c) 0 1)) ∗ grid (Finset.Ico 3 31) crDuty)
      ∗ grid (Finset.range 31) sndDuty ∗ grid (Finset.range 31) rcvDuty) := by
  unfold toks
  rw [bigSep_union, bigSep_union, bigSep_union, bigSep_image_of_injOn barTok_inj.injOn, bigSep_image_of_injOn crTok_inj,
    bigSep_image_of_injOn sndTok_inj, bigSep_image_of_injOn rcvTok_inj, over_keys, over_steps, over_steps, bigSep_univ_prod]
  · congr 1
    · congr 1
      exact bigSep_congr fun c _ => BI.bigSep_fin_two fun b : Fin 2 => (dutyTok ER (barCell c) 0 b.val : sProp 𝕄)
  · refine kinds_disjoint (· = 2) (fun x h => ?_) fun x h => ?_
    · obtain ⟨k, -, rfl⟩ := Finset.mem_image.mp h; exact kind_snd k
    · obtain ⟨k, -, rfl⟩ := Finset.mem_image.mp h; rw [kind_rcv]; decide
  · refine kinds_disjoint (· = 0) (fun x h => ?_) fun x h => ?_
    · obtain ⟨k, -, rfl⟩ := Finset.mem_image.mp h; exact kind_bar k
    · obtain ⟨k, -, rfl⟩ := Finset.mem_image.mp h; rw [kind_cr]; decide
  · refine kinds_disjoint (· < 2) (fun x h => ?_) fun x h => ?_
    · rcases Finset.mem_union.mp h with h | h
      · obtain ⟨k, -, rfl⟩ := Finset.mem_image.mp h; rw [kind_bar]; decide
      · obtain ⟨k, -, rfl⟩ := Finset.mem_image.mp h; rw [kind_cr]; decide
    · rcases Finset.mem_union.mp h with h | h
      · obtain ⟨k, -, rfl⟩ := Finset.mem_image.mp h; rw [kind_snd]; decide
      · obtain ⟨k, -, rfl⟩ := Finset.mem_image.mp h; rw [kind_rcv]; decide

/-- Each device signals the barriers of its two neighbours. -/
theorem bars_around :
    (bigSep Finset.univ fun c : Dev nD => (iprop(dutyTok ER (barCell c) 0 0 ∗ dutyTok ER (barCell c) 0 1) : sProp 𝕄))
      = bigSep Finset.univ fun c : Dev nD => iprop(dutyTok ER (barCell (nx c)) 0 1 ∗ dutyTok ER (barCell (pv c)) 0 0) := by
  rw [bigSep_sep', bigSep_sep', bigSep_univ_equiv (⟨pv, nx, nx_pv, pv_nx⟩ : Dev nD ≃ Dev nD) (fun c : Dev nD => (dutyTok ER (barCell c) 0 0 : sProp 𝕄)),
    bigSep_univ_equiv (⟨nx, pv, pv_nx, nx_pv⟩ : Dev nD ≃ Dev nD) (fun c : Dev nD => (dutyTok ER (barCell c) 0 1 : sProp 𝕄))]
  exact BI.equiv_iff.mp ⟨BI.sep_comm, BI.sep_comm⟩

/-- And is signalled by both. -/
theorem bars_cred :
    iprop((bigSep Finset.univ fun c : Dev nD => cred (tallyAt (barCell c) 0 1)) ∗ bigSep Finset.univ fun c : Dev nD => cred (tallyAt (barCell c) 0 1))
      = (bigSep Finset.univ fun c : Dev nD => cred (tallyAt (barCell c) 0 2) : sProp 𝕄) := by
  rw [← bigSep_sep']
  exact bigSep_congr fun c _ => by rw [← cred_two, tallyAt_add]

/-! ## The launch -/

/-- Everything of the protocol, made at once. -/
def seed : sProp 𝕄 := iprop(BI.own (ER (launchOf barCells ownCells toks)) ∗ BI.own (EQ (Release.initSlots keys 1)))

/-- It is kept by one device until it is dealt. -/
def G (c : Dev nD) : sProp 𝕄 := if c = 0 then seed else iprop(emp)

/-- The devices' shares are all that there is at the start. -/
theorem G_all : bigSep Finset.univ (G (F := F)) = seed := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The ghost state the launch starts from. -/
def u₀ : UU :=
  (initOf (Pipeline.cells (Pipeline.pin (pcfgs (F := F)) adm) cellOf_inj) (Pipeline.launchToks (Pipeline.pin (pcfgs (F := F)) adm) cellOf_inj),
    (launchOf barCells ownCells toks, Release.initSlots keys 1))

/-- The launch's own resources split into the pipeline's and the protocol's. -/
theorem u₀_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  rw [G_all]
  unfold u₀ seed
  iintro Hu
  ihave H := (ownU_pair _ _) $$ Hu
  icases H with ⟨HP, HX⟩
  imodintro
  isplitl [HP]; · iexact HP
  iapply (own_pair_emb embR (launchOf barCells ownCells toks) (Release.initSlots keys 1)) $$ HX

section Run

variable (m : (ℓ : Loc nD τ sig) → Buf (Elt F) ℓ) (ρ : Dev nD → PrngReg)

/-- The records every device consults. -/
def Recs (K : GSem nD τ sig → ℕ) (κ : Key → ℕ) : sProp 𝕄 :=
  iprop(Ctx (Xm m) (Wm m) K κ ∗ bigSep barCells fun g => reached ER g 0)

/-- The records may be used any number of times. -/
instance Recs_persistent (K : GSem nD τ sig → ℕ) (κ : Key → ℕ) : BI.Persistent (Recs m K κ) := by unfold Recs; infer_instance

/-- What each device is dealt, besides. -/
def dealt (c : Dev nD) : sProp 𝕄 :=
  iprop(opens c ∗ (dutyTok ER (barCell (nx c)) 0 1 ∗ dutyTok ER (barCell (pv c)) 0 0) ∗ atPos ER (barCell c) 0 ∅ 0 ∗ cred (tallyAt (barCell c) 0 2)
    ∗ all4 (fuelC c) ∗ prngReg c (ρ c) ∗ owes (c : Thread nD τ) (owed₀ c) ∅)

/-- Every device's barrier has reached round 0. -/
theorem reached_bar (c : Dev nD) : (bigSep barCells fun g => (reached ER g 0 : sProp 𝕄)) ⊢ reached ER (barCell c) 0 :=
  bigSep_elim (Finset.mem_map_of_mem barEmb (Finset.mem_univ c))

/-- With the records, that is what a device starts from. -/
theorem E0_intro (K : GSem nD τ sig → ℕ) (κ : Key → ℕ) (c : Dev nD) : iprop(Recs m K κ ∗ dealt ρ c) ⊢ E0 m c := by
  unfold Recs dealt E0 Tk talkIn due
  iintro ⟨⟨#HC, #HR⟩, Ho, ⟨Hn, Hp⟩, Ha, Hc, Hf, Hr, HO⟩
  isplitr [Hr HO]
  · iexists K; iexists κ
    isplitr; · iexact HC
    isplitl [Ho]; · iexact Ho
    isplitr [Hf]
    · isplitl [Hn]; · iexact Hn
      isplitl [Hp]; · iexact Hp
      isplitr; · iapply (reached_bar (F := F) (nx c)); iexact HR
      isplitr; · iapply (reached_bar (F := F) (pv c)); iexact HR
      isplitl [Ha] <;> iassumption
    · iexact Hf
  · isplitl [Hr]
    · iexists (ρ c); iexact Hr
    · iexists ∅; iexact HO

/-- The only unscoped semaphore is the barrier's. -/
theorem unscoped_eq : ∀ sm : SemLoc sig, sm.isScoped .tc = false → sm = .reg barS := by decide

/-- So a device's unscoped semaphores at zero are its barrier at zero. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What all devices are dealt, kind by kind. -/
theorem dealt_all :
    iprop((bigSep Finset.univ fun c : Dev nD => opens c) ∗ (bigSep Finset.univ fun c : Dev nD => iprop(dutyTok ER (barCell (nx c)) 0 1 ∗ dutyTok ER (barCell (pv c)) 0 0))
        ∗ (bigSep Finset.univ fun c : Dev nD => atPos ER (barCell c) 0 ∅ 0) ∗ (bigSep Finset.univ fun c : Dev nD => cred (tallyAt (barCell c) 0 2))
        ∗ (bigSep Finset.univ fun c : Dev nD => all4 (fuelC c)) ∗ (bigSep Finset.univ fun c : Dev nD => prngReg c (ρ c))
        ∗ bigSep Finset.univ fun c : Dev nD => owes (c : Thread nD τ) (owed₀ c) ∅)
      ⊢ (bigSep Finset.univ (dealt ρ) : sProp 𝕄) := by
  simp only [← bigSep_sep']
  exact BI.Entails.refl _

/-- The launch of the protocol: every device gets what it starts from. -/
theorem launch_start :
    iprop((bigSep Finset.univ fun c : Dev nD => iprop(unscopedSems0 c ∗ owes (c : Thread nD τ) (owed₀ c) ∅ ∗ Pipeline.launchCred owed₀ c
        ∗ prngReg c (ρ c) ∗ G c)) ∗ levAts L lv)
      ⊢ (|={Set.univ}=> bigSep Finset.univ (E0 m) : sProp 𝕄) := by
  rw [bigSep_sep', bigSep_sep', bigSep_sep', bigSep_sep', G_all, launch_owed, cred_owed]
  have hv : bigSep Finset.univ (fun c : Dev nD => (unscopedSems0 c : sProp 𝕄)) ⊢ bigSep barCells (fun g => (semVal g 0 : sProp 𝕄)) := by
    refine Entails.of_eq ((bigSep_congr fun c _ => unscopedSems0_eq c).trans ?_)
    exact (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hcell (K : GSem nD τ sig → ℕ) : bigSep (barCells ∪ ownCells) (fun g => (cellInv ER (Rd (Xm m) (Wm m)) (K g) g : sProp 𝕄))
      ⊢ bigSep cells (fun g => cellInv ER (Rd (Xm m) (Wm m)) (K g) g) := Entails.of_eq (by rw [cells_eq])
  have hwr : bigSep (keys ×ˢ Finset.range 1) (fun x => (Release.writeTok EQ x.1 (x.2 + 1) : sProp 𝕄))
      ⊢ grid (Finset.Ico 3 31) (fun c i s => Release.writeTok EQ (c, i, s) 1) := Entails.of_eq (by
    rw [over_product, over_keys]
    unfold grid
    refine bigSep_congr fun c _ => bigSep_congr fun i _ => bigSep_congr fun s _ => ?_
    show bigSep (Finset.range 1) (fun j => (Release.writeTok EQ (c, i, s) (j + 1) : sProp 𝕄)) = _
    rw [Finset.range_one, BI.bigSep_singleton])
  unfold seed
  iintro ⟨⟨Hs, HO, ⟨⟨⟨Hcr, Hcc⟩, Hb⟩, Hb'⟩, Hp, Hl, Hq⟩, #Hlev⟩
  imod (Rounds.fund_launch ER (Rd (Xm m) (Wm m)) cells_disjoint (fun g _ h => h) toks) $$ [Hs Hl] with ⟨%K, -, #Hinv, #Hr, Hat, Hopen, Htok⟩
  · isplitl [Hs]
    · iapply hv $$ Hs
    · iexact Hl
  imod (Release.slots_init EQ keys 1 keySlot) $$ Hq with ⟨%κ, -, #Hslot, Hrd, Hwr⟩
  imodintro
  iapply (bigSep_with_persistent (R := Recs m K κ) (Φ := dealt ρ) fun c _ => E0_intro m ρ K κ c)
  isplitr
  · unfold Recs Ctx
    isplitr
    · isplitr; · iapply hcell; iexact Hinv
      isplitr; · iexact Hslot
      iexact Hlev
    · iexact Hr
  ihave Ht := (Entails.of_eq (toks_eq (F := F))) $$ Htok
  icases Ht with ⟨⟨Htb, Htc⟩, Hts, Htr⟩
  iapply (dealt_all (F := F) ρ)
  isplitl [Hopen]; · iapply (Entails.of_eq (opens_all (F := F))) $$ Hopen
  isplitl [Htb]; · iapply (Entails.of_eq (bars_around (F := F))) $$ Htb
  isplitl [Hat]; · iapply hat $$ Hat
  isplitl [Hb Hb']
  · iapply (Entails.of_eq (bars_cred (F := F)))
    isplitl [Hb] <;> iassumption
  isplitl [Hrd Hwr Htc Hts Htr Hcr Hcc]
  · iapply (deal (F := F))
    isplitl [Hrd Htc]
    · isplitl [Hrd]
      · iapply (Entails.of_eq (over_keys (F := F) fun k => Release.readerAt EQ k 0)) $$ Hrd
      · iexact Htc
    isplitl [Hwr Hcc]
    · isplitl [Hwr]
      · iapply hwr $$ Hwr
      · iexact Hcc
    isplitl [Hts]; · iexact Hts
    isplitl [Htr] <;> iassumption
  isplitl [Hp] <;> iassumption

/-- What a device ends with. -/
abbrev Tₙ (c : Dev nD) : sProp 𝕄 :=
  iprop(StableHlo.held (c : Thread nD τ) (Pipeline.ucRefs τ sig) (V10 m (outs m) c) ∗ semVal (barCell c) 0)

/-- What its memory then holds. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v59) = outF (Xm m) (Wm m) c) ∧ s.sem (barCell c) = 0

/-- From what a device ends with, its final memory can be read off. -/
theorem ends (c : Dev nD) (s' : Phys nD τ sig (Elt F)) : iprop(Tₙ m c ∗ SI s') ⊢ |={Set.univ}=> iprop(⌜Ends m c s'.mem⌝ ∗ SI s' : sProp 𝕄) := by
  unfold Tₙ StableHlo.held
  iintro ⟨⟨Hh, Hb0⟩, HSI⟩
  icombine HSI Hb0 gives %hb
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V10_main_arg0 m (outs m) c),
      (h (Proc.devRef .tc main_arg1) (Finset.mem_filter.mpr ⟨StableHlo.devRef_mem_tcRefs main_arg1, by decide⟩)).trans (V10_main_arg1 m (outs m) c),
      (h (Proc.devRef .tc main_v59) (Finset.mem_filter.mpr ⟨StableHlo.devRef_mem_tcRefs main_v59, by decide⟩)).trans (out_eq m c)⟩, by simpa using hb⟩
  · iexact HSI

set_option backward.isDefEq.respectTransparency.types false in
/-- The run: from any memory with zero counters every weakly fair execution of the program on the mesh terminates, and in every
    final state the arguments are as they were, each device's result is at `outF`, and every counter is zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v59) = outF (Xm m) (Wm m) c) ∧ r.2.sem = fun _ => 0) := by
  refine Pipeline.θ_run_regions_kit_dev_sems (pcfgs (F := F)) adm (pd m) 0 cellOf_inj EP defs₀ 𝒱₀ L lv m ρ main
    (segs m 𝒱₀ L lv (EE m) 0 (pd m) (reg m))
    (fun c Q => by
      rewrite [main_chain c, Seg.run_eq_chain,
        show (segs m 𝒱₀ L lv (EE m) 0 (pd m) (reg m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide) owed₀
    (fun g hg => if_neg hg) G u₀ u₀_split
    (T₀ := fun c => iprop(StableHlo.held (c : Thread nD τ) (Pipeline.ucRefs τ sig) (V0 m c) ∗ E0 m c))
    (Tₙ := Tₙ m)
    (hch := fun c => ⟨.rfl, .rfl, .rfl, .rfl, .rfl, .rfl, .rfl, .rfl, .rfl, reg_pre m c, (reg_post m c).trans ?_⟩)
    (hinit := ?_) (QY := Ends m) (hfin := fun c s' => ends m c s')
    (hQ := fun s h hs => ⟨fun c => (h c).1, sem_eq_zero hs fun c sm hsm => by
      obtain rfl := unscoped_eq sm hsm
      exact (h c).2⟩)
  · unfold E1 due
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed₀ c) ∅ ∗ Pipeline.launchCred owed₀ c ∗ prngReg c (ρ c) ∗ G c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (launch_start m ρ) $$ [Hr Hla] with HE
    · isplitl [Hr]; · iexact Hr
      iexact Hla
    imodintro
    rw [bigSep_sep']
    isplitl [Hh]; · iexact Hh
    iexact HE

end Run

end Cert.KernelIdeal.Ring

end
-- ==== Proof.Same.lean ====
/-
  The two printed programs are ONE text: the idealization rewrote no operation, so at the same float values every
  definition of the one is the definition of the other. The equalities below say so for the kernel's body and the table
  of bodies, each by unfolding; those of the host function and the run itself follow in SameHost and SameRun.
-/
module

public import proofs.«01_k».proof.Proof.Launch
public import proofs.«01_k».proof.Defs
public import proofs.«01_k».proof.Proof.Gen.Kernel

@[expose] public section

set_option maxRecDepth 20000
set_option maxHeartbeats 4000000

noncomputable section

namespace Cert.Kernel.Same

open Idealize.ShloMosaic

/-- The kernel's body is the same program. -/
theorem body_eq : @Cert.Kernel.cc0_body Bits _ Cert.Kernel.Gen.facts = @Cert.KernelIdeal.cc0_body Bits _ Cert.KernelIdeal.Gen.facts := rfl

/-- So is the table of bodies: it has one entry. -/
theorem bodies_eq : @Cert.Kernel.defs₀ Bits _ Cert.Kernel.Gen.facts = @Cert.KernelIdeal.defs₀ Bits _ Cert.KernelIdeal.Gen.facts := by
  refine congrArg (Defs.onTc (nD := Cert.KernelIdeal.nD) (τ := Cert.KernelIdeal.τ) (sig := Cert.KernelIdeal.sig)
    (Λ := Cert.KernelIdeal.Λ₀)) (funext fun l => ?_)
  revert l; intro (l : Fin 1)
  obtain rfl : l = 0 := Subsingleton.elim _ _
  funext ⟨t, s⟩
  with_reducible exact congrArg (fun f => f) rfl

/-- And the table with the pipeline's regions. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

end Cert.Kernel.Same

end
-- ==== Proof.SameHost.lean ====
/-
  The host function's two halves are the same program in the two printed texts, each by unfolding.
-/
module

public import proofs.«01_k».proof.Proof.Gen.KernelIdeal
public import proofs.«01_k».proof.Defs
public import proofs.«01_k».proof.Proof.Gen.Kernel

@[expose] public section

set_option maxRecDepth 20000
set_option maxHeartbeats 4000000

noncomputable section

namespace Cert.Kernel.Same

open Idealize.ShloMosaic

/-- The host function's first half is the same program. -/
theorem part0_eq : @Cert.Kernel.main_part0 Bits _ = @Cert.KernelIdeal.main_part0 Bits _ := rfl

/-- So is its second half. -/
theorem part1_eq : @Cert.Kernel.main_part1 Bits _ = @Cert.KernelIdeal.main_part1 Bits _ := rfl

end Cert.Kernel.Same

end
-- ==== Proof.SameRun.lean ====
/-
  The kernel's run. Its host function and its table of bodies are those of the idealized program, so the run proved for
  the idealized program at the bit patterns is the kernel's own.
-/
module

public import proofs.«01_k».proof.Proof.Same
public import proofs.«01_k».proof.Proof.SameHost
public import proofs.«01_k».proof.Defs
public import proofs.«01_k».proof.Proof.Gen.Kernel

@[expose] public section

set_option maxRecDepth 20000
set_option maxHeartbeats 4000000

noncomputable section

namespace Cert.Kernel.Same

open Idealize.ShloMosaic Idealize.SL Idealize.SL.Sem

/-- And the host function. -/
theorem main_eq : @Cert.Kernel.main Bits _ = @Cert.KernelIdeal.main Bits _ := by
  have h := congrArg₂ (fun (a b : Dev Cert.KernelIdeal.nD → Prog (TpuEff Cert.KernelIdeal.nD Cert.KernelIdeal.τ Cert.KernelIdeal.sig (Elt Bits)
      (Pipeline.Sig Cert.KernelIdeal.Λ₀ (Fin 1) fun p => (Cert.KernelIdeal.pcfgs (F := Bits) p).Adm) .tc) PUnit) =>
    (fun d => a d >>= fun _ => b d)) part0_eq part1_eq
  exact h

/-- The kernel's run: it ends, its arguments unchanged and every counter zero. -/
theorem run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have h := (θ_run Cert.KernelIdeal.defs _ _).mono (fun _ h => And.intro (fun c => And.intro (h.1 c).1 (h.1 c).2.1) h.2)
    (Cert.KernelIdeal.Ring.run_main (F := Bits) m ρ)
  rw [← main_eq, ← defs_eq] at h
  exact h

end Cert.Kernel.Same

end
-- ==== Proof.Values.lean ====
/-
  The VALUES over the extended reals: what the ring adds up is the product's row block, and the result is the block of the
  reference's.

  A partial product belongs to a device and a row block. On its way to device `c` a channel's block passes all 32
  devices, and each adds its partial product of row block `c`; the sum over the ring positions is the sum over
  the devices, and with the inner sums over 128 columns each it is the whole contraction over 4096.
-/
module

public import proofs.«01_k».proof.Proof.Launch
public import proofs.«01_k».proof.Proof.Gen.ReferenceIdeal.Run
public import Idealize.ShloMosaic.Lib.Pointwise
public import Idealize.ShloMosaic.Lib.Layout
public import Mathlib.Algebra.BigOperators.Fin
public import Mathlib.Tactic.Abel

@[expose] public section

set_option maxRecDepth 20000

noncomputable section

namespace Cert.KernelIdeal.Ring

open Cert.KernelIdeal Cert.KernelIdeal.Gen
open Idealize.ShloMosaic
open Idealize.ShloMosaic.TcCoe

/-! ## Around the ring -/

/-- The device `n` hops upstream of `c` on channel `i`. -/
def hop (i : Fin 4) : ℕ → Dev nD → Dev nD
  | 0, c => c
  | n + 1, c => hop i n (us c i)

/-- The device that adds at step `t` to what ends at `c`. -/
def adder (c : Dev nD) (i : Fin 4) (t : Fin 32) : Dev nD :=
  if i.val < 2 then ringT (ringP c + 1 + t) else ringT (ringP c - 1 - t)

/-- The position of the device at a position is that position. -/
theorem ringP_ringT (p : Fin 32) : ringP (ringT p) = p := by revert p; decide
/-- The device at a device's position is that device. -/
theorem ringT_ringP (c : Fin 32) : ringT (ringP c) = c := by revert c; decide

/-- A device and its ring position. -/
def ring : Fin 32 ≃ Fin 32 := ⟨ringT, ringP, ringP_ringT, ringT_ringP⟩

/-- Hops upstream are steps down in ring position on a forward channel and up on a backward one. -/
theorem ringP_hop (i : Fin 4) (n : ℕ) (c : Dev nD) :
    ringP (hop i n c) = if i.val < 2 then ringP c - n • (1 : Fin 32) else ringP c + n • (1 : Fin 32) := by
  induction n generalizing c with
  | zero => simp [hop]
  | succ n ih =>
    rw [hop, ih]
    unfold us up
    split
    · rw [pv, ringP_ringT, succ_nsmul]; abel
    · rw [nx, ringP_ringT, succ_nsmul]; abel

/-- The ring position of the device that adds at a step. -/
theorem ringP_adder (c : Dev nD) (i : Fin 4) (t : Fin 32) :
    ringP (adder c i t) = if i.val < 2 then ringP c + 1 + t else ringP c - 1 - t := by
  unfold adder
  split <;> rw [ringP_ringT]

/-- Step `t` is `31 - t` hops upstream of the end. -/
theorem hop_adder (c : Dev nD) (i : Fin 4) (t : Fin 32) : hop i (31 - t.val) c = adder c i t := by
  have e : ∀ t : Fin 32, (31 - t.val) • (1 : Fin 32) = - 1 - t := by decide
  apply ring.symm.injective
  show ringP (hop i (31 - t.val) c) = ringP (adder c i t)
  rw [ringP_hop, e, ringP_adder]
  split <;> abel

/-- What a device adds before the last step is its partial product of the row block that ends at `c`. -/
theorem chunk_adder (c : Dev nD) (i : Fin 4) (t : Fin 31) : chunk (adder c i t.castSucc) (posOf t.val i) = c := by
  have e₁ : ∀ t : Fin 31, (⟨t.val % 32, Nat.mod_lt _ (by decide)⟩ : Fin 32) = t.castSucc := by decide
  have e₂ : ∀ t : Fin 31, (⟨30 - t.val, by omega⟩ : Fin 32) = - 1 - 1 - t.castSucc := by decide
  apply ring.symm.injective
  show ringP (ringT (ringP (adder c i t.castSucc) - 1 - posOf t.val i)) = ringP c
  rw [ringP_ringT, ringP_adder]
  unfold posOf
  split
  · rw [e₁]; abel
  · rw [e₂]; abel

/-- At the last step a device adds its own row block. -/
theorem chunk_last (c : Dev nD) : chunk c 31 = c := by revert c; decide
/-- At the last step the device itself adds. -/
theorem adder_last (c : Dev nD) (i : Fin 4) : adder c i (Fin.last 31) = c := by
  have e : ∀ p : Fin 32, p + 1 + Fin.last 31 = p ∧ p - 1 - Fin.last 31 = p := by decide
  unfold adder
  split
  · rw [(e _).1, ringT_ringP]
  · rw [(e _).2, ringT_ringP]

/-- The steps of a channel are the devices, each once. -/
def steps32 (c : Dev nD) (i : Fin 4) : Fin 32 ≃ Fin 32 :=
  (if i.val < 2 then Equiv.addLeft (ringP c + 1) else Equiv.subLeft (ringP c - 1)).trans ring

/-- Step `t` is that of the device that adds at it. -/
theorem steps32_apply (c : Dev nD) (i : Fin 4) (t : Fin 32) : steps32 c i t = adder c i t := by
  unfold steps32 adder
  split <;> rfl

/-! ## The kernel's values at an index -/

variable (X : Dev nD → S4096x128.Idx → Elt Ideal .f32) (Wt : Dev nD → S128x2048.Idx → Elt Ideal .f32)

/-- Device `d`'s partial product of row block `b`, at a row and a column. -/
def part (d b : Fin 32) (r : Fin 128) (l : Fin 2048) : EReal :=
  ∑ k : Fin 128, X d (ix2 ⟨128 * b.val + r.val, by omega⟩ k) * Wt d (ix2 k l)

/-- A partial product at an index is a sum over the inner dimension's share of the device. -/
theorem pdot_apply (c : Dev nD) (j : Fin 32) (r : Fin 128) (l : Fin 2048) :
    pdot X Wt c j (ix3 0 r l) = part X Wt c (chunk c j) r l := by
  pointwise [pdot]
  unfold part
  refine Finset.sum_congr rfl fun k _ => ?_
  rw [show (rowR (chunk c j)).emb (ix2 r k) = ix2 ⟨128 * (chunk c j).val + r.val, by omega⟩ k from ?_]
  funext a
  apply Fin.ext
  revert a; intro (a : Fin 2)
  fin_cases a
  · show 128 * (chunk c j).val + 1 * r.val = 128 * (chunk c j).val + r.val; omega
  · show 0 + 1 * k.val = k.val; omega

/-- So is its column block `i`. -/
theorem ps_apply (c : Dev nD) (j : Fin 32) (i : Fin 4) (r : Fin 128) (l : Fin 512) :
    ps X Wt c j i (ix2 r l) = part X Wt c (chunk c j) r ⟨512 * i.val + l.val, by omega⟩ := by
  pointwise [ps]
  rw [← pdot_apply, show (inR i).emb (ix3 0 r l) = ix3 0 r ⟨512 * i.val + l.val, by omega⟩ from ?_]
  funext a
  apply Fin.ext
  revert a; intro (a : Fin 3)
  fin_cases a
  · rfl
  · show 0 + 1 * r.val = r.val; omega
  · show 512 * i.val + 1 * l.val = 512 * i.val + l.val; omega

/-- What is sent at step `s` is the sum of what was added up to then. -/
theorem acc_sum (s : ℕ) (c : Dev nD) (i : Fin 4) (k : S128x512.Idx) :
    acc X Wt s c i k = ∑ t ∈ Finset.range (s + 1), ps X Wt (hop i (s - t) c) (posOf t i) i k := by
  induction s generalizing c with
  | zero => simp [acc, hop]
  | succ s ih =>
    rw [Finset.sum_range_succ, acc]
    show acc X Wt s (us c i) i k + _ = _
    rw [ih, Nat.sub_self]
    congr 1
    refine Finset.sum_congr rfl fun t ht => ?_
    have ht' : t < s + 1 := Finset.mem_range.mp ht
    rw [show s + 1 - t = (s - t) + 1 by omega]
    rfl

/-- What the activation is applied to: the sum over all devices of their partial products of row block `c`. -/
theorem total (c : Dev nD) (i : Fin 4) (r : Fin 128) (l : Fin 512) :
    addf (acc X Wt 30 (us c i) i) (ps X Wt c 31 i) (ix2 r l)
      = ∑ d : Fin 32, part X Wt d c r ⟨512 * i.val + l.val, by omega⟩ := by
  show acc X Wt 30 (us c i) i (ix2 r l) + ps X Wt c 31 i (ix2 r l) = _
  rw [acc_sum, ← (steps32 c i).sum_comp, Fin.sum_univ_castSucc, Finset.sum_range]
  refine congrArg₂ (· + ·) (Finset.sum_congr rfl fun t _ => ?_) ?_
  · rw [ps_apply, steps32_apply, show hop i (30 - t.val) (us c i) = adder c i t.castSucc from ?_, chunk_adder]
    rw [← hop_adder, show 31 - t.castSucc.val = (30 - t.val) + 1 from ?_]; rfl
    show 31 - t.val = _; omega
  · rw [ps_apply, chunk_last, steps32_apply, adder_last]

/-! ## The reference's value at an index -/

section Reference

variable (x : Cert.ReferenceIdeal.S4096x4096.Idx → Elt Ideal .f32) (w : Cert.ReferenceIdeal.S4096x2048.Idx → Elt Ideal .f32)

/-- The reference's product. -/
abbrev prod : FVec Ideal Cert.ReferenceIdeal.S4096x2048 .f32 :=
  Host.dotGeneral (φ₁ := .f32) (φ₂ := .f32) Cert.ReferenceIdeal.dot_S4096x4096_S4096x2048_S4096x2048_1_0_0_1_n_n none x w

/-- The activation over a product `y`, as the reference computes it. -/
abbrev actOf (y : FVec Ideal Cert.ReferenceIdeal.S4096x2048 .f32) : FVec Ideal Cert.ReferenceIdeal.S4096x2048 .f32 :=
  open Cert.ReferenceIdeal Cert.ReferenceIdeal.Gen in
  mulf (mulf (broadcastInDim S4096x2048 ![] bcast_S_S4096x2048 (constant S_ .f32 0x3F000000#32)) y)
    (addf (broadcastInDim S4096x2048 ![] bcast_S_S4096x2048 (constant S_ .f32 0x3F800000#32))
      (Host.tanh (mulf (broadcastInDim S4096x2048 ![] bcast_S_S4096x2048 (constant S_ .f32 0x3F4C422A#32))
        (addf y (mulf (broadcastInDim S4096x2048 ![] bcast_S_S4096x2048 (constant S_ .f32 0x3D372713#32))
          (mulf (mulf y y) y))))))

/-- The whole product at an index is the sum of the devices' partial products. -/
theorem prod_apply (c : Fin 32) (r : Fin 128) (l : Fin 2048) :
    prod x w (ix2 ⟨128 * c.val + r.val, by omega⟩ l)
      = ∑ d : Fin 32, part (fun d => Layout.block ⟨2, ![4096, 128]⟩ ⟨2, ![4096, 4096]⟩ 1 32 d x)
          (fun d => Layout.block ⟨2, ![128, 2048]⟩ ⟨2, ![4096, 2048]⟩ 0 32 d w) d c r l := by
  pointwise [prod]
  unfold part
  rw [← Fintype.sum_prod_type', ← (finProdFinEquiv (m := 32) (n := 128)).sum_comp]
  refine Finset.sum_congr rfl fun q _ => ?_
  show x _ * w _ = x _ * w _
  congr 2
  · funext a
    apply Fin.ext
    revert a; intro (a : Fin 2)
    fin_cases a
    · rfl
    · show q.2.val + 128 * q.1.val = q.1.val * 128 + q.2.val; omega
  · funext a
    apply Fin.ext
    revert a; intro (a : Fin 2)
    fin_cases a
    · show q.2.val + 128 * q.1.val = q.1.val * 128 + q.2.val; omega
    · rfl

/-- Where the products agree, so do the kernel's activation and the reference's. -/
theorem act_apply (z : S128x512.Idx) (j : Cert.ReferenceIdeal.S4096x2048.Idx) (u : FVec Ideal S128x512 .f32)
    (y : FVec Ideal Cert.ReferenceIdeal.S4096x2048 .f32) (h : u z = y j) : gelu u z = actOf y j := by
  pointwise [gelu, actOf]
  rw [h, ← mul_assoc (Ideal.ofBits FTy.f32 1027024659#32) (y j * y j) (y j), ← mul_assoc (Ideal.ofBits FTy.f32 1027024659#32) (y j) (y j)]

/-- The reference's result, of its two arguments. -/
abbrev refOut : FVec Ideal Cert.ReferenceIdeal.S4096x2048 .f32 := actOf (prod x w)

/-- Device `c`'s result is block `c` of the reference's. -/
theorem outF_block (X : Dev nD → S4096x128.Idx → Elt Ideal .f32) (Wt : Dev nD → S128x2048.Idx → Elt Ideal .f32)
    (hX : ∀ c : Dev nD, X c = Layout.block ⟨2, ![4096, 128]⟩ ⟨2, ![4096, 4096]⟩ 1 32 c x)
    (hW : ∀ c : Dev nD, Wt c = Layout.block ⟨2, ![128, 2048]⟩ ⟨2, ![4096, 2048]⟩ 0 32 c w) (c : Dev nD) :
    outF X Wt c = Layout.block ⟨2, ![128, 2048]⟩ ⟨2, ![4096, 2048]⟩ 0 32 c (refOut x w) := by
  obtain rfl : X = fun d => Layout.block ⟨2, ![4096, 128]⟩ ⟨2, ![4096, 4096]⟩ 1 32 d x := funext hX
  obtain rfl : Wt = fun d => Layout.block ⟨2, ![128, 2048]⟩ ⟨2, ![4096, 2048]⟩ 0 32 d w := funext hW
  funext z
  obtain ⟨r, l, rfl⟩ : ∃ (r : Fin 128) (l : Fin 2048), z = ix2 r l := ⟨z 0, z 1, eq_ix2 z⟩
  have hc : c.val < 32 := c.isLt
  rw [Layout.block_apply, show Layout.Tiles.idx _ c (ix2 r l) = ix2 ⟨128 * c.val + r.val, by omega⟩ l from ?_]
  · refine act_apply _ _ _ _ ?_
    rw [show inBlock (ix2 r l) = ix2 r ⟨l.val % 512, by omega⟩ from ?_, total, prod_apply]
    · refine Finset.sum_congr rfl fun d _ => ?_
      congr 1
      apply Fin.ext
      show 512 * (l.val / 512) + l.val % 512 = l.val
      omega
    · funext a
      apply Fin.ext
      revert a; intro (a : Fin 2)
      fin_cases a <;> rfl
  · funext a
    apply Fin.ext
    revert a; intro (a : Fin 2)
    fin_cases a
    · show c.val * 128 + r.val = 128 * c.val + r.val; omega
    · rfl

end Reference

end Cert.KernelIdeal.Ring
-- ==== Proof.lean ====
/-
  The certificate's claims, each from what the modules under Proof/ prove: the kernel's run, over any float values
  (Launch.lean), read at the bit patterns (SameRun.lean) and over the extended reals; the reference's run; and the equality of
  their values (Values.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.SameRun
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends from every memory, its arguments unchanged and every counter zero. -/
theorem frame_kernel : Cert.quiescent_Kernel := fun m ρ _ => Cert.Kernel.Same.run m ρ

/-- So does the idealized kernel. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- And the reference. -/
theorem frame_referenceIdeal : Cert.quiescent_ReferenceIdeal := fun m ρ _ =>
  (θ_run Cert.ReferenceIdeal.defs _ _).mono (fun r h => ⟨fun c => ⟨(h c).2.1, (h c).2.2⟩, sem_eq_zero_of_no_sems rfl r.2⟩) (Cert.ReferenceIdeal.Value.run m ρ)

/-- Over the extended reals device `c`'s result is block `c` of the reference's. -/
theorem algebraic : Cert.algebraic_KernelIdeal_ReferenceIdeal := fun m g m' g' _ hargs =>
  ⟨Cert.KernelIdeal.Ring.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c).2.2.trans (Cert.KernelIdeal.Ring.outF_block _ _ _ _ (fun c => (hargs c).1) (fun c => (hargs c).2) c), (h.1 c).1, (h.1 c).2.1⟩)
      (Cert.KernelIdeal.Ring.run_main (F := Ideal) m g),
    (θ_run Cert.ReferenceIdeal.defs _ _).mono (fun _ h => ⟨(h 0).1, (h 0).2.1, (h 0).2.2⟩) (Cert.ReferenceIdeal.Value.run m' g')⟩

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
